-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_and_means_finite [hPre_scales_and_means_finite : Cert.Pre_scales_and_means_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scales_and_means_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_scales_and_means_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_and_means_finite [hPre_scales_and_means_finite : Cert.Pre_scales_and_means_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_and_means_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_scales_and_means_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_scales_and_means_finite [hKernelIdeal : Cert.KernelIdeal.Facts] [hPre_scales_and_means_finite : Cert.Pre_scales_and_means_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_and_means_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_scales_and_means_finite [hReferenceIdeal : Cert.ReferenceIdeal.Facts] [hPre_scales_and_means_finite : Cert.Pre_scales_and_means_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_and_means_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "score_log2e" .f32 0x3E0293EE#32 (((11863283 / 134217728) * (Real.log 2)⁻¹ : ℝ) : EReal)
  ∧ IdealRules.named_const.Statement Cert.KernelIdeal.κ "neg_log2e" .f32 0xBFB8AA3B#32 ((-((Real.log 2)⁻¹) : ℝ) : EReal)
  ∧ IdealRules.named_const.Statement Cert.KernelIdeal.κ "log2e" .f32 0x3FB8AA3B#32 (((Real.log 2)⁻¹ : ℝ) : EReal)

def algebraic_KernelIdeal_ReferenceIdeal_pre_scales_and_means_finite [hKernelIdeal : Cert.KernelIdeal.Facts] [hReferenceIdeal : Cert.ReferenceIdeal.Facts] [hPre_scales_and_means_finite : Cert.Pre_scales_and_means_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_and_means_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_scales_and_means_finite : Cert.Pre_scales_and_means_finite.Facts),
    quiescent_Kernel (hKernel := hKernel)
    ∧ quiescent_KernelIdeal (hKernelIdeal := hKernelIdeal)
    ∧ quiescent_KernelIdeal_pre_scales_and_means_finite (hKernelIdeal := hKernelIdeal) (hPre_scales_and_means_finite := hPre_scales_and_means_finite)
    ∧ quiescent_ReferenceIdeal (hReferenceIdeal := hReferenceIdeal)
    ∧ quiescent_ReferenceIdeal_pre_scales_and_means_finite (hReferenceIdeal := hReferenceIdeal) (hPre_scales_and_means_finite := hPre_scales_and_means_finite)
    ∧ preserves_Kernel_KernelIdeal
    ∧ algebraic_KernelIdeal_ReferenceIdeal_pre_scales_and_means_finite (hKernelIdeal := hKernelIdeal) (hReferenceIdeal := hReferenceIdeal) (hPre_scales_and_means_finite := hPre_scales_and_means_finite)
-- ==== Pre_scales_and_means_finite.lean ====
abbrev S2x1024x28x64 : Shape := ⟨4, ![2, 1024, 28, 64]⟩
abbrev S2x32x28 : Shape := ⟨3, ![2, 32, 28]⟩
abbrev S2x8x28x128 : Shape := ⟨4, ![2, 8, 28, 128]⟩
abbrev S2x1024x4x64 : Shape := ⟨4, ![2, 1024, 4, 64]⟩
abbrev S2x32x4 : Shape := ⟨3, ![2, 32, 4]⟩
abbrev S2x1024x4x128 : Shape := ⟨4, ![2, 1024, 4, 128]⟩
abbrev S2x4x128 : Shape := ⟨3, ![2, 4, 128]⟩
abbrev S2x1024x3584 : Shape := ⟨3, ![2, 1024, 3584]⟩
abbrev S_ : Shape := ⟨0, ![]⟩

class Facts : Prop where
  bcast_S_S2x32x28 : S_.BroadcastsInDim S2x32x28 (![] : Fin 0 → Fin S2x32x28.rank)
  bitsLt_bf16_f32 : FTy.bits .bf16 < FTy.bits .f32
  bcast_S_S2x8x28x128 : S_.BroadcastsInDim S2x8x28x128 (![] : Fin 0 → Fin S2x8x28x128.rank)

variable [Facts]

def fn {F : FTy → Type} [FloatOps F] (main_arg0 : IVec S2x1024x28x64 8) (main_arg1 : FVec F S2x32x28 .f32) (main_arg2 : FVec F S2x8x28x128 .bf16) (main_arg3 : IVec S2x1024x4x64 8) (main_arg4 : FVec F S2x32x4 .f32) (main_arg5 : FVec F S2x1024x4x128 .fp8e4m3) (main_arg6 : FVec F S2x4x128 .f32) (main_arg7 : FVec F S2x1024x3584 .bf16) : IVec S2x32x28 1 × IVec S2x8x28x128 1 :=
  let main_cst : FVec F S_ .f32 := constant S_ .f32 0x0DA24260#32
  let main_v0 : FVec F S2x32x28 .f32 := broadcastInDim S2x32x28 ![] bcast_S_S2x32x28 main_cst
  let main_v1 : IVec S2x32x28 1 := cmpf .oge main_arg1 main_v0
  let main_cst_0 : FVec F S_ .f32 := constant S_ .f32 0x7F800000#32
  let main_v2 : FVec F S2x32x28 .f32 := broadcastInDim S2x32x28 ![] bcast_S_S2x32x28 main_cst_0
  let main_v3 : IVec S2x32x28 1 := cmpf .olt main_arg1 main_v2
  let main_v4 : IVec S2x32x28 1 := andi main_v1 main_v3
  let main_v5 : FVec F S2x8x28x128 .f32 := (extf .f32 · bitsLt_bf16_f32) main_arg2
  let main_v6 : FVec F S2x8x28x128 .f32 := Host.absf main_v5
  let main_cst_1 : FVec F S_ .f32 := constant S_ .f32 0x7F800000#32
  let main_v7 : FVec F S2x8x28x128 .f32 := broadcastInDim S2x8x28x128 ![] bcast_S_S2x8x28x128 main_cst_1
  let main_v8 : IVec S2x8x28x128 1 := cmpf .olt main_v6 main_v7
  (main_v4, main_v8)
-- ==== Kernel.lean ====
abbrev S2x1024x28x64 : Shape := ⟨4, ![2, 1024, 28, 64]⟩
abbrev S2x32x28 : Shape := ⟨3, ![2, 32, 28]⟩
abbrev S2x8x28x128 : Shape := ⟨4, ![2, 8, 28, 128]⟩
abbrev S2x1024x4x64 : Shape := ⟨4, ![2, 1024, 4, 64]⟩
abbrev S2x32x4 : Shape := ⟨3, ![2, 32, 4]⟩
abbrev S2x1024x4x128 : Shape := ⟨4, ![2, 1024, 4, 128]⟩
abbrev S2x4x128 : Shape := ⟨3, ![2, 4, 128]⟩
abbrev S2x1024x3584 : Shape := ⟨3, ![2, 1024, 3584]⟩
abbrev S2x28x64x1024 : Shape := ⟨4, ![2, 28, 64, 1024]⟩
abbrev S2x4x64x1024 : Shape := ⟨4, ![2, 4, 64, 1024]⟩
abbrev S2x4x128x1024 : Shape := ⟨4, ![2, 4, 128, 1024]⟩
abbrev S2x28x8x128 : Shape := ⟨4, ![2, 28, 8, 128]⟩
abbrev S28x2x32 : Shape := ⟨3, ![28, 2, 32]⟩
abbrev S2x4x32 : Shape := ⟨3, ![2, 4, 32]⟩
abbrev S2x4x8x1024 : Shape := ⟨4, ![2, 4, 8, 1024]⟩
abbrev S1x7x64x1024 : Shape := ⟨4, ![1, 7, 64, 1024]⟩
abbrev S1x7x8x128 : Shape := ⟨4, ![1, 7, 8, 128]⟩
abbrev S1x1x64x1024 : Shape := ⟨4, ![1, 1, 64, 1024]⟩
abbrev S1x1x128x1024 : Shape := ⟨4, ![1, 1, 128, 1024]⟩
abbrev S1x4x128 : Shape := ⟨3, ![1, 4, 128]⟩
abbrev S1x1024x896 : Shape := ⟨3, ![1, 1024, 896]⟩
abbrev S1x1x8x1024 : Shape := ⟨4, ![1, 1, 8, 1024]⟩
abbrev S1024x128 : Shape := ⟨2, ![1024, 128]⟩
abbrev S4x1024x128 : Shape := ⟨3, ![4, 1024, 128]⟩
abbrev S1024x256 : Shape := ⟨2, ![1024, 256]⟩
abbrev S64x1024 : Shape := ⟨2, ![64, 1024]⟩
abbrev S64x1x1024 : Shape := ⟨3, ![64, 1, 1024]⟩
abbrev S64x2x1024 : Shape := ⟨3, ![64, 2, 1024]⟩
abbrev S128x1024 : Shape := ⟨2, ![128, 1024]⟩
abbrev S8x128 : Shape := ⟨2, ![8, 128]⟩
abbrev S1x7x2x128 : Shape := ⟨4, ![1, 7, 2, 128]⟩
abbrev S7x2x128 : Shape := ⟨3, ![7, 2, 128]⟩
abbrev S7x2x1x128 : Shape := ⟨4, ![7, 2, 1, 128]⟩
abbrev S7x2x8x128 : Shape := ⟨4, ![7, 2, 8, 128]⟩
abbrev S112x128 : Shape := ⟨2, ![112, 128]⟩
abbrev S16x128 : Shape := ⟨2, ![16, 128]⟩
abbrev S128x128 : Shape := ⟨2, ![128, 128]⟩
abbrev S256x128 : Shape := ⟨2, ![256, 128]⟩
abbrev S1x128 : Shape := ⟨2, ![1, 128]⟩
abbrev S1x256x128 : Shape := ⟨3, ![1, 256, 128]⟩
abbrev S512x128 : Shape := ⟨2, ![512, 128]⟩
abbrev S1x512x128 : Shape := ⟨3, ![1, 512, 128]⟩
abbrev S768x128 : Shape := ⟨2, ![768, 128]⟩
abbrev S1x768x128 : Shape := ⟨3, ![1, 768, 128]⟩
abbrev S1x1024x128 : Shape := ⟨3, ![1, 1024, 128]⟩
abbrev S1x1x1 : Shape := ⟨3, ![1, 1, 1]⟩
abbrev S8x256 : Shape := ⟨2, ![8, 256]⟩
abbrev S1x256 : Shape := ⟨2, ![1, 256]⟩
abbrev S16x256 : Shape := ⟨2, ![16, 256]⟩
abbrev S1x1x64x256 : Shape := ⟨4, ![1, 1, 64, 256]⟩
abbrev S64x256 : Shape := ⟨2, ![64, 256]⟩
abbrev S64x1x256 : Shape := ⟨3, ![64, 1, 256]⟩
abbrev S64x2x256 : Shape := ⟨3, ![64, 2, 256]⟩
abbrev S128x256 : Shape := ⟨2, ![128, 256]⟩
abbrev S112x256 : Shape := ⟨2, ![112, 256]⟩
abbrev S256x256 : Shape := ⟨2, ![256, 256]⟩
abbrev S32x256 : Shape := ⟨2, ![32, 256]⟩
abbrev S32x8x256 : Shape := ⟨3, ![32, 8, 256]⟩
abbrev S256 : Shape := ⟨1, ![256]⟩
abbrev S1x1x128x256 : Shape := ⟨4, ![1, 1, 128, 256]⟩
abbrev S1x1x128 : Shape := ⟨3, ![1, 1, 128]⟩
abbrev S256x1 : Shape := ⟨2, ![256, 1]⟩
abbrev S96x256 : Shape := ⟨2, ![96, 256]⟩
abbrev S80x256 : Shape := ⟨2, ![80, 256]⟩
abbrev S48x256 : Shape := ⟨2, ![48, 256]⟩
abbrev S1x1x8x256 : Shape := ⟨4, ![1, 1, 8, 256]⟩

abbrev nBuf : Space → Nat
  | .hbm => 17
  | .vmem => 21
  | .smem => 2
  | _ => 0

abbrev bufTy : (tb : Table) → Fin (tcTables nBuf tb) → BufTy
  | .hbm, ⟨0, _⟩ => ⟨S2x1024x28x64, .i8⟩
  | .hbm, ⟨1, _⟩ => ⟨S2x32x28, .f32⟩
  | .hbm, ⟨2, _⟩ => ⟨S2x8x28x128, .bf16⟩
  | .hbm, ⟨3, _⟩ => ⟨S2x1024x4x64, .i8⟩
  | .hbm, ⟨4, _⟩ => ⟨S2x32x4, .f32⟩
  | .hbm, ⟨5, _⟩ => ⟨S2x1024x4x128, .fp8e4m3⟩
  | .hbm, ⟨6, _⟩ => ⟨S2x4x128, .f32⟩
  | .hbm, ⟨7, _⟩ => ⟨S2x1024x3584, .bf16⟩
  | .hbm, ⟨8, _⟩ => ⟨S2x28x64x1024, .i8⟩
  | .hbm, ⟨9, _⟩ => ⟨S2x4x64x1024, .i8⟩
  | .hbm, ⟨10, _⟩ => ⟨S2x4x128x1024, .fp8e4m3⟩
  | .hbm, ⟨11, _⟩ => ⟨S2x28x8x128, .bf16⟩
  | .hbm, ⟨12, _⟩ => ⟨S28x2x32, .f32⟩
  | .hbm, ⟨13, _⟩ => ⟨S2x4x32, .f32⟩
  | .hbm, ⟨14, _⟩ => ⟨S2x1024x3584, .bf16⟩
  | .hbm, ⟨15, _⟩ => ⟨S2x1024x3584, .fp8e4m3⟩
  | .hbm, ⟨16, _⟩ => ⟨S2x4x8x1024, .f32⟩
  | .local _ .vmem, ⟨0, _⟩ => ⟨S1x7x64x1024, .i8⟩
  | .local _ .vmem, ⟨1, _⟩ => ⟨S1x7x64x1024, .i8⟩
  | .local _ .vmem, ⟨2, _⟩ => ⟨S1x7x8x128, .bf16⟩
  | .local _ .vmem, ⟨3, _⟩ => ⟨S1x7x8x128, .bf16⟩
  | .local _ .vmem, ⟨4, _⟩ => ⟨S1x1x64x1024, .i8⟩
  | .local _ .vmem, ⟨5, _⟩ => ⟨S1x1x64x1024, .i8⟩
  | .local _ .vmem, ⟨6, _⟩ => ⟨S1x1x128x1024, .fp8e4m3⟩
  | .local _ .vmem, ⟨7, _⟩ => ⟨S1x1x128x1024, .fp8e4m3⟩
  | .local _ .vmem, ⟨8, _⟩ => ⟨S1x4x128, .f32⟩
  | .local _ .vmem, ⟨9, _⟩ => ⟨S1x4x128, .f32⟩
  | .local _ .vmem, ⟨10, _⟩ => ⟨S1x1024x896, .bf16⟩
  | .local _ .vmem, ⟨11, _⟩ => ⟨S1x1024x896, .bf16⟩
  | .local _ .vmem, ⟨12, _⟩ => ⟨S1x1024x896, .bf16⟩
  | .local _ .vmem, ⟨13, _⟩ => ⟨S1x1024x896, .bf16⟩
  | .local _ .vmem, ⟨14, _⟩ => ⟨S1x1024x896, .fp8e4m3⟩
  | .local _ .vmem, ⟨15, _⟩ => ⟨S1x1024x896, .fp8e4m3⟩
  | .local _ .vmem, ⟨16, _⟩ => ⟨S1x1x8x1024, .f32⟩
  | .local _ .vmem, ⟨17, _⟩ => ⟨S1x1x8x1024, .f32⟩
  | .local _ .vmem, ⟨18, _⟩ => ⟨S1024x128, .bf16⟩
  | .local _ .vmem, ⟨19, _⟩ => ⟨S4x1024x128, .bf16⟩
  | .local _ .vmem, ⟨20, _⟩ => ⟨S1024x256, .f32⟩
  | .local _ .smem, ⟨0, _⟩ => ⟨S28x2x32, .f32⟩
  | .local _ .smem, ⟨1, _⟩ => ⟨S2x4x32, .f32⟩
  | _, _ => ⟨S2x1024x28x64, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![2, 4], ![false, false]⟩

def k0_off1 (i : grid0.Coords) (c0_i32_89 : BitVec 32) : Fin 3 → Nat :=
  let arg1 : BitVec 32 := BitVec.ofNat 32 (i 1).val
  let c7_i32_88 : BitVec 32 := 7#32
  let v279 : BitVec 32 := Scalar.muli arg1 c7_i32_88
  let v280 : BitVec 32 := Scalar.addi v279 c0_i32_89
  let v281 : Index := Scalar.indexCast v280
  let arg0 : BitVec 32 := BitVec.ofNat 32 (i 0).val
  let v282 : Index := Scalar.indexCast arg0
  let c0_90 : Index := 0#32
  ![v281.toNat, v282.toNat, 0]
def k0_off2 (i : grid0.Coords) (c0_i32_93 : BitVec 32) : Fin 3 → Nat :=
  let arg1 : BitVec 32 := BitVec.ofNat 32 (i 1).val
  let c7_i32_92 : BitVec 32 := 7#32
  let v288 : BitVec 32 := Scalar.muli arg1 c7_i32_92
  let v289 : BitVec 32 := Scalar.addi v288 c0_i32_93
  let v290 : Index := Scalar.indexCast v289
  let arg0 : BitVec 32 := BitVec.ofNat 32 (i 0).val
  let v291 : Index := Scalar.indexCast arg0
  let c1_94 : Index := 1#32
  ![v290.toNat, v291.toNat, 1]
def k0_off3 (i : grid0.Coords) (c0_i32_97 : BitVec 32) : Fin 3 → Nat :=
  let arg1 : BitVec 32 := BitVec.ofNat 32 (i 1).val
  let c7_i32_96 : BitVec 32 := 7#32
  let v297 : BitVec 32 := Scalar.muli arg1 c7_i32_96
  let v298 : BitVec 32 := Scalar.addi v297 c0_i32_97
  let v299 : Index := Scalar.indexCast v298
  let arg0 : BitVec 32 := BitVec.ofNat 32 (i 0).val
  let v300 : Index := Scalar.indexCast arg0
  let c2_98 : Index := 2#32
  ![v299.toNat, v300.toNat, 2]
def k0_off4 (i : grid0.Coords) (c0_i32_101 : BitVec 32) : Fin 3 → Nat :=
  let arg1 : BitVec 32 := BitVec.ofNat 32 (i 1).val
  let c7_i32_100 : BitVec 32 := 7#32
  let v306 : BitVec 32 := Scalar.muli arg1 c7_i32_100
  let v307 : BitVec 32 := Scalar.addi v306 c0_i32_101
  let v308 : Index := Scalar.indexCast v307
  let arg0 : BitVec 32 := BitVec.ofNat 32 (i 0).val
  let v309 : Index := Scalar.indexCast arg0
  let c3_102 : Index := 3#32
  ![v308.toNat, v309.toNat, 3]
def k0_off5 (i : grid0.Coords) (c0_i32_118 : BitVec 32) : Fin 3 → Nat :=
  let arg1 : BitVec 32 := BitVec.ofNat 32 (i 1).val
  let c7_i32_117 : BitVec 32 := 7#32
  let v355 : BitVec 32 := Scalar.muli arg1 c7_i32_117
  let v356 : BitVec 32 := Scalar.addi v355 c0_i32_118
  let v357 : Index := Scalar.indexCast v356
  let arg0 : BitVec 32 := BitVec.ofNat 32 (i 0).val
  let v358 : Index := Scalar.indexCast arg0
  let c4_119 : Index := 4#32
  ![v357.toNat, v358.toNat, 4]
def k0_off6 (i : grid0.Coords) (c0_i32_122 : BitVec 32) : Fin 3 → Nat :=
  let arg1 : BitVec 32 := BitVec.ofNat 32 (i 1).val
  let c7_i32_121 : BitVec 32 := 7#32
  let v364 : BitVec 32 := Scalar.muli arg1 c7_i32_121
  let v365 : BitVec 32 := Scalar.addi v364 c0_i32_122
  let v366 : Index := Scalar.indexCast v365
  let arg0 : BitVec 32 := BitVec.ofNat 32 (i 0).val
  let v367 : Index := Scalar.indexCast arg0
  let c5 : Index := 5#32
  ![v366.toNat, v367.toNat, 5]
def k0_off7 (i : grid0.Coords) (c0_i32_125 : BitVec 32) : Fin 3 → Nat :=
  let arg1 : BitVec 32 := BitVec.ofNat 32 (i 1).val
  let c7_i32_124 : BitVec 32 := 7#32
  let v373 : BitVec 32 := Scalar.muli arg1 c7_i32_124
  let v374 : BitVec 32 := Scalar.addi v373 c0_i32_125
  let v375 : Index := Scalar.indexCast v374
  let arg0 : BitVec 32 := BitVec.ofNat 32 (i 0).val
  let v376 : Index := Scalar.indexCast arg0
  let c6_126 : Index := 6#32
  ![v375.toNat, v376.toNat, 6]
def k0_off8 (i : grid0.Coords) (c0_i32_129 : BitVec 32) : Fin 3 → Nat :=
  let arg1 : BitVec 32 := BitVec.ofNat 32 (i 1).val
  let c7_i32_128 : BitVec 32 := 7#32
  let v382 : BitVec 32 := Scalar.muli arg1 c7_i32_128
  let v383 : BitVec 32 := Scalar.addi v382 c0_i32_129
  let v384 : Index := Scalar.indexCast v383
  let arg0 : BitVec 32 := BitVec.ofNat 32 (i 0).val
  let v385 : Index := Scalar.indexCast arg0
  let c7 : Index := 7#32
  ![v384.toNat, v385.toNat, 7]
def k0_off9 (i : grid0.Coords) : Fin 3 → Nat :=
  let arg0 : BitVec 32 := BitVec.ofNat 32 (i 0).val
  let v458 : Index := Scalar.indexCast arg0
  let arg1 : BitVec 32 := BitVec.ofNat 32 (i 1).val
  let v459 : Index := Scalar.indexCast arg1
  let c0_159 : Index := 0#32
  ![v458.toNat, v459.toNat, 0]
def k0_off10 (i : grid0.Coords) : Fin 3 → Nat :=
  let arg0 : BitVec 32 := BitVec.ofNat 32 (i 0).val
  let v466 : Index := Scalar.indexCast arg0
  let arg1 : BitVec 32 := BitVec.ofNat 32 (i 1).val
  let v467 : Index := Scalar.indexCast arg1
  let c1_160 : Index := 1#32
  ![v466.toNat, v467.toNat, 1]
def k0_off11 (i : grid0.Coords) : Fin 3 → Nat :=
  let arg0 : BitVec 32 := BitVec.ofNat 32 (i 0).val
  let v474 : Index := Scalar.indexCast arg0
  let arg1 : BitVec 32 := BitVec.ofNat 32 (i 1).val
  let v475 : Index := Scalar.indexCast arg1
  let c2_161 : Index := 2#32
  ![v474.toNat, v475.toNat, 2]
def k0_off12 (i : grid0.Coords) : Fin 3 → Nat :=
  let arg0 : BitVec 32 := BitVec.ofNat 32 (i 0).val
  let v482 : Index := Scalar.indexCast arg0
  let arg1 : BitVec 32 := BitVec.ofNat 32 (i 1).val
  let v483 : Index := Scalar.indexCast arg1
  let c3_162 : Index := 3#32
  ![v482.toNat, v483.toNat, 3]
def k0_off13 (i : grid0.Coords) : Fin 3 → Nat :=
  let arg0 : BitVec 32 := BitVec.ofNat 32 (i 0).val
  let v490 : Index := Scalar.indexCast arg0
  let arg1 : BitVec 32 := BitVec.ofNat 32 (i 1).val
  let v491 : Index := Scalar.indexCast arg1
  let c4_163 : Index := 4#32
  ![v490.toNat, v491.toNat, 4]
def k0_off14 (i : grid0.Coords) : Fin 3 → Nat :=
  let arg0 : BitVec 32 := BitVec.ofNat 32 (i 0).val
  let v498 : Index := Scalar.indexCast arg0
  let arg1 : BitVec 32 := BitVec.ofNat 32 (i 1).val
  let v499 : Index := Scalar.indexCast arg1
  let c5_164 : Index := 5#32
  ![v498.toNat, v499.toNat, 5]
def k0_off15 (i : grid0.Coords) : Fin 3 → Nat :=
  let arg0 : BitVec 32 := BitVec.ofNat 32 (i 0).val
  let v506 : Index := Scalar.indexCast arg0
  let arg1 : BitVec 32 := BitVec.ofNat 32 (i 1).val
  let v507 : Index := Scalar.indexCast arg1
  let c6_165 : Index := 6#32
  ![v506.toNat, v507.toNat, 6]
def k0_off16 (i : grid0.Coords) : Fin 3 → Nat :=
  let arg0 : BitVec 32 := BitVec.ofNat 32 (i 0).val
  let v514 : Index := Scalar.indexCast arg0
  let arg1 : BitVec 32 := BitVec.ofNat 32 (i 1).val
  let v515 : Index := Scalar.indexCast arg1
  let c7_166 : Index := 7#32
  ![v514.toNat, v515.toNat, 7]
def k0_off17 (i : grid0.Coords) : Fin 3 → Nat :=
  let c0_192 : Index := 0#32
  let arg1 : BitVec 32 := BitVec.ofNat 32 (i 1).val
  let v571 : Index := Scalar.indexCast arg1
  let c0_193 : Index := 0#32
  ![0, v571.toNat, 0]
def k0_off18 (i : grid0.Coords) (c0_i32_1002 : BitVec 32) : Fin 3 → Nat :=
  let arg1 : BitVec 32 := BitVec.ofNat 32 (i 1).val
  let c7_i32_1001 : BitVec 32 := 7#32
  let v2734 : BitVec 32 := Scalar.muli arg1 c7_i32_1001
  let v2735 : BitVec 32 := Scalar.addi v2734 c0_i32_1002
  let v2736 : Index := Scalar.indexCast v2735
  let arg0 : BitVec 32 := BitVec.ofNat 32 (i 0).val
  let v2737 : Index := Scalar.indexCast arg0
  let c8 : Index := 8#32
  ![v2736.toNat, v2737.toNat, 8]
def k0_off19 (i : grid0.Coords) (c0_i32_1005 : BitVec 32) : Fin 3 → Nat :=
  let arg1 : BitVec 32 := BitVec.ofNat 32 (i 1).val
  let c7_i32_1004 : BitVec 32 := 7#32
  let v2743 : BitVec 32 := Scalar.muli arg1 c7_i32_1004
  let v2744 : BitVec 32 := Scalar.addi v2743 c0_i32_1005
  let v2745 : Index := Scalar.indexCast v2744
  let arg0 : BitVec 32 := BitVec.ofNat 32 (i 0).val
  let v2746 : Index := Scalar.indexCast arg0
  let c9 : Index := 9#32
  ![v2745.toNat, v2746.toNat, 9]
def k0_off20 (i : grid0.Coords) (c0_i32_1008 : BitVec 32) : Fin 3 → Nat :=
  let arg1 : BitVec 32 := BitVec.ofNat 32 (i 1).val
  let c7_i32_1007 : BitVec 32 := 7#32
  let v2752 : BitVec 32 := Scalar.muli arg1 c7_i32_1007
  let v2753 : BitVec 32 := Scalar.addi v2752 c0_i32_1008
  let v2754 : Index := Scalar.indexCast v2753
  let arg0 : BitVec 32 := BitVec.ofNat 32 (i 0).val
  let v2755 : Index := Scalar.indexCast arg0
  let c10 : Index := 10#32
  ![v2754.toNat, v2755.toNat, 10]
def k0_off21 (i : grid0.Coords) (c0_i32_1011 : BitVec 32) : Fin 3 → Nat :=
  let arg1 : BitVec 32 := BitVec.ofNat 32 (i 1).val
  let c7_i32_1010 : BitVec 32 := 7#32
  let v2761 : BitVec 32 := Scalar.muli arg1 c7_i32_1010
  let v2762 : BitVec 32 := Scalar.addi v2761 c0_i32_1011
  let v2763 : Index := Scalar.indexCast v2762
  let arg0 : BitVec 32 := BitVec.ofNat 32 (i 0).val
  let v2764 : Index := Scalar.indexCast arg0
  let c11 : Index := 11#32
  ![v2763.toNat, v2764.toNat, 11]
def k0_off22 (i : grid0.Coords) (c0_i32_1027 : BitVec 32) : Fin 3 → Nat :=
  let arg1 : BitVec 32 := BitVec.ofNat 32 (i 1).val
  let c7_i32_1026 : BitVec 32 := 7#32
  let v2810 : BitVec 32 := Scalar.muli arg1 c7_i32_1026
  let v2811 : BitVec 32 := Scalar.addi v2810 c0_i32_1027
  let v2812 : Index := Scalar.indexCast v2811
  let arg0 : BitVec 32 := BitVec.ofNat 32 (i 0).val
  let v2813 : Index := Scalar.indexCast arg0
  let c12 : Index := 12#32
  ![v2812.toNat, v2813.toNat, 12]
def k0_off23 (i : grid0.Coords) (c0_i32_1030 : BitVec 32) : Fin 3 → Nat :=
  let arg1 : BitVec 32 := BitVec.ofNat 32 (i 1).val
  let c7_i32_1029 : BitVec 32 := 7#32
  let v2819 : BitVec 32 := Scalar.muli arg1 c7_i32_1029
  let v2820 : BitVec 32 := Scalar.addi v2819 c0_i32_1030
  let v2821 : Index := Scalar.indexCast v2820
  let arg0 : BitVec 32 := BitVec.ofNat 32 (i 0).val
  let v2822 : Index := Scalar.indexCast arg0
  let c13 : Index := 13#32
  ![v2821.toNat, v2822.toNat, 13]
def k0_off24 (i : grid0.Coords) (c0_i32_1033 : BitVec 32) : Fin 3 → Nat :=
  let arg1 : BitVec 32 := BitVec.ofNat 32 (i 1).val
  let c7_i32_1032 : BitVec 32 := 7#32
  let v2828 : BitVec 32 := Scalar.muli arg1 c7_i32_1032
  let v2829 : BitVec 32 := Scalar.addi v2828 c0_i32_1033
  let v2830 : Index := Scalar.indexCast v2829
  let arg0 : BitVec 32 := BitVec.ofNat 32 (i 0).val
  let v2831 : Index := Scalar.indexCast arg0
  let c14 : Index := 14#32
  ![v2830.toNat, v2831.toNat, 14]
def k0_off25 (i : grid0.Coords) (c0_i32_1036 : BitVec 32) : Fin 3 → Nat :=
  let arg1 : BitVec 32 := BitVec.ofNat 32 (i 1).val
  let c7_i32_1035 : BitVec 32 := 7#32
  let v2837 : BitVec 32 := Scalar.muli arg1 c7_i32_1035
  let v2838 : BitVec 32 := Scalar.addi v2837 c0_i32_1036
  let v2839 : Index := Scalar.indexCast v2838
  let arg0 : BitVec 32 := BitVec.ofNat 32 (i 0).val
  let v2840 : Index := Scalar.indexCast arg0
  let c15 : Index := 15#32
  ![v2839.toNat, v2840.toNat, 15]
def k0_off26 (i : grid0.Coords) : Fin 3 → Nat :=
  let arg0 : BitVec 32 := BitVec.ofNat 32 (i 0).val
  let v2989 : Index := Scalar.indexCast arg0
  let arg1 : BitVec 32 := BitVec.ofNat 32 (i 1).val
  let v2990 : Index := Scalar.indexCast arg1
  let c8_1083 : Index := 8#32
  ![v2989.toNat, v2990.toNat, 8]
def k0_off27 (i : grid0.Coords) : Fin 3 → Nat :=
  let arg0 : BitVec 32 := BitVec.ofNat 32 (i 0).val
  let v2997 : Index := Scalar.indexCast arg0
  let arg1 : BitVec 32 := BitVec.ofNat 32 (i 1).val
  let v2998 : Index := Scalar.indexCast arg1
  let c9_1084 : Index := 9#32
  ![v2997.toNat, v2998.toNat, 9]
def k0_off28 (i : grid0.Coords) : Fin 3 → Nat :=
  let arg0 : BitVec 32 := BitVec.ofNat 32 (i 0).val
  let v3005 : Index := Scalar.indexCast arg0
  let arg1 : BitVec 32 := BitVec.ofNat 32 (i 1).val
  let v3006 : Index := Scalar.indexCast arg1
  let c10_1085 : Index := 10#32
  ![v3005.toNat, v3006.toNat, 10]
def k0_off29 (i : grid0.Coords) : Fin 3 → Nat :=
  let arg0 : BitVec 32 := BitVec.ofNat 32 (i 0).val
  let v3013 : Index := Scalar.indexCast arg0
  let arg1 : BitVec 32 := BitVec.ofNat 32 (i 1).val
  let v3014 : Index := Scalar.indexCast arg1
  let c11_1086 : Index := 11#32
  ![v3013.toNat, v3014.toNat, 11]
def k0_off30 (i : grid0.Coords) : Fin 3 → Nat :=
  let arg0 : BitVec 32 := BitVec.ofNat 32 (i 0).val
  let v3021 : Index := Scalar.indexCast arg0
  let arg1 : BitVec 32 := BitVec.ofNat 32 (i 1).val
  let v3022 : Index := Scalar.indexCast arg1
  let c12_1087 : Index := 12#32
  ![v3021.toNat, v3022.toNat, 12]
def k0_off31 (i : grid0.Coords) : Fin 3 → Nat :=
  let arg0 : BitVec 32 := BitVec.ofNat 32 (i 0).val
  let v3029 : Index := Scalar.indexCast arg0
  let arg1 : BitVec 32 := BitVec.ofNat 32 (i 1).val
  let v3030 : Index := Scalar.indexCast arg1
  let c13_1088 : Index := 13#32
  ![v3029.toNat, v3030.toNat, 13]
def k0_off32 (i : grid0.Coords) : Fin 3 → Nat :=
  let arg0 : BitVec 32 := BitVec.ofNat 32 (i 0).val
  let v3037 : Index := Scalar.indexCast arg0
  let arg1 : BitVec 32 := BitVec.ofNat 32 (i 1).val
  let v3038 : Index := Scalar.indexCast arg1
  let c14_1089 : Index := 14#32
  ![v3037.toNat, v3038.toNat, 14]
def k0_off33 (i : grid0.Coords) : Fin 3 → Nat :=
  let arg0 : BitVec 32 := BitVec.ofNat 32 (i 0).val
  let v3045 : Index := Scalar.indexCast arg0
  let arg1 : BitVec 32 := BitVec.ofNat 32 (i 1).val
  let v3046 : Index := Scalar.indexCast arg1
  let c15_1090 : Index := 15#32
  ![v3045.toNat, v3046.toNat, 15]
def k0_off34 (i : grid0.Coords) (c0_i32_2132 : BitVec 32) : Fin 3 → Nat :=
  let arg1 : BitVec 32 := BitVec.ofNat 32 (i 1).val
  let c7_i32_2131 : BitVec 32 := 7#32
  let v5875 : BitVec 32 := Scalar.muli arg1 c7_i32_2131
  let v5876 : BitVec 32 := Scalar.addi v5875 c0_i32_2132
  let v5877 : Index := Scalar.indexCast v5876
  let arg0 : BitVec 32 := BitVec.ofNat 32 (i 0).val
  let v5878 : Index := Scalar.indexCast arg0
  let c16 : Index := 16#32
  ![v5877.toNat, v5878.toNat, 16]
def k0_off35 (i : grid0.Coords) (c0_i32_2135 : BitVec 32) : Fin 3 → Nat :=
  let arg1 : BitVec 32 := BitVec.ofNat 32 (i 1).val
  let c7_i32_2134 : BitVec 32 := 7#32
  let v5884 : BitVec 32 := Scalar.muli arg1 c7_i32_2134
  let v5885 : BitVec 32 := Scalar.addi v5884 c0_i32_2135
  let v5886 : Index := Scalar.indexCast v5885
  let arg0 : BitVec 32 := BitVec.ofNat 32 (i 0).val
  let v5887 : Index := Scalar.indexCast arg0
  let c17 : Index := 17#32
  ![v5886.toNat, v5887.toNat, 17]
def k0_off36 (i : grid0.Coords) (c0_i32_2138 : BitVec 32) : Fin 3 → Nat :=
  let arg1 : BitVec 32 := BitVec.ofNat 32 (i 1).val
  let c7_i32_2137 : BitVec 32 := 7#32
  let v5893 : BitVec 32 := Scalar.muli arg1 c7_i32_2137
  let v5894 : BitVec 32 := Scalar.addi v5893 c0_i32_2138
  let v5895 : Index := Scalar.indexCast v5894
  let arg0 : BitVec 32 := BitVec.ofNat 32 (i 0).val
  let v5896 : Index := Scalar.indexCast arg0
  let c18 : Index := 18#32
  ![v5895.toNat, v5896.toNat, 18]
def k0_off37 (i : grid0.Coords) (c0_i32_2141 : BitVec 32) : Fin 3 → Nat :=
  let arg1 : BitVec 32 := BitVec.ofNat 32 (i 1).val
  let c7_i32_2140 : BitVec 32 := 7#32
  let v5902 : BitVec 32 := Scalar.muli arg1 c7_i32_2140
  let v5903 : BitVec 32 := Scalar.addi v5902 c0_i32_2141
  let v5904 : Index := Scalar.indexCast v5903
  let arg0 : BitVec 32 := BitVec.ofNat 32 (i 0).val
  let v5905 : Index := Scalar.indexCast arg0
  let c19 : Index := 19#32
  ![v5904.toNat, v5905.toNat, 19]
def k0_off38 (i : grid0.Coords) (c0_i32_2157 : BitVec 32) : Fin 3 → Nat :=
  let arg1 : BitVec 32 := BitVec.ofNat 32 (i 1).val
  let c7_i32_2156 : BitVec 32 := 7#32
  let v5951 : BitVec 32 := Scalar.muli arg1 c7_i32_2156
  let v5952 : BitVec 32 := Scalar.addi v5951 c0_i32_2157
  let v5953 : Index := Scalar.indexCast v5952
  let arg0 : BitVec 32 := BitVec.ofNat 32 (i 0).val
  let v5954 : Index := Scalar.indexCast arg0
  let c20 : Index := 20#32
  ![v5953.toNat, v5954.toNat, 20]
def k0_off39 (i : grid0.Coords) (c0_i32_2160 : BitVec 32) : Fin 3 → Nat :=
  let arg1 : BitVec 32 := BitVec.ofNat 32 (i 1).val
  let c7_i32_2159 : BitVec 32 := 7#32
  let v5960 : BitVec 32 := Scalar.muli arg1 c7_i32_2159
  let v5961 : BitVec 32 := Scalar.addi v5960 c0_i32_2160
  let v5962 : Index := Scalar.indexCast v5961
  let arg0 : BitVec 32 := BitVec.ofNat 32 (i 0).val
  let v5963 : Index := Scalar.indexCast arg0
  let c21 : Index := 21#32
  ![v5962.toNat, v5963.toNat, 21]
def k0_off40 (i : grid0.Coords) (c0_i32_2163 : BitVec 32) : Fin 3 → Nat :=
  let arg1 : BitVec 32 := BitVec.ofNat 32 (i 1).val
  let c7_i32_2162 : BitVec 32 := 7#32
  let v5969 : BitVec 32 := Scalar.muli arg1 c7_i32_2162
  let v5970 : BitVec 32 := Scalar.addi v5969 c0_i32_2163
  let v5971 : Index := Scalar.indexCast v5970
  let arg0 : BitVec 32 := BitVec.ofNat 32 (i 0).val
  let v5972 : Index := Scalar.indexCast arg0
  let c22 : Index := 22#32
  ![v5971.toNat, v5972.toNat, 22]
def k0_off41 (i : grid0.Coords) (c0_i32_2166 : BitVec 32) : Fin 3 → Nat :=
  let arg1 : BitVec 32 := BitVec.ofNat 32 (i 1).val
  let c7_i32_2165 : BitVec 32 := 7#32
  let v5978 : BitVec 32 := Scalar.muli arg1 c7_i32_2165
  let v5979 : BitVec 32 := Scalar.addi v5978 c0_i32_2166
  let v5980 : Index := Scalar.indexCast v5979
  let arg0 : BitVec 32 := BitVec.ofNat 32 (i 0).val
  let v5981 : Index := Scalar.indexCast arg0
  let c23 : Index := 23#32
  ![v5980.toNat, v5981.toNat, 23]
def k0_off42 (i : grid0.Coords) : Fin 3 → Nat :=
  let arg0 : BitVec 32 := BitVec.ofNat 32 (i 0).val
  let v6206 : Index := Scalar.indexCast arg0
  let arg1 : BitVec 32 := BitVec.ofNat 32 (i 1).val
  let v6207 : Index := Scalar.indexCast arg1
  let c16_2230 : Index := 16#32
  ![v6206.toNat, v6207.toNat, 16]
def k0_off43 (i : grid0.Coords) : Fin 3 → Nat :=
  let arg0 : BitVec 32 := BitVec.ofNat 32 (i 0).val
  let v6214 : Index := Scalar.indexCast arg0
  let arg1 : BitVec 32 := BitVec.ofNat 32 (i 1).val
  let v6215 : Index := Scalar.indexCast arg1
  let c17_2231 : Index := 17#32
  ![v6214.toNat, v6215.toNat, 17]
def k0_off44 (i : grid0.Coords) : Fin 3 → Nat :=
  let arg0 : BitVec 32 := BitVec.ofNat 32 (i 0).val
  let v6222 : Index := Scalar.indexCast arg0
  let arg1 : BitVec 32 := BitVec.ofNat 32 (i 1).val
  let v6223 : Index := Scalar.indexCast arg1
  let c18_2232 : Index := 18#32
  ![v6222.toNat, v6223.toNat, 18]
def k0_off45 (i : grid0.Coords) : Fin 3 → Nat :=
  let arg0 : BitVec 32 := BitVec.ofNat 32 (i 0).val
  let v6230 : Index := Scalar.indexCast arg0
  let arg1 : BitVec 32 := BitVec.ofNat 32 (i 1).val
  let v6231 : Index := Scalar.indexCast arg1
  let c19_2233 : Index := 19#32
  ![v6230.toNat, v6231.toNat, 19]
def k0_off46 (i : grid0.Coords) : Fin 3 → Nat :=
  let arg0 : BitVec 32 := BitVec.ofNat 32 (i 0).val
  let v6238 : Index := Scalar.indexCast arg0
  let arg1 : BitVec 32 := BitVec.ofNat 32 (i 1).val
  let v6239 : Index := Scalar.indexCast arg1
  let c20_2234 : Index := 20#32
  ![v6238.toNat, v6239.toNat, 20]
def k0_off47 (i : grid0.Coords) : Fin 3 → Nat :=
  let arg0 : BitVec 32 := BitVec.ofNat 32 (i 0).val
  let v6246 : Index := Scalar.indexCast arg0
  let arg1 : BitVec 32 := BitVec.ofNat 32 (i 1).val
  let v6247 : Index := Scalar.indexCast arg1
  let c21_2235 : Index := 21#32
  ![v6246.toNat, v6247.toNat, 21]
def k0_off48 (i : grid0.Coords) : Fin 3 → Nat :=
  let arg0 : BitVec 32 := BitVec.ofNat 32 (i 0).val
  let v6254 : Index := Scalar.indexCast arg0
  let arg1 : BitVec 32 := BitVec.ofNat 32 (i 1).val
  let v6255 : Index := Scalar.indexCast arg1
  let c22_2236 : Index := 22#32
  ![v6254.toNat, v6255.toNat, 22]
def k0_off49 (i : grid0.Coords) : Fin 3 → Nat :=
  let arg0 : BitVec 32 := BitVec.ofNat 32 (i 0).val
  let v6262 : Index := Scalar.indexCast arg0
  let arg1 : BitVec 32 := BitVec.ofNat 32 (i 1).val
  let v6263 : Index := Scalar.indexCast arg1
  let c23_2237 : Index := 23#32
  ![v6262.toNat, v6263.toNat, 23]
def k0_off50 (i : grid0.Coords) (c0_i32_3479 : BitVec 32) : Fin 3 → Nat :=
  let arg1 : BitVec 32 := BitVec.ofNat 32 (i 1).val
  let c7_i32_3478 : BitVec 32 := 7#32
  let v9702 : BitVec 32 := Scalar.muli arg1 c7_i32_3478
  let v9703 : BitVec 32 := Scalar.addi v9702 c0_i32_3479
  let v9704 : Index := Scalar.indexCast v9703
  let arg0 : BitVec 32 := BitVec.ofNat 32 (i 0).val
  let v9705 : Index := Scalar.indexCast arg0
  let c24 : Index := 24#32
  ![v9704.toNat, v9705.toNat, 24]
def k0_off51 (i : grid0.Coords) (c0_i32_3482 : BitVec 32) : Fin 3 → Nat :=
  let arg1 : BitVec 32 := BitVec.ofNat 32 (i 1).val
  let c7_i32_3481 : BitVec 32 := 7#32
  let v9711 : BitVec 32 := Scalar.muli arg1 c7_i32_3481
  let v9712 : BitVec 32 := Scalar.addi v9711 c0_i32_3482
  let v9713 : Index := Scalar.indexCast v9712
  let arg0 : BitVec 32 := BitVec.ofNat 32 (i 0).val
  let v9714 : Index := Scalar.indexCast arg0
  let c25 : Index := 25#32
  ![v9713.toNat, v9714.toNat, 25]
def k0_off52 (i : grid0.Coords) (c0_i32_3485 : BitVec 32) : Fin 3 → Nat :=
  let arg1 : BitVec 32 := BitVec.ofNat 32 (i 1).val
  let c7_i32_3484 : BitVec 32 := 7#32
  let v9720 : BitVec 32 := Scalar.muli arg1 c7_i32_3484
  let v9721 : BitVec 32 := Scalar.addi v9720 c0_i32_3485
  let v9722 : Index := Scalar.indexCast v9721
  let arg0 : BitVec 32 := BitVec.ofNat 32 (i 0).val
  let v9723 : Index := Scalar.indexCast arg0
  let c26 : Index := 26#32
  ![v9722.toNat, v9723.toNat, 26]
def k0_off53 (i : grid0.Coords) (c0_i32_3488 : BitVec 32) : Fin 3 → Nat :=
  let arg1 : BitVec 32 := BitVec.ofNat 32 (i 1).val
  let c7_i32_3487 : BitVec 32 := 7#32
  let v9729 : BitVec 32 := Scalar.muli arg1 c7_i32_3487
  let v9730 : BitVec 32 := Scalar.addi v9729 c0_i32_3488
  let v9731 : Index := Scalar.indexCast v9730
  let arg0 : BitVec 32 := BitVec.ofNat 32 (i 0).val
  let v9732 : Index := Scalar.indexCast arg0
  let c27 : Index := 27#32
  ![v9731.toNat, v9732.toNat, 27]
def k0_off54 (i : grid0.Coords) (c0_i32_3504 : BitVec 32) : Fin 3 → Nat :=
  let arg1 : BitVec 32 := BitVec.ofNat 32 (i 1).val
  let c7_i32_3503 : BitVec 32 := 7#32
  let v9778 : BitVec 32 := Scalar.muli arg1 c7_i32_3503
  let v9779 : BitVec 32 := Scalar.addi v9778 c0_i32_3504
  let v9780 : Index := Scalar.indexCast v9779
  let arg0 : BitVec 32 := BitVec.ofNat 32 (i 0).val
  let v9781 : Index := Scalar.indexCast arg0
  let c28 : Index := 28#32
  ![v9780.toNat, v9781.toNat, 28]
def k0_off55 (i : grid0.Coords) (c0_i32_3507 : BitVec 32) : Fin 3 → Nat :=
  let arg1 : BitVec 32 := BitVec.ofNat 32 (i 1).val
  let c7_i32_3506 : BitVec 32 := 7#32
  let v9787 : BitVec 32 := Scalar.muli arg1 c7_i32_3506
  let v9788 : BitVec 32 := Scalar.addi v9787 c0_i32_3507
  let v9789 : Index := Scalar.indexCast v9788
  let arg0 : BitVec 32 := BitVec.ofNat 32 (i 0).val
  let v9790 : Index := Scalar.indexCast arg0
  let c29 : Index := 29#32
  ![v9789.toNat, v9790.toNat, 29]
def k0_off56 (i : grid0.Coords) (c0_i32_3510 : BitVec 32) : Fin 3 → Nat :=
  let arg1 : BitVec 32 := BitVec.ofNat 32 (i 1).val
  let c7_i32_3509 : BitVec 32 := 7#32
  let v9796 : BitVec 32 := Scalar.muli arg1 c7_i32_3509
  let v9797 : BitVec 32 := Scalar.addi v9796 c0_i32_3510
  let v9798 : Index := Scalar.indexCast v9797
  let arg0 : BitVec 32 := BitVec.ofNat 32 (i 0).val
  let v9799 : Index := Scalar.indexCast arg0
  let c30 : Index := 30#32
  ![v9798.toNat, v9799.toNat, 30]
def k0_off57 (i : grid0.Coords) (c0_i32_3513 : BitVec 32) : Fin 3 → Nat :=
  let arg1 : BitVec 32 := BitVec.ofNat 32 (i 1).val
  let c7_i32_3512 : BitVec 32 := 7#32
  let v9805 : BitVec 32 := Scalar.muli arg1 c7_i32_3512
  let v9806 : BitVec 32 := Scalar.addi v9805 c0_i32_3513
  let v9807 : Index := Scalar.indexCast v9806
  let arg0 : BitVec 32 := BitVec.ofNat 32 (i 0).val
  let v9808 : Index := Scalar.indexCast arg0
  let c31 : Index := 31#32
  ![v9807.toNat, v9808.toNat, 31]
def k0_off58 (i : grid0.Coords) : Fin 3 → Nat :=
  let arg0 : BitVec 32 := BitVec.ofNat 32 (i 0).val
  let v10109 : Index := Scalar.indexCast arg0
  let arg1 : BitVec 32 := BitVec.ofNat 32 (i 1).val
  let v10110 : Index := Scalar.indexCast arg1
  let c24_3594 : Index := 24#32
  ![v10109.toNat, v10110.toNat, 24]
def k0_off59 (i : grid0.Coords) : Fin 3 → Nat :=
  let arg0 : BitVec 32 := BitVec.ofNat 32 (i 0).val
  let v10117 : Index := Scalar.indexCast arg0
  let arg1 : BitVec 32 := BitVec.ofNat 32 (i 1).val
  let v10118 : Index := Scalar.indexCast arg1
  let c25_3595 : Index := 25#32
  ![v10117.toNat, v10118.toNat, 25]
def k0_off60 (i : grid0.Coords) : Fin 3 → Nat :=
  let arg0 : BitVec 32 := BitVec.ofNat 32 (i 0).val
  let v10125 : Index := Scalar.indexCast arg0
  let arg1 : BitVec 32 := BitVec.ofNat 32 (i 1).val
  let v10126 : Index := Scalar.indexCast arg1
  let c26_3596 : Index := 26#32
  ![v10125.toNat, v10126.toNat, 26]
def k0_off61 (i : grid0.Coords) : Fin 3 → Nat :=
  let arg0 : BitVec 32 := BitVec.ofNat 32 (i 0).val
  let v10133 : Index := Scalar.indexCast arg0
  let arg1 : BitVec 32 := BitVec.ofNat 32 (i 1).val
  let v10134 : Index := Scalar.indexCast arg1
  let c27_3597 : Index := 27#32
  ![v10133.toNat, v10134.toNat, 27]
def k0_off62 (i : grid0.Coords) : Fin 3 → Nat :=
  let arg0 : BitVec 32 := BitVec.ofNat 32 (i 0).val
  let v10141 : Index := Scalar.indexCast arg0
  let arg1 : BitVec 32 := BitVec.ofNat 32 (i 1).val
  let v10142 : Index := Scalar.indexCast arg1
  let c28_3598 : Index := 28#32
  ![v10141.toNat, v10142.toNat, 28]
def k0_off63 (i : grid0.Coords) : Fin 3 → Nat :=
  let arg0 : BitVec 32 := BitVec.ofNat 32 (i 0).val
  let v10149 : Index := Scalar.indexCast arg0
  let arg1 : BitVec 32 := BitVec.ofNat 32 (i 1).val
  let v10150 : Index := Scalar.indexCast arg1
  let c29_3599 : Index := 29#32
  ![v10149.toNat, v10150.toNat, 29]
def k0_off64 (i : grid0.Coords) : Fin 3 → Nat :=
  let arg0 : BitVec 32 := BitVec.ofNat 32 (i 0).val
  let v10157 : Index := Scalar.indexCast arg0
  let arg1 : BitVec 32 := BitVec.ofNat 32 (i 1).val
  let v10158 : Index := Scalar.indexCast arg1
  let c30_3600 : Index := 30#32
  ![v10157.toNat, v10158.toNat, 30]
def k0_off65 (i : grid0.Coords) : Fin 3 → Nat :=
  let arg0 : BitVec 32 := BitVec.ofNat 32 (i 0).val
  let v10165 : Index := Scalar.indexCast arg0
  let arg1 : BitVec 32 := BitVec.ofNat 32 (i 1).val
  let v10166 : Index := Scalar.indexCast arg1
  let c31_3601 : Index := 31#32
  ![v10165.toNat, v10166.toNat, 31]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S28x2x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S2x4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x7x64x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x7x8x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x64x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x896 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x896 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x896 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "log2e" => some (((Real.log 2)⁻¹ : ℝ) : EReal)
  | "neg_log2e" => some ((-((Real.log 2)⁻¹) : ℝ) : EReal)
  | "score_log2e" => some (((11863283 / 134217728) * (Real.log 2)⁻¹ : ℝ) : EReal)
  | _ => none
-- ==== ReferenceIdeal.lean ====
abbrev S2x1024x28x64 : Shape := ⟨4, ![2, 1024, 28, 64]⟩
abbrev S2x32x28 : Shape := ⟨3, ![2, 32, 28]⟩
abbrev S2x8x28x128 : Shape := ⟨4, ![2, 8, 28, 128]⟩
abbrev S2x1024x4x64 : Shape := ⟨4, ![2, 1024, 4, 64]⟩
abbrev S2x32x4 : Shape := ⟨3, ![2, 32, 4]⟩
abbrev S2x1024x4x128 : Shape := ⟨4, ![2, 1024, 4, 128]⟩
abbrev S2x4x128 : Shape := ⟨3, ![2, 4, 128]⟩
abbrev S2x1024x3584 : Shape := ⟨3, ![2, 1024, 3584]⟩
abbrev S_ : Shape := ⟨0, ![]⟩
abbrev S2x1024x28x128 : Shape := ⟨4, ![2, 1024, 28, 128]⟩
abbrev S2x1024x4x7x128 : Shape := ⟨5, ![2, 1024, 4, 7, 128]⟩
abbrev S2x8x28x64 : Shape := ⟨4, ![2, 8, 28, 64]⟩
abbrev S2x8x4x7x128 : Shape := ⟨5, ![2, 8, 4, 7, 128]⟩
abbrev S2x4x1024x1024x7 : Shape := ⟨5, ![2, 4, 1024, 1024, 7]⟩
abbrev S2x4x7x1024x1024 : Shape := ⟨5, ![2, 4, 7, 1024, 1024]⟩
abbrev S2x4x1024x8x7 : Shape := ⟨5, ![2, 4, 1024, 8, 7]⟩
abbrev S2x4x7x8x1024 : Shape := ⟨5, ![2, 4, 7, 8, 1024]⟩
abbrev S2x32x4x7 : Shape := ⟨4, ![2, 32, 4, 7]⟩
abbrev S2x4x7x32 : Shape := ⟨4, ![2, 4, 7, 32]⟩
abbrev S2x4x7x32x32 : Shape := ⟨5, ![2, 4, 7, 32, 32]⟩
abbrev S2x4x7x1024 : Shape := ⟨4, ![2, 4, 7, 1024]⟩
abbrev S2x4x32 : Shape := ⟨3, ![2, 4, 32]⟩
abbrev S2x4x32x32 : Shape := ⟨4, ![2, 4, 32, 32]⟩
abbrev S2x4x1024 : Shape := ⟨3, ![2, 4, 1024]⟩
abbrev S2x4x7x8x128x1024 : Shape := ⟨6, ![2, 4, 7, 8, 128, 1024]⟩
abbrev S2x4x1x1x1024 : Shape := ⟨5, ![2, 4, 1, 1, 1024]⟩
abbrev S2x4x7x1024x1 : Shape := ⟨5, ![2, 4, 7, 1024, 1]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S8x7168x1024 : Shape := ⟨3, ![8, 7168, 1024]⟩
abbrev S2x4x1024x128 : Shape := ⟨4, ![2, 4, 1024, 128]⟩
abbrev S8x1024x128 : Shape := ⟨3, ![8, 1024, 128]⟩
abbrev S8x1x128 : Shape := ⟨3, ![8, 1, 128]⟩
abbrev S2x4x7x1024x128 : Shape := ⟨5, ![2, 4, 7, 1024, 128]⟩
abbrev S8x7168x128 : Shape := ⟨3, ![8, 7168, 128]⟩
abbrev S8x7168x1 : Shape := ⟨3, ![8, 7168, 1]⟩
abbrev S8x7168 : Shape := ⟨2, ![8, 7168]⟩
abbrev S2x4x1x1024 : Shape := ⟨4, ![2, 4, 1, 1024]⟩
abbrev S2x4x8x1024 : Shape := ⟨4, ![2, 4, 8, 1024]⟩

abbrev nBuf : Space → Nat
  | .hbm => 113
  | .vmem => 7
  | .smem => 0
  | _ => 0

abbrev bufTy : (tb : Table) → Fin (tcTables nBuf tb) → BufTy
  | .hbm, ⟨0, _⟩ => ⟨S2x1024x28x64, .i8⟩
  | .hbm, ⟨1, _⟩ => ⟨S2x32x28, .f32⟩
  | .hbm, ⟨2, _⟩ => ⟨S2x8x28x128, .bf16⟩
  | .hbm, ⟨3, _⟩ => ⟨S2x1024x4x64, .i8⟩
  | .hbm, ⟨4, _⟩ => ⟨S2x32x4, .f32⟩
  | .hbm, ⟨5, _⟩ => ⟨S2x1024x4x128, .fp8e4m3⟩
  | .hbm, ⟨6, _⟩ => ⟨S2x4x128, .f32⟩
  | .hbm, ⟨7, _⟩ => ⟨S2x1024x3584, .bf16⟩
  | .hbm, ⟨8, _⟩ => ⟨S2x1024x28x64, .i8⟩
  | .hbm, ⟨9, _⟩ => ⟨S2x1024x28x64, .i32⟩
  | .hbm, ⟨10, _⟩ => ⟨S_, .i32⟩
  | .hbm, ⟨11, _⟩ => ⟨S2x1024x28x64, .i32⟩
  | .hbm, ⟨12, _⟩ => ⟨S2x1024x28x64, .i32⟩
  | .hbm, ⟨13, _⟩ => ⟨S_, .i32⟩
  | .hbm, ⟨14, _⟩ => ⟨S2x1024x28x64, .i32⟩
  | .hbm, ⟨15, _⟩ => ⟨S2x1024x28x64, .i32⟩
  | .hbm, ⟨16, _⟩ => ⟨S_, .i32⟩
  | .hbm, ⟨17, _⟩ => ⟨S2x1024x28x64, .i32⟩
  | .hbm, ⟨18, _⟩ => ⟨S2x1024x28x64, .i32⟩
  | .hbm, ⟨19, _⟩ => ⟨S2x1024x28x64, .f32⟩
  | .hbm, ⟨20, _⟩ => ⟨S2x1024x28x64, .bf16⟩
  | .hbm, ⟨21, _⟩ => ⟨S2x1024x28x64, .f32⟩
  | .hbm, ⟨22, _⟩ => ⟨S2x1024x28x64, .bf16⟩
  | .hbm, ⟨23, _⟩ => ⟨S2x1024x28x128, .bf16⟩
  | .hbm, ⟨24, _⟩ => ⟨S2x1024x4x7x128, .bf16⟩
  | .hbm, ⟨25, _⟩ => ⟨S2x1024x4x64, .i8⟩
  | .hbm, ⟨26, _⟩ => ⟨S2x1024x4x64, .i32⟩
  | .hbm, ⟨27, _⟩ => ⟨S_, .i32⟩
  | .hbm, ⟨28, _⟩ => ⟨S2x1024x4x64, .i32⟩
  | .hbm, ⟨29, _⟩ => ⟨S2x1024x4x64, .i32⟩
  | .hbm, ⟨30, _⟩ => ⟨S_, .i32⟩
  | .hbm, ⟨31, _⟩ => ⟨S2x1024x4x64, .i32⟩
  | .hbm, ⟨32, _⟩ => ⟨S2x1024x4x64, .i32⟩
  | .hbm, ⟨33, _⟩ => ⟨S_, .i32⟩
  | .hbm, ⟨34, _⟩ => ⟨S2x1024x4x64, .i32⟩
  | .hbm, ⟨35, _⟩ => ⟨S2x1024x4x64, .i32⟩
  | .hbm, ⟨36, _⟩ => ⟨S2x1024x4x64, .f32⟩
  | .hbm, ⟨37, _⟩ => ⟨S2x1024x4x64, .bf16⟩
  | .hbm, ⟨38, _⟩ => ⟨S2x1024x4x64, .f32⟩
  | .hbm, ⟨39, _⟩ => ⟨S2x1024x4x64, .bf16⟩
  | .hbm, ⟨40, _⟩ => ⟨S2x1024x4x128, .bf16⟩
  | .hbm, ⟨41, _⟩ => ⟨S2x8x28x64, .bf16⟩
  | .hbm, ⟨42, _⟩ => ⟨S2x8x28x64, .bf16⟩
  | .hbm, ⟨43, _⟩ => ⟨S2x8x28x128, .bf16⟩
  | .hbm, ⟨44, _⟩ => ⟨S2x8x4x7x128, .bf16⟩
  | .hbm, ⟨45, _⟩ => ⟨S2x4x1024x1024x7, .f32⟩
  | .hbm, ⟨46, _⟩ => ⟨S2x4x7x1024x1024, .f32⟩
  | .hbm, ⟨47, _⟩ => ⟨S2x4x1024x8x7, .f32⟩
  | .hbm, ⟨48, _⟩ => ⟨S2x4x7x8x1024, .f32⟩
  | .hbm, ⟨49, _⟩ => ⟨S2x32x4x7, .f32⟩
  | .hbm, ⟨50, _⟩ => ⟨S2x4x7x32, .f32⟩
  | .hbm, ⟨51, _⟩ => ⟨S2x4x7x32x32, .f32⟩
  | .hbm, ⟨52, _⟩ => ⟨S2x4x7x1024, .f32⟩
  | .hbm, ⟨53, _⟩ => ⟨S2x4x32, .f32⟩
  | .hbm, ⟨54, _⟩ => ⟨S2x4x32x32, .f32⟩
  | .hbm, ⟨55, _⟩ => ⟨S2x4x1024, .f32⟩
  | .hbm, ⟨56, _⟩ => ⟨S2x4x7x8x128x1024, .f32⟩
  | .hbm, ⟨57, _⟩ => ⟨S2x4x7x1024x1024, .f32⟩
  | .hbm, ⟨58, _⟩ => ⟨S2x4x1x1x1024, .f32⟩
  | .hbm, ⟨59, _⟩ => ⟨S_, .f32⟩
  | .hbm, ⟨60, _⟩ => ⟨S2x4x1x1x1024, .f32⟩
  | .hbm, ⟨61, _⟩ => ⟨S2x4x1x1x1024, .f32⟩
  | .hbm, ⟨62, _⟩ => ⟨S2x4x7x1024x1, .f32⟩
  | .hbm, ⟨63, _⟩ => ⟨S2x4x7x1024x1024, .f32⟩
  | .hbm, ⟨64, _⟩ => ⟨S2x4x7x1024x1024, .f32⟩
  | .hbm, ⟨65, _⟩ => ⟨S2x4x7x1024x1024, .f32⟩
  | .hbm, ⟨66, _⟩ => ⟨S2x4x7x1024x1024, .f32⟩
  | .hbm, ⟨67, _⟩ => ⟨S2x4x7x1024x1024, .f32⟩
  | .hbm, ⟨68, _⟩ => ⟨S1024, .i32⟩
  | .hbm, ⟨69, _⟩ => ⟨S1x1024, .i32⟩
  | .hbm, ⟨70, _⟩ => ⟨S1024x1, .i32⟩
  | .hbm, ⟨71, _⟩ => ⟨S1024x1024, .i32⟩
  | .hbm, ⟨72, _⟩ => ⟨S1024x1024, .i32⟩
  | .hbm, ⟨73, _⟩ => ⟨S1024x1024, .i1⟩
  | .hbm, ⟨74, _⟩ => ⟨S_, .f32⟩
  | .hbm, ⟨75, _⟩ => ⟨S_, .f32⟩
  | .hbm, ⟨76, _⟩ => ⟨S2x4x7x1024x1024, .i1⟩
  | .hbm, ⟨77, _⟩ => ⟨S2x4x7x1024x1024, .f32⟩
  | .hbm, ⟨78, _⟩ => ⟨S2x4x7x1024x1024, .f32⟩
  | .hbm, ⟨79, _⟩ => ⟨S_, .f32⟩
  | .hbm, ⟨80, _⟩ => ⟨S2x4x7x1024, .f32⟩
  | .hbm, ⟨81, _⟩ => ⟨S_, .f32⟩
  | .hbm, ⟨82, _⟩ => ⟨S2x4x7x1024, .f32⟩
  | .hbm, ⟨83, _⟩ => ⟨S2x4x7x1024, .f32⟩
  | .hbm, ⟨84, _⟩ => ⟨S2x4x7x1024x1, .f32⟩
  | .hbm, ⟨85, _⟩ => ⟨S2x4x7x1024x1024, .f32⟩
  | .hbm, ⟨86, _⟩ => ⟨S2x4x7x1024x1024, .f32⟩
  | .hbm, ⟨87, _⟩ => ⟨S2x4x7x1024x1024, .f32⟩
  | .hbm, ⟨88, _⟩ => ⟨S_, .f32⟩
  | .hbm, ⟨89, _⟩ => ⟨S2x4x7x1024, .f32⟩
  | .hbm, ⟨90, _⟩ => ⟨S2x4x7x1024x1, .f32⟩
  | .hbm, ⟨91, _⟩ => ⟨S2x4x7x1024x1024, .f32⟩
  | .hbm, ⟨92, _⟩ => ⟨S2x4x7x1024x1024, .f32⟩
  | .hbm, ⟨93, _⟩ => ⟨S8x7168x1024, .f32⟩
  | .hbm, ⟨94, _⟩ => ⟨S2x4x1024x128, .fp8e4m3⟩
  | .hbm, ⟨95, _⟩ => ⟨S8x1024x128, .fp8e4m3⟩
  | .hbm, ⟨96, _⟩ => ⟨S8x1x128, .f32⟩
  | .hbm, ⟨97, _⟩ => ⟨S2x1024x4x7x128, .bf16⟩
  | .hbm, ⟨98, _⟩ => ⟨S2x4x7x1024x128, .bf16⟩
  | .hbm, ⟨99, _⟩ => ⟨S8x7168x128, .bf16⟩
  | .hbm, ⟨100, _⟩ => ⟨S8x7168x128, .bf16⟩
  | .hbm, ⟨101, _⟩ => ⟨S8x7168x128, .fp8e4m3⟩
  | .hbm, ⟨102, _⟩ => ⟨S8x7168x1, .f32⟩
  | .hbm, ⟨103, _⟩ => ⟨S2x4x7x1024, .f32⟩
  | .hbm, ⟨104, _⟩ => ⟨S_, .f32⟩
  | .hbm, ⟨105, _⟩ => ⟨S2x4x1x1024, .f32⟩
  | .hbm, ⟨106, _⟩ => ⟨S2x4x8x1024, .f32⟩
  | .hbm, ⟨107, _⟩ => ⟨S2x4x7x1024x128, .bf16⟩
  | .hbm, ⟨108, _⟩ => ⟨S2x1024x4x7x128, .bf16⟩
  | .hbm, ⟨109, _⟩ => ⟨S2x1024x3584, .bf16⟩
  | .hbm, ⟨110, _⟩ => ⟨S2x4x7x1024x128, .fp8e4m3⟩
  | .hbm, ⟨111, _⟩ => ⟨S2x1024x4x7x128, .fp8e4m3⟩
  | .hbm, ⟨112, _⟩ => ⟨S2x1024x3584, .fp8e4m3⟩
  | .local _ .vmem, ⟨0, _⟩ => ⟨S8x7168x1024, .f32⟩
  | .local _ .vmem, ⟨1, _⟩ => ⟨S8x1024x128, .fp8e4m3⟩
  | .local _ .vmem, ⟨2, _⟩ => ⟨S8x1x128, .f32⟩
  | .local _ .vmem, ⟨3, _⟩ => ⟨S8x7168x128, .bf16⟩
  | .local _ .vmem, ⟨4, _⟩ => ⟨S8x7168x128, .bf16⟩
  | .local _ .vmem, ⟨5, _⟩ => ⟨S8x7168x128, .fp8e4m3⟩
  | .local _ .vmem, ⟨6, _⟩ => ⟨S8x7168x1, .f32⟩
  | _, _ => ⟨S2x1024x28x64, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_5 : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_v59 : Ref sig .tc := ⟨.hbm, 78, rfl⟩
abbrev main_cst_6 : Ref sig .tc := ⟨.hbm, 79, rfl⟩
abbrev main_v60 : Ref sig .tc := ⟨.hbm, 80, rfl⟩
abbrev main_cst_7 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_8 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78_0 : Ref sig .tc := ⟨.hbm, 100, rfl⟩
abbrev main_v78_1 : Ref sig .tc := ⟨.hbm, 101, rfl⟩
abbrev main_v78_2 : Ref sig .tc := ⟨.hbm, 102, rfl⟩
abbrev main_v79 : Ref sig .tc := ⟨.hbm, 103, rfl⟩
abbrev main_cst_9 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "log2e" => some (((Real.log 2)⁻¹ : ℝ) : EReal)
  | _ => none

abbrev grid0 : Pipeline.Grid := .none

abbrev stage0_0 : Fin 1 → Memref sig .tc .vmem S8x7168x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x7168x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x7168x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x7168x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x7168x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Algebra.lean ====
module

public import Idealize.ShloMosaic.PureOps.Ideal
public import Mathlib.Data.EReal.Operations
public import Mathlib.Algebra.Order.BigOperators.Group.Finset

@[expose] public section

/-! The extended-real algebra that the comparison rests on: the kernel works with base-two exponentials of
    scores scaled by `1 / log 2`, the reference with natural exponentials. -/

noncomputable section

namespace Cert.Alg

open Idealize.ShloMosaic

/-- The factor between the two exponents: `1 / log 2`. -/
def L : ℝ := (Real.log 2)⁻¹

theorem L_pos : 0 < L := inv_pos.mpr (Real.log_pos (by norm_num))

theorem exp2_scale (x : EReal) : Ideal.exp2 ((L : EReal) * x) = Ideal.exp x := by
  induction x with
  | bot => rw [EReal.coe_mul_bot_of_pos L_pos]; rfl
  | top => rw [EReal.coe_mul_top_of_pos L_pos]; rfl
  | coe r =>
    rw [← EReal.coe_mul, Ideal.exp2_coe, Ideal.exp_coe]
    congr 1
    show (2 : ℝ) ^ (L * r) = _
    rw [Real.rpow_def_of_pos (by norm_num), L, ← mul_assoc, mul_inv_cancel₀ (Real.log_pos (by norm_num)).ne', one_mul]

theorem scale_sub (x y : EReal) : (L : EReal) * x - (L : EReal) * y = (L : EReal) * (x - y) := by
  induction x with
  | bot => simp [EReal.coe_mul_bot_of_pos L_pos]
  | top =>
    induction y with
    | bot => simp [EReal.coe_mul_bot_of_pos L_pos, EReal.coe_mul_top_of_pos L_pos]
    | top => simp [EReal.coe_mul_bot_of_pos L_pos, EReal.coe_mul_top_of_pos L_pos]
    | coe r => simp [EReal.coe_mul_top_of_pos L_pos, ← EReal.coe_mul]
  | coe s =>
    induction y with
    | bot => simp [EReal.coe_mul_bot_of_pos L_pos, EReal.coe_mul_top_of_pos L_pos, ← EReal.coe_mul]
    | top => simp [EReal.coe_mul_bot_of_pos L_pos, EReal.coe_mul_top_of_pos L_pos]
    | coe r => norm_cast; ring

theorem exp2_sub (x y : EReal) : Ideal.exp2 ((L : EReal) * x - (L : EReal) * y) = Ideal.exp (x - y) := by
  rw [scale_sub, exp2_scale]

theorem exp_nonneg (x : EReal) : 0 ≤ Ideal.exp x := by
  induction x with
  | bot => simp
  | top => simp
  | coe r => rw [Ideal.exp_coe]; exact_mod_cast (Real.exp_pos r).le

theorem scale_mono : Monotone fun x : EReal => (L : EReal) * x :=
  fun _ _ h => mul_le_mul_of_nonneg_left h (by exact_mod_cast L_pos.le)

theorem sup_scale {ι : Type*} (s : Finset ι) (X : ι → EReal) :
    s.sup (fun k => (L : EReal) * X k) = (L : EReal) * s.sup X :=
  (Finset.comp_sup_eq_sup_comp_of_is_total (fun x : EReal => (L : EReal) * x) scale_mono
    (EReal.coe_mul_bot_of_pos L_pos)).symm

/-- The gate: the kernel's `1 / (1 + 2^(-x / log 2))` is the logistic function. -/
theorem gate_eq (g : EReal) : Ideal.div 1 (1 + Ideal.exp2 (g * ((-L : ℝ) : EReal))) = Ideal.logistic g := by
  have : g * ((-L : ℝ) : EReal) = (L : EReal) * (-g) := by
    rw [EReal.coe_neg, mul_neg, mul_neg, mul_comm]
  rw [this, exp2_scale]; rfl

/-- The score: the kernel adds the mean's part divided by the query scale and scales the sum; the reference
    scales first. The key scale may be any extended real. -/
theorem score_eq {a b q : ℝ} (hq : q ≠ 0) (s : ℝ) (k : EReal) :
    ((a : EReal) + (b : EReal) * ((1 / q : ℝ) : EReal)) * ((q : EReal) * ((s * L : ℝ) : EReal) * k)
      = (L : EReal) * ((s : EReal) * k * ((q : EReal) * (a : EReal) + (b : EReal))) := by
  have h1 : ((a : EReal) + (b : EReal) * ((1 / q : ℝ) : EReal)) = ((a + b * (1 / q) : ℝ) : EReal) := by
    rw [EReal.coe_add, EReal.coe_mul]
  have h2 : ((q : EReal) * (a : EReal) + (b : EReal)) = ((q * a + b : ℝ) : EReal) := by
    rw [EReal.coe_add, EReal.coe_mul]
  have h3 : (L : EReal) * ((s : EReal) * k * ((q * a + b : ℝ) : EReal)) = ((L * (s * (q * a + b)) : ℝ) : EReal) * k := by
    rw [EReal.coe_mul L, EReal.coe_mul s, mul_right_comm, mul_assoc, mul_assoc, mul_assoc]
  rw [h1, h2, h3, ← mul_assoc, ← EReal.coe_mul, ← EReal.coe_mul]
  congr 2
  field_simp

section Row

variable {ι : Type*} [Fintype ι]

/-- The softmax numerators of a row of scores. -/
def E (X : ι → EReal) (k : ι) : EReal := Ideal.exp (X k - Finset.univ.sup X)

/-- The softmax denominator of a row of scores. -/
def l (X : ι → EReal) : EReal := ∑ k, E X k

/-- The scaled and clamped softmax weight. -/
def W (X : ι → EReal) (k : ι) : EReal := min (E X k * Ideal.div ((256 : ℝ) : EReal) (l X)) ((448 : ℝ) : EReal)

theorem E_nonneg (X : ι → EReal) (k : ι) : 0 ≤ E X k := exp_nonneg _

theorem E_bot (X : ι → EReal) (k : ι) (h : X k = ⊥) : E X k = 0 := by rw [E, h, EReal.bot_sub]; rfl

theorem l_nonneg (X : ι → EReal) : 0 ≤ l X := Finset.sum_nonneg fun k _ => E_nonneg X k

theorem E_zero (X : ι → EReal) (h : l X = 0) (k : ι) : E X k = 0 :=
  (Finset.sum_eq_zero_iff_of_nonneg fun k _ => E_nonneg X k).mp h k (Finset.mem_univ k)

theorem W_nonneg_arg (X : ι → EReal) (k : ι) : 0 ≤ E X k * Ideal.div ((256 : ℝ) : EReal) (l X) := by
  refine mul_nonneg (E_nonneg X k) ?_
  unfold Ideal.div
  split_ifs with h h'
  · exact le_top
  · exact absurd (by exact_mod_cast (by norm_num : (0 : ℝ) < 256)) h'
  · exact mul_nonneg (by exact_mod_cast (by norm_num : (0 : ℝ) ≤ 256)) (EReal.inv_nonneg_of_nonneg (l_nonneg X))

/-- The kernel's weight: clamped below at `-448`, which never acts. -/
theorem W_kernel (X : ι → EReal) (k : ι) :
    min (max (E X k * Ideal.div ((256 : ℝ) : EReal) (l X)) ((-448 : ℝ) : EReal)) ((448 : ℝ) : EReal) = W X k := by
  rw [W, max_eq_left]
  exact le_trans (by exact_mod_cast (by norm_num : (-448 : ℝ) ≤ 0)) (W_nonneg_arg X k)

/-- The reference's weight: it divides by the denominator first, scales and clamps below at zero. -/
theorem W_ref (X : ι → EReal) (k : ι) :
    min (max (Ideal.div (E X k) (l X) * ((256 : ℝ) : EReal)) 0) ((448 : ℝ) : EReal) = W X k := by
  by_cases h : l X = 0
  · rw [W, E_zero X h k, zero_mul, h]
    have : Ideal.div 0 0 = ⊥ := by simp [Ideal.div]
    rw [this, EReal.bot_mul_coe_of_pos (by norm_num), max_eq_right bot_le]
  · have : Ideal.div (E X k) (l X) * ((256 : ℝ) : EReal) = E X k * Ideal.div ((256 : ℝ) : EReal) (l X) := by
      rw [Ideal.div, Ideal.div, if_neg h, if_neg h, mul_assoc, mul_comm (l X)⁻¹]
    rw [this, max_eq_left (W_nonneg_arg X k), W]

theorem W_bot (X : ι → EReal) (k : ι) (h : X k = ⊥) : W X k = 0 := by
  rw [W, E_bot X k h, zero_mul, min_eq_left]
  exact_mod_cast (by norm_num : (0 : ℝ) ≤ 448)

end Row

end Cert.Alg

end
-- ==== Proof.Consts.lean ====
module

public import proofs.«01_k».proof.Proof.Algebra
public import Idealize.ShloMosaic.Lib.Pointwise

@[expose] public section

/-! The real numbers that the programs' float constants denote. -/

noncomputable section

namespace Cert.Alg

open Idealize.ShloMosaic

theorem c256 : Ideal.ofBits .f32 0x43800000#32 = ((256 : ℝ) : EReal) := by
  simp [Ideal.ofBits, Ideal.ieee, ← EReal.coe_mul]; norm_num
theorem c448 : Ideal.ofBits .f32 0x43E00000#32 = ((448 : ℝ) : EReal) := by
  simp [Ideal.ofBits, Ideal.ieee, ← EReal.coe_mul]; norm_num
theorem cn448 : Ideal.ofBits .f32 0xC3E00000#32 = ((-448 : ℝ) : EReal) := by
  simp [Ideal.ofBits, Ideal.ieee, ← EReal.coe_mul]; norm_num
theorem cbot : Ideal.ofBits .f32 0xFF800000#32 = ⊥ := by
  simp [Ideal.ofBits, Ideal.ieee]
/-- The least query scale that the kernel divides by. -/
def fl : ℝ := 10633824 / 2 ^ 123
theorem cfl : Ideal.ofBits .f32 0x0DA24260#32 = ((fl : ℝ) : EReal) := by
  simp [Ideal.ofBits, Ideal.ieee, fl, ← EReal.coe_mul]; norm_num
/-- The score scale, as both programs round it. -/
def sc : ℝ := 11863283 / 2 ^ 27
theorem csc : Ideal.ofBits .f32 0x3DB504F3#32 = ((sc : ℝ) : EReal) := by
  simp [Ideal.ofBits, Ideal.ieee, sc, ← EReal.coe_mul]; norm_num

theorem coe_sum {ι : Type*} (s : Finset ι) (f : ι → ℝ) : ((∑ k ∈ s, f k : ℝ) : EReal) = ∑ k ∈ s, (f k : EReal) :=
  map_sum (⟨⟨fun x : ℝ => (x : EReal), EReal.coe_zero⟩, EReal.coe_add⟩ : ℝ →+ EReal) f s

/-- A sum of products of reals, on the extended reals. -/
theorem coe_dot {ι : Type*} [Fintype ι] (f g : ι → ℝ) : ∑ k, (f k : EReal) * (g k : EReal) = ((∑ k, f k * g k : ℝ) : EReal) := by
  rw [coe_sum]; exact Finset.sum_congr rfl fun k _ => (EReal.coe_mul _ _).symm

/-- A sum over rows taken eight at a time. -/
theorem sum_rows (f : ℕ → EReal) (m : ℕ) :
    ∑ r ∈ Finset.range 8, ∑ a ∈ Finset.range m, f (8 * a + r) = ∑ k ∈ Finset.range (8 * m), f k := by
  induction m with
  | zero => simp
  | succ m ih =>
    rw [Nat.mul_succ, Finset.sum_range_add, ← ih, ← Finset.sum_add_distrib]
    exact Finset.sum_congr rfl fun r _ => Finset.sum_range_succ _ _

/-- A supremum over rows taken eight at a time. -/
theorem sup_rows (f : ℕ → EReal) (m : ℕ) :
    ((Finset.range 8).sup fun r => (Finset.range m).sup fun a => f (8 * a + r)) = (Finset.range (8 * m)).sup f := by
  apply le_antisymm
  · refine Finset.sup_le fun r hr => Finset.sup_le fun a ha => Finset.le_sup (f := f) ?_
    simp only [Finset.mem_range] at *; omega
  · refine Finset.sup_le fun k hk => ?_
    have h1 : k % 8 ∈ Finset.range 8 := Finset.mem_range.2 (Nat.mod_lt _ (by norm_num))
    have h2 : k / 8 ∈ Finset.range m := by simp only [Finset.mem_range] at *; omega
    have := (Finset.le_sup (f := fun a => f (8 * a + k % 8)) h2).trans
      (Finset.le_sup (f := fun r => (Finset.range m).sup fun a => f (8 * a + r)) h1)
    simpa [Nat.div_add_mod] using this

/-- A fold of maxima over a finite range of coordinates is the supremum. -/
theorem fold_max {n : ℕ} (f : ℕ → EReal) :
    (Finset.univ : Finset (Fin n)).fold max ⊥ (fun k => f k.val) = (Finset.range n).sup f := by
  have : (Finset.univ : Finset (Fin n)).fold max ⊥ (fun k => f k.val) = Finset.univ.sup fun k : Fin n => f k.val := rfl
  rw [this]
  apply le_antisymm
  · exact Finset.sup_le fun k _ => Finset.le_sup (f := f) (Finset.mem_range.2 k.isLt)
  · exact Finset.sup_le fun k hk => Finset.le_sup (f := fun k : Fin n => f k.val) (Finset.mem_univ ⟨k, Finset.mem_range.1 hk⟩)

/-- Terms past `n` that are zero do not count. -/
theorem sum_range_le {n m : ℕ} (h : n ≤ m) (f : ℕ → EReal) (hf : ∀ k, n ≤ k → k < m → f k = 0) :
    ∑ k ∈ Finset.range n, f k = ∑ k : Fin m, f k.val := by
  rw [← Finset.sum_range (fun k => f k)]
  refine Finset.sum_subset (fun k hk => by simp only [Finset.mem_range] at *; omega) fun k hk hk' => ?_
  simp only [Finset.mem_range] at *
  exact hf k (by omega) hk

/-- Entries past `n` that are `⊥` do not count. -/
theorem sup_range_le {n m : ℕ} (h : n ≤ m) (f : ℕ → EReal) (hf : ∀ k, n ≤ k → k < m → f k = ⊥) :
    (Finset.range n).sup f = Finset.univ.sup fun k : Fin m => f k.val := by
  apply le_antisymm
  · exact Finset.sup_le fun k hk => Finset.le_sup (f := fun k : Fin m => f k.val)
      (Finset.mem_univ ⟨k, (Finset.mem_range.1 hk).trans_le h⟩)
  · refine Finset.sup_le fun k _ => ?_
    rcases lt_or_ge k.val n with hk | hk
    · exact Finset.le_sup (f := f) (Finset.mem_range.2 hk)
    · rw [hf k.val hk k.isLt]; exact bot_le

end Cert.Alg

end
-- ==== Proof.Spec.lean ====
module

public import proofs.«01_k».proof.Proof.Consts

@[expose] public section

/-! What one batch entry and one key/value head compute, as a function of the decoded inputs: scores, softmax weights,
    the gated output, its codes and its scales. -/

noncomputable section

namespace Cert.Alg

open Idealize.ShloMosaic

/-- The decoded inputs of one batch entry and one key/value head: key codes `K key column`, query codes
    `Q head column query`, query means `M head block column`, query scales `s head group`, key scales `ks group`,
    values `v column key`, value scales `vs column` and gates `g head query column`. -/
structure Pt where
  K : ℕ → ℕ → ℝ
  Q : ℕ → ℕ → ℕ → ℝ
  M : ℕ → ℕ → ℕ → ℝ
  s : ℕ → ℕ → ℝ
  ks : ℕ → EReal
  v : ℕ → ℕ → EReal
  vs : ℕ → EReal
  g : ℕ → ℕ → ℕ → EReal
  hs : ∀ h t, fl ≤ s h t

namespace Pt
variable (P : Pt)

/-- The product of a key's codes and a query's codes. -/
def dot (h q k : ℕ) : ℝ := ∑ d : Fin 128, P.K k d.val * P.Q h d.val q
/-- The product of a key's codes and a query block's mean. -/
def B (h b k : ℕ) : ℝ := ∑ d : Fin 128, P.K k d.val * P.M h b d.val
/-- The masked score. -/
def X (h q k : ℕ) : EReal :=
  if k ≤ q then (sc : EReal) * P.ks (k / 32) * ((P.s h (q / 32) : EReal) * (P.dot h q k : EReal) + (P.B h (q / 128) k : EReal)) else ⊥
/-- The row of scores of a query. -/
def XR (h q : ℕ) : Fin 1024 → EReal := fun k => P.X h q k.val
/-- The softmax weight of a key. -/
def w (h q k : ℕ) : EReal := min (Ideal.exp (P.X h q k - Finset.univ.sup (P.XR h q)) * Ideal.div ((256 : ℝ) : EReal) (l (P.XR h q))) ((448 : ℝ) : EReal)
theorem w_eq (h q : ℕ) (k : Fin 1024) : P.w h q k.val = W (P.XR h q) k := rfl
/-- The weighted sum of values. -/
def O (h q d : ℕ) : EReal := ∑ k : Fin 1024, P.v d k.val * P.w h q k.val
/-- The gated output. -/
def Y (h q d : ℕ) : EReal := P.O h q d * (P.vs d * Ideal.ofBits .f32 0x3B800000#32) * Ideal.logistic (P.g h q d)
/-- A row's largest magnitude over 448. -/
def xr (h q : ℕ) : EReal :=
  ((Finset.range 128).sup fun d => max (P.Y h q d) (-(P.Y h q d))) * Ideal.ofBits .f32 0x3B124925#32
end Pt

/-- The exponent of a row, from its largest magnitude over 448. -/
def erow (x : EReal) : EReal := if x = 0 then 0 else Ideal.liftRound (fun r => ⌊r⌋) (Ideal.log x * (L : EReal)) + 1

namespace Pt
variable (P : Pt)
/-- A code. -/
def code (h q d : ℕ) : EReal := min (max (P.Y h q d * Ideal.exp2 (0 - erow (P.xr h q))) ((-448 : ℝ) : EReal)) ((448 : ℝ) : EReal)
/-- A row's scale. -/
def scale (h q : ℕ) : EReal := Ideal.exp2 (erow (P.xr h q))
end Pt

end Cert.Alg

end
-- ==== Proof.Unit.lean ====
module

public import proofs.«01_k».proof.Proof.Gen.KernelIdeal
public import proofs.«01_k».proof.Proof.Algebra
public import Idealize.ShloMosaic.Lib.Pointwise

@[expose] public section

/-! The kernel's work on one head and one tile of 256 queries, in the printed operations, as functions of what it
    loads. Every one of the 28 tiles of a grid point is an instance. -/

noncomputable section

namespace Cert.Unit

open Idealize.ShloMosaic Idealize.ShloMosaic.ValueIdx Cert.KernelIdeal
open Cert.KernelIdeal.Facts₀ Cert.KernelIdeal.Facts

section Defs
variable {F : FTy → Type} [FloatOps F] [Named F]

/-- A row of query scales: four scalars spread over groups of 32 lanes. -/
def row (grp : IVec S8x128 32) (q0 q1 q2 q3 : Elt F .f32) : FVec F S8x128 .f32 :=
  select (cmpi .eq grp (broadcast S8x128 3#32)) (broadcast S8x128 q3)
    (select (cmpi .eq grp (broadcast S8x128 2#32)) (broadcast S8x128 q2)
      (select (cmpi .eq grp (broadcast S8x128 1#32)) (broadcast S8x128 q1)
        (select (cmpi .eq grp (broadcast S8x128 0#32)) (broadcast S8x128 q0)
          (broadcast S8x128 (Scalar.ofBits .f32 0x00000000#32)))))

/-- The reciprocals of a row. -/
def winv (r : FVec F S8x128 .f32) : FVec F S8x128 .f32 :=
  divf (broadcast S8x128 (Scalar.ofBits .f32 0x3F800000#32)) (maximumf r (broadcast S8x128 (Scalar.ofBits .f32 0x0DA24260#32)))

section Split
variable {s : Shape}
/-- The leading piece of a value split in three. -/
def pc0 (x : FVec F s .f32) : FVec F s .f32 := extf .f32 (truncf .bf16 x bitsLt_bf16_f32) bitsLt_bf16_f32
/-- The middle piece. -/
def pc1 (x : FVec F s .f32) : FVec F s .f32 := extf .f32 (truncf .bf16 (subf x (pc0 x)) bitsLt_bf16_f32) bitsLt_bf16_f32
/-- The last piece. -/
def pc2 (x : FVec F s .f32) : FVec F s .f32 :=
  extf .f32 (truncf .bf16 (subf (subf x (pc0 x)) (pc1 x)) bitsLt_bf16_f32) bitsLt_bf16_f32
/-- One of eight rows by its number. -/
def pick (idx : IVec s 32) (a0 a1 a2 a3 a4 a5 a6 a7 : FVec F s .f32) : FVec F s .f32 :=
  select (cmpi .eq idx (broadcast s 7#32)) a7 (select (cmpi .eq idx (broadcast s 6#32)) a6
    (select (cmpi .eq idx (broadcast s 5#32)) a5 (select (cmpi .eq idx (broadcast s 4#32)) a4
      (select (cmpi .eq idx (broadcast s 3#32)) a3 (select (cmpi .eq idx (broadcast s 2#32)) a2
        (select (cmpi .eq idx (broadcast s 1#32)) a1 (select (cmpi .eq idx (broadcast s 0#32)) a0
          (broadcast s (Scalar.ofBits .f32 0x00000000#32)))))))))
end Split

/-- The eight rows of pieces of the reciprocals. -/
def wpick (sub : IVec S8x128 32) (r : FVec F S8x128 .f32) : FVec F S8x128 .f32 :=
  pick sub (pc0 (winv r)) (pc1 (winv r)) (pc2 (winv r)) (pc0 (winv r)) (pc1 (winv r)) (pc2 (winv r)) (pc0 (winv r)) (pc1 (winv r))

/-- Both halves' reciprocal rows, each in its own quadrant. -/
def w16 (sub : IVec S8x128 32) (r0 r1 : FVec F S8x128 .f32) : FVec F S16x256 .bf16 :=
  truncf .bf16 (concatenate S16x256 1
    [⟨S16x128, concatenate S16x128 0 [⟨S8x128, wpick sub r0⟩, ⟨S8x128, broadcast S8x128 (Scalar.ofBits .f32 0x00000000#32)⟩] concatenates_S8x128_S8x128_S16x128_d0⟩,
     ⟨S16x128, concatenate S16x128 0 [⟨S8x128, broadcast S8x128 (Scalar.ofBits .f32 0x00000000#32)⟩, ⟨S8x128, wpick sub r1⟩] concatenates_S8x128_S8x128_S16x128_d0⟩]
    concatenates_S16x128_S16x128_S16x256_d1) bitsLt_bf16_f32

/-- The factor of a column of scores but for the key's scale. -/
def qsC (r0 r1 : FVec F S8x128 .f32) : FVec F S1x256 .f32 :=
  mulf (extractStridedSlice S1x256 ![0, 0] (concatenate S8x256 1 [⟨S8x128, r0⟩, ⟨S8x128, r1⟩] concatenates_S8x128_S8x128_S8x256_d1) slices_S8x256_o0_0_S1x256)
    (broadcast S1x256 (Named.named Cert.KernelIdeal.κ "score_log2e" 0x3E0293EE#32))

/-- A tile of query codes unpacked: two rows of integers from every row of bytes. -/
def qdec (x : Vec F S1x1x64x256 .i8) : FVec F S128x256 .bf16 :=
  have w : IVec S64x256 32 := extui 32 (shapeCast S64x256 x shapeCasts_S1x1x64x256_S64x256) natLt_8_32
  sitofp .bf16 (shapeCast S128x256 (concatenate S64x2x256 1
    [⟨S64x1x256, shapeCast S64x1x256 (shrsi (shli w (broadcast S64x256 28#32)) (broadcast S64x256 28#32)) shapeCasts_S64x256_S64x1x256⟩,
     ⟨S64x1x256, shapeCast S64x1x256 (shrsi (shli w (broadcast S64x256 24#32)) (broadcast S64x256 28#32)) shapeCasts_S64x256_S64x1x256⟩]
    concatenates_S64x1x256_S64x1x256_S64x2x256_d1) shapeCasts_S64x2x256_S128x256)

/-- The right operand of the score product for head 0. -/
def rhs0 (q : FVec F S128x256 .bf16) (w : FVec F S16x256 .bf16) : FVec F S256x256 .bf16 :=
  concatenate S256x256 0 [⟨S128x256, q⟩, ⟨S16x256, w⟩, ⟨S112x256, broadcast S112x256 (Scalar.ofBits .bf16 0x0000#16)⟩]
    concatenates_S128x256_S16x256_S112x256_S256x256_d0

/-- The right operand of the score product for a later head, the zero rows before and behind it of any number. -/
def rhsS (s₁ s₂ : Shape) (hc : Shape.Concatenates [S128x256, s₁, S16x256, s₂] S256x256 0)
    (q : FVec F S128x256 .bf16) (w : FVec F S16x256 .bf16) : FVec F S256x256 .bf16 :=
  concatenate S256x256 0 [⟨S128x256, q⟩, ⟨s₁, broadcast s₁ (Scalar.ofBits .bf16 0x0000#16)⟩, ⟨S16x256, w⟩,
    ⟨s₂, broadcast s₂ (Scalar.ofBits .bf16 0x0000#16)⟩] hc

/-- The score product of one block of keys. -/
def dotA (kc : Vec F S256x128 .bf16) (ext : Vec F S1x256x128 .bf16) (rhs : FVec F S256x256 .bf16) : FVec F S256x256 .f32 :=
  matmul dot_S256x256_S256x256_S256x256_1_0_0_1_n_n none
    (concatenate S256x256 1 [⟨S256x128, kc⟩, ⟨S256x128, shapeCast S256x128 ext shapeCasts_S1x256x128_S256x128⟩] concatenates_S256x128_S256x128_S256x256_d1)
    rhs (constant S256x256 .f32 0x00000000#32)

/-- 32 rows of a score block times their column factor. -/
def sl32 (off : Nat) (h : S256x256.Slices ![off, 0] S32x256) (c : FVec F S1x256 .f32) (a : FVec F S256x256 .f32) (ks : Elt F .f32) :
    FVec F S32x256 .f32 :=
  mulf (extractStridedSlice S32x256 ![off, 0] a h) (broadcastTo S32x256 (mulf c (broadcast S1x256 ks)) broadcasts_S1x256_S32x256)

/-- A block of scaled scores. -/
def scl (c : FVec F S1x256 .f32) (a : FVec F S256x256 .f32) (k0 k1 k2 k3 k4 k5 k6 k7 : Elt F .f32) : FVec F S256x256 .f32 :=
  concatenate S256x256 0 [⟨S32x256, sl32 0 slices_S256x256_o0_0_S32x256 c a k0⟩, ⟨S32x256, sl32 32 slices_S256x256_o32_0_S32x256 c a k1⟩,
    ⟨S32x256, sl32 64 slices_S256x256_o64_0_S32x256 c a k2⟩, ⟨S32x256, sl32 96 slices_S256x256_o96_0_S32x256 c a k3⟩,
    ⟨S32x256, sl32 128 slices_S256x256_o128_0_S32x256 c a k4⟩, ⟨S32x256, sl32 160 slices_S256x256_o160_0_S32x256 c a k5⟩,
    ⟨S32x256, sl32 192 slices_S256x256_o192_0_S32x256 c a k6⟩, ⟨S32x256, sl32 224 slices_S256x256_o224_0_S32x256 c a k7⟩]
    concatenates_S32x256_S32x256_S32x256_S32x256_S32x256_S32x256_S32x256_S32x256_S256x256_d0

/-- The block on the diagonal, masked. -/
def diag (msk : IVec S128x128 1) (ninf : FVec F S128x128 .f32) (a : FVec F S256x256 .f32) : FVec F S256x256 .f32 :=
  concatenate S256x256 0
    [⟨S128x256, concatenate S128x256 1 [⟨S128x128, select msk ninf (extractStridedSlice S128x128 ![0, 0] a slices_S256x256_o0_0_S128x128)⟩,
        ⟨S128x128, extractStridedSlice S128x128 ![0, 128] a slices_S256x256_o0_128_S128x128⟩] concatenates_S128x128_S128x128_S128x256_d1⟩,
     ⟨S128x256, concatenate S128x256 1 [⟨S128x128, ninf⟩,
        ⟨S128x128, select msk ninf (extractStridedSlice S128x128 ![128, 128] a slices_S256x256_o128_128_S128x128)⟩] concatenates_S128x128_S128x128_S128x256_d1⟩]
    concatenates_S128x256_S128x256_S256x256_d0

/-- Column maxima of the first blocks, kept in eight rows. -/
def m8 (s : ℕ → FVec F S256x256 .f32) : ℕ → FVec F S8x256 .f32
  | 0 => broadcast S8x256 (Scalar.ofBits .f32 0xFF800000#32)
  | n + 1 => maximumf (m8 s n) (multiReduction .maximumf [0] S8x256 (shapeCast S32x8x256 (s n) shapeCasts_S256x256_S32x8x256) 0xFF800000#32 reduces_S32x8x256_S8x256 (.inl rfl) rfl)
/-- The column maxima. -/
def mrow (s : ℕ → FVec F S256x256 .f32) (n : ℕ) : FVec F S1x256 .f32 :=
  shapeCast S1x256 (multiReduction .maximumf [0] S256 (m8 s n) 0xFF800000#32 reduces_S8x256_S256 (.inl rfl) rfl) shapeCasts_S256_S1x256

/-- The exponentials of one block. -/
def ex (s : Vec F S256x256 .f32) (m : FVec F S1x256 .f32) : FVec F S256x256 .f32 :=
  exp2 (subf s (broadcastTo S256x256 m broadcasts_S1x256_S256x256))

/-- Column sums of the first blocks, kept in eight rows. -/
def l8 (e : ℕ → FVec F S256x256 .f32) : ℕ → FVec F S8x256 .f32
  | 0 => broadcast S8x256 (Scalar.ofBits .f32 0x00000000#32)
  | n + 1 => addf (l8 e n) (multiReduction .add [0] S8x256 (shapeCast S32x8x256 (e n) shapeCasts_S256x256_S32x8x256) 0x00000000#32 reduces_S32x8x256_S8x256 (.inl rfl) rfl)
/-- The factor that makes weights of exponentials. -/
def rrow (e : ℕ → FVec F S256x256 .f32) (n : ℕ) : FVec F S1x256 .f32 :=
  divf (broadcast S1x256 (Scalar.ofBits .f32 0x43800000#32))
    (shapeCast S1x256 (multiReduction .add [0] S256 (l8 e n) 0x00000000#32 reduces_S8x256_S256 (.inl rfl) rfl) shapeCasts_S256_S1x256)

/-- The weights of one block. -/
def p8 (e : Vec F S256x256 .f32) (r : FVec F S1x256 .f32) : FVec F S256x256 .fp8e4m3 :=
  truncf .fp8e4m3 (minimumf (maximumf (mulf e (broadcastTo S256x256 r broadcasts_S1x256_S256x256))
    (broadcast S256x256 (Scalar.ofBits .f32 0xC3E00000#32))) (broadcast S256x256 (Scalar.ofBits .f32 0x43E00000#32))) bitsLt_fp8e4m3_f32

/-- The product of values and weights over the first blocks. -/
def acc (v : ℕ → Vec F S1x1x128x256 .fp8e4m3) (p : ℕ → FVec F S256x256 .fp8e4m3) : ℕ → FVec F S128x256 .f32
  | 0 => broadcast S128x256 (Scalar.ofBits .f32 0x00000000#32)
  | n + 1 => addf (acc v p n) (matmul dot_S128x256_S256x256_S128x256_1_0_0_1_n_n none
      (shapeCast S128x256 (v n) shapeCasts_S1x1x128x256_S128x256) (p n) (constant S128x256 .f32 0x00000000#32))

/-- The gated output of the tile. -/
def yv (a : FVec F S128x256 .f32) (gate : Vec F S1x256x128 .bf16) (vs : Vec F S1x1x128 .f32) : FVec F S256x128 .f32 :=
  mulf (mulf (transpose S256x128 [1, 0] a transposes_S128x256_p1_0_S256x128)
      (broadcastTo S256x128 (mulf (shapeCast S1x128 vs shapeCasts_S1x1x128_S1x128) (broadcast S1x128 (Scalar.ofBits .f32 0x3B800000#32))) broadcasts_S1x128_S256x128))
    (divf (broadcast S256x128 (Scalar.ofBits .f32 0x3F800000#32))
      (addf (broadcast S256x128 (Scalar.ofBits .f32 0x3F800000#32))
        (exp2 (mulf (extf .f32 (shapeCast S256x128 gate shapeCasts_S1x256x128_S256x128) bitsLt_bf16_f32)
          (broadcast S256x128 (Named.named Cert.KernelIdeal.κ "neg_log2e" 0xBFB8AA3B#32))))))

/-- The output stored. -/
def outP (y : FVec F S256x128 .f32) : FVec F S1x256x128 .bf16 :=
  shapeCast S1x256x128 (truncf .bf16 y bitsLt_bf16_f32) shapeCasts_S256x128_S1x256x128

/-- A row's largest magnitude over 448. -/
def xr (y : FVec F S256x128 .f32) : FVec F S256x1 .f32 :=
  mulf (shapeCast S256x1 (multiReduction .maximumf [1] S256 (absf y) 0xFF800000#32 reduces_S256x128_S256 (.inl rfl) rfl) shapeCasts_S256_S256x1)
    (broadcast S256x1 (Scalar.ofBits .f32 0x3B124925#32))

/-- A row's exponent. -/
def er (y : FVec F S256x128 .f32) : FVec F S256x1 .f32 :=
  select (cmpf .oeq (xr y) (broadcast S256x1 (Scalar.ofBits .f32 0x00000000#32))) (broadcast S256x1 (Scalar.ofBits .f32 0x00000000#32))
    (addf (floor (mulf (log (xr y)) (broadcast S256x1 (Named.named Cert.KernelIdeal.κ "log2e" 0x3FB8AA3B#32))))
      (broadcast S256x1 (Scalar.ofBits .f32 0x3F800000#32)))

/-- The codes stored. -/
def codesP (y : FVec F S256x128 .f32) : FVec F S1x256x128 .fp8e4m3 :=
  shapeCast S1x256x128 (truncf .fp8e4m3 (minimumf (maximumf (mulf y (broadcastTo S256x128
      (exp2 (subf (broadcast S256x1 (Scalar.ofBits .f32 0x00000000#32)) (er y))) broadcasts_S256x1_S256x128))
    (broadcast S256x128 (Scalar.ofBits .f32 0xC3E00000#32))) (broadcast S256x128 (Scalar.ofBits .f32 0x43E00000#32))) bitsLt_fp8e4m3_f32) shapeCasts_S256x128_S1x256x128

/-- The scales gathered so far with one more head's column. -/
def scaleStep (h : BitVec 32) (y : FVec F S256x128 .f32) (prev : FVec F S256x128 .f32) : FVec F S256x128 .f32 :=
  select (cmpi .eq (iota .tc S256x128 32 [1] iota_S256x128_d1_w32) (broadcast S256x128 h))
    (broadcastTo S256x128 (shapeCast S256x1 (exp2 (er y)) shapeCasts_S256x1_S256x1) broadcasts_S256x1_S256x128) prev

end Defs

end Cert.Unit

end
-- ==== Proof.UnitA.lean ====
module

public import proofs.«01_k».proof.Proof.Unit
public import proofs.«01_k».proof.Proof.Consts

@[expose] public section

/-! What the parts of a tile are at the ideal instance, read at an index: up to the scores. -/

noncomputable section

namespace Cert.Unit

open Idealize.ShloMosaic Cert.KernelIdeal Cert.Alg
open Cert.KernelIdeal.Facts₀ Cert.KernelIdeal.Facts
open scoped BigOperators

theorem row_apply (grp : IVec S8x128 32) (hg : ∀ j, grp j = BitVec.ofNat 32 ((j 1).val / 32)) (q : ℕ → EReal) (j : S8x128.Idx) :
    row (F := Ideal) grp (q 0) (q 1) (q 2) (q 3) j = q ((j 1).val / 32) := by
  have h1 : (j 1).val < 128 := (j 1).isLt
  pointwise [row, hg]
  obtain ⟨n, hn⟩ : ∃ n, n = (j 1).val / 32 := ⟨_, rfl⟩
  have h2 : n < 4 := by omega
  rw [← hn]
  interval_cases n <;> rfl

theorem pick_apply {s : Shape} (idx : IVec s 32) (a0 a1 a2 a3 a4 a5 a6 a7 : FVec Ideal s .f32) (j : s.Idx) (r : ℕ) (hr : r < 8)
    (h : idx j = BitVec.ofNat 32 r) :
    pick (F := Ideal) idx a0 a1 a2 a3 a4 a5 a6 a7 j = ![a0 j, a1 j, a2 j, a3 j, a4 j, a5 j, a6 j, a7 j] ⟨r, hr⟩ := by
  pointwise [pick, h]
  interval_cases r <;> rfl

theorem pc0_apply {s : Shape} (x : FVec Ideal s .f32) (j : s.Idx) : pc0 x j = x j := by pointwise [pc0]
theorem pc1_apply {s : Shape} (x : FVec Ideal s .f32) (j : s.Idx) (r : ℝ) (h : x j = r) : pc1 x j = 0 := by
  pointwise [pc1, pc0_apply, h]
  rw [← EReal.coe_sub, sub_self, EReal.coe_zero]
theorem pc2_apply {s : Shape} (x : FVec Ideal s .f32) (j : s.Idx) (r : ℝ) (h : x j = r) : pc2 x j = 0 := by
  have h1 := pc1_apply x j r h
  pointwise [pc2, pc0_apply, h1, h]
  rw [← EReal.coe_sub, sub_self]
  simp

theorem winv_apply (r : FVec Ideal S8x128 .f32) (j : S8x128.Idx) (q : ℝ) (h : r j = q) (hq : fl ≤ q) :
    winv r j = ((1 / q : ℝ) : EReal) := by
  have hf : (0 : ℝ) < fl := by unfold fl; positivity
  have h0 : q ≠ 0 := by linarith
  pointwise [winv, h]
  rw [cfl, max_eq_left (EReal.coe_le_coe_iff.2 hq), Ideal.div, if_neg (by simpa using h0), one_div, EReal.coe_inv, one_mul]

theorem wpick_apply (sub : IVec S8x128 32) (hs : ∀ j, sub j = BitVec.ofNat 32 (j 0).val) (r : FVec Ideal S8x128 .f32) (j : S8x128.Idx)
    (q : ℝ) (h : r j = q) (hq : fl ≤ q) :
    wpick sub r j = if (j 0).val % 3 = 0 then ((1 / q : ℝ) : EReal) else 0 := by
  have h0 : (j 0).val < 8 := (j 0).isLt
  have hw := winv_apply r j q h hq
  rw [wpick, pick_apply _ _ _ _ _ _ _ _ _ j _ h0 (hs j), pc0_apply, pc1_apply _ _ _ hw, pc2_apply _ _ _ hw, hw]
  obtain ⟨n, hn⟩ : ∃ n, n = (j 0).val := ⟨_, rfl⟩
  simp only [← hn] at h0 ⊢
  interval_cases n <;> rfl

/-- The reciprocals' rows: row `r` of half `p` stands in quadrant `(p, p)`, and only every third row is not zero. -/
def W16 (q : ℕ → ℝ) (r c : ℕ) : EReal := if r / 8 = c / 128 ∧ r % 8 % 3 = 0 then ((1 / q (c / 32) : ℝ) : EReal) else 0
theorem W16_pos {q : ℕ → ℝ} {r c : ℕ} (h : r / 8 = c / 128 ∧ r % 8 % 3 = 0) : W16 q r c = ((1 / q (c / 32) : ℝ) : EReal) := if_pos h
theorem W16_neg {q : ℕ → ℝ} {r c : ℕ} (h : ¬ (r / 8 = c / 128 ∧ r % 8 % 3 = 0)) : W16 q r c = 0 := if_neg h

/-- The rows of the right operand: the codes, then for head `h` its own sixteen rows among zeros. -/
def RH (h : ℕ) (Q W : ℕ → ℕ → EReal) (r c : ℕ) : EReal :=
  if r < 128 then Q r c else if (r - 128) / 16 = h then W ((r - 128) % 16) c else 0
theorem RH_q {h : ℕ} {Q W : ℕ → ℕ → EReal} {r c : ℕ} (hr : r < 128) : RH h Q W r c = Q r c := if_pos hr
theorem RH_w {h : ℕ} {Q W : ℕ → ℕ → EReal} {r c n : ℕ} (hr : ¬ r < 128) (hn : (r - 128) / 16 = h) (e : n = (r - 128) % 16) :
    RH h Q W r c = W n c := by rw [RH, if_neg hr, if_pos hn, e]
theorem RH_0 {h : ℕ} {Q W : ℕ → ℕ → EReal} {r c : ℕ} (hr : ¬ r < 128) (hn : ¬ (r - 128) / 16 = h) : RH h Q W r c = 0 := by
  rw [RH, if_neg hr, if_neg hn]

theorem w16_apply (sub : IVec S8x128 32) (hs : ∀ j, sub j = BitVec.ofNat 32 (j 0).val) (r0 r1 : FVec Ideal S8x128 .f32)
    (q : ℕ → ℝ) (hq : ∀ t, fl ≤ q t) (h0 : ∀ j, r0 j = (q ((j 1).val / 32) : EReal)) (h1 : ∀ j, r1 j = (q (4 + (j 1).val / 32) : EReal))
    (j : S16x256.Idx) : w16 sub r0 r1 j = W16 q (j 0).val (j 1).val := by
  have hj0 : (j 0).val < 16 := (j 0).isLt
  have hj1 : (j 1).val < 256 := (j 1).isLt
  have e0 : ∀ (a : Fin 8) (b : Fin 128) (p c : ℕ), a.val = p → b.val = c → wpick sub r0 (ix2 a b) = W16 q p c := by
    intro a b p c ha hb
    have := a.isLt
    have := b.isLt
    rw [wpick_apply sub hs r0 _ _ (h0 _) (hq _)]
    show (if a.val % 3 = 0 then ((1 / q (b.val / 32) : ℝ) : EReal) else 0) = _
    have hp : p % 8 = a.val := by omega
    by_cases h3 : a.val % 3 = 0
    · rw [if_pos h3, W16_pos ⟨by omega, by rw [hp]; exact h3⟩, hb]
    · rw [if_neg h3, W16_neg (fun hh => h3 (by rw [← hp]; exact hh.2))]
  have e1 : ∀ (a : Fin 8) (b : Fin 128) (p c : ℕ), a.val + 8 = p → b.val + 128 = c → wpick sub r1 (ix2 a b) = W16 q p c := by
    intro a b p c ha hb
    have := a.isLt
    have := b.isLt
    rw [wpick_apply sub hs r1 _ _ (h1 _) (hq _)]
    show (if a.val % 3 = 0 then ((1 / q (4 + b.val / 32) : ℝ) : EReal) else 0) = _
    have hp : p % 8 = a.val := by omega
    by_cases h3 : a.val % 3 = 0
    · rw [if_pos h3, W16_pos ⟨by omega, by rw [hp]; exact h3⟩, show 4 + b.val / 32 = c / 32 by omega]
    · rw [if_neg h3, W16_neg (fun hh => h3 (by rw [← hp]; exact hh.2))]
  pointwise [w16]
  split_ifs <;> first
    | contradiction
    | exact e0 _ _ _ _ rfl rfl
    | exact (W16_neg (by omega)).symm
    | exact e1 _ _ _ _ (Nat.sub_add_cancel (by omega)) (Nat.sub_add_cancel (by omega))

theorem rhs0_apply (q : FVec Ideal S128x256 .bf16) (w : FVec Ideal S16x256 .bf16) (j : S256x256.Idx) (Q W : ℕ → ℕ → EReal)
    (hQ : ∀ j, q j = Q (j 0).val (j 1).val) (hW : ∀ j, w j = W (j 0).val (j 1).val) :
    rhs0 q w j = RH 0 Q W (j 0).val (j 1).val := by
  have hj0 : (j 0).val < 256 := (j 0).isLt
  pointwise [rhs0]
  split_ifs <;> first
    | contradiction
    | exact (hQ _).trans (RH_q (by assumption)).symm
    | exact (RH_0 (by omega) (by omega)).symm
    | exact (hW _).trans (RH_w (by omega) (by omega) (show (j 0).val - 128 = _ by omega)).symm

theorem rhsS_apply (h : ℕ) (hh : h < 7) (h0 : 0 < h) (s₁ s₂ : Shape) (e₁ : s₁ = ⟨2, ![16 * h, 256]⟩) (e₂ : s₂ = ⟨2, ![112 - 16 * h, 256]⟩)
    (hc : Shape.Concatenates [S128x256, s₁, S16x256, s₂] S256x256 0)
    (q : FVec Ideal S128x256 .bf16) (w : FVec Ideal S16x256 .bf16) (j : S256x256.Idx) (Q W : ℕ → ℕ → EReal)
    (hQ : ∀ j, q j = Q (j 0).val (j 1).val) (hW : ∀ j, w j = W (j 0).val (j 1).val) :
    rhsS s₁ s₂ hc q w j = RH h Q W (j 0).val (j 1).val := by
  have hj0 : (j 0).val < 256 := (j 0).isLt
  subst e₁ e₂
  pointwise [rhsS]
  split_ifs <;> first
    | contradiction
    | exact (hQ _).trans (RH_q (by assumption)).symm
    | exact (RH_0 (by omega) (by omega)).symm
    | exact (hW _).trans (RH_w (by omega) (by omega) (show (j 0).val - 128 - 16 * h = _ by omega)).symm

/-- The unpacked codes: an even row is the low half of a byte, an odd row the high half. -/
def nib (x : BitVec 8) (d : ℕ) : ℝ := if d % 2 = 0 then (((x.setWidth 32 <<< 28).sshiftRight 28).toInt : ℝ) else (((x.setWidth 32 <<< 24).sshiftRight 28).toInt : ℝ)

theorem qdec_apply (x : Vec Ideal S1x1x64x256 .i8) (j : S128x256.Idx) (X : ℕ → ℕ → BitVec 8)
    (hX : ∀ j, x j = X (j 2).val (j 3).val) :
    qdec (F := Ideal) x j = (nib (X ((j 0).val / 2) (j 1).val) (j 0).val : EReal) := by
  have hj0 : (j 0).val < 128 := (j 0).isLt
  pointwise [qdec]
  simp only [hX]
  by_cases h : (j 0).val % 2 = 0
  · rw [dif_pos (by omega), nib, if_pos h]; rfl
  · rw [dif_neg (by omega), nib, if_neg h]; rfl

/-- The product of one block: the dot of the codes and the mean's share, which only one of the extra columns carries. -/
theorem dotA_apply (kc : Vec Ideal S256x128 .bf16) (ext : Vec Ideal S1x256x128 .bf16) (rhs : FVec Ideal S256x256 .bf16)
    (h : ℕ) (hh : h < 7) (K Q : ℕ → ℕ → ℝ) (B : ℕ → ℕ → ℝ) (q : ℕ → ℝ)
    (hK : ∀ j, kc j = (K (j 0).val (j 1).val : EReal))
    (hB : ∀ j, ext j = if (j 2).val % 8 < 3 then (B (j 1).val (j 2).val : EReal) else 0)
    (hR : ∀ j, rhs j = RH h (fun d c => (Q d c : EReal)) (W16 q) (j 0).val (j 1).val)
    (j : S256x256.Idx) :
    dotA (F := Ideal) kc ext rhs j = ((∑ d : Fin 128, K (j 0).val d.val * Q d.val (j 1).val : ℝ) : EReal)
      + (B (j 0).val (16 * h + 8 * ((j 1).val / 128)) : EReal) * ((1 / q ((j 1).val / 32) : ℝ) : EReal) := by
  have hj1 : (j 1).val < 256 := (j 1).isLt
  pointwise [dotA, hK, hB, hR]
  generalize (j 0).val = p at *
  generalize (j 1).val = c at *
  have e1 : ∑ x : Fin 128, (K p x.val : EReal) * RH h (fun d c => (Q d c : EReal)) (W16 q) x.val c
      = ((∑ d : Fin 128, K p d.val * Q d.val c : ℝ) : EReal) := by
    rw [← coe_dot]
    exact Finset.sum_congr rfl fun d _ => by rw [RH_q d.isLt]
  refine (congrArg₂ (· + ·) e1 ?_ : _)
  · have hlt : 16 * h + 8 * (c / 128) < 128 := by omega
    obtain ⟨y, hy⟩ : ∃ y : Fin 128, y.val = 16 * h + 8 * (c / 128) := ⟨⟨_, hlt⟩, rfl⟩
    rw [Finset.sum_eq_single y]
    · have e8 : 8 * (c / 128) / 8 = c / 128 := by omega
      have e9 : 8 * (c / 128) % 8 % 3 = 0 := by omega
      rw [RH_w (n := 8 * (c / 128)) (by omega) (by omega) (by omega), W16_pos ⟨e8, e9⟩, if_pos (by omega), hy]
    · intro x _ hx
      have hx' : x.val ≠ 16 * h + 8 * (c / 128) := fun e => hx (Fin.ext (e.trans hy.symm))
      have := x.isLt
      by_cases h8 : x.val % 8 < 3
      · have : RH h (fun d c => (Q d c : EReal)) (W16 q) (128 + x.val) c = 0 := by
          by_cases h16 : x.val / 16 = h
          · rw [RH_w (n := x.val % 16) (by omega) (by omega) (by omega), W16_neg ?_]
            rintro ⟨p1, p2⟩
            have : x.val % 16 % 8 = x.val % 8 := by omega
            have : x.val % 8 = 0 := by omega
            omega
          · exact RH_0 (by omega) (by omega)
        rw [this, mul_zero]
      · rw [if_neg h8, zero_mul]
    · intro hc
      exact absurd (Finset.mem_univ _) hc

theorem qsC_apply (r0 r1 : FVec Ideal S8x128 .f32) (q : ℕ → ℝ) (h0 : ∀ j, r0 j = (q ((j 1).val / 32) : EReal))
    (h1 : ∀ j, r1 j = (q (4 + (j 1).val / 32) : EReal)) (j : S1x256.Idx) :
    qsC r0 r1 j = (q ((j 1).val / 32) : EReal) * ((sc * L : ℝ) : EReal) := by
  have hj1 : (j 1).val < 256 := (j 1).isLt
  have hn : (Named.named (F := Ideal) Cert.KernelIdeal.κ "score_log2e" (φ := .f32) 0x3E0293EE#32) = ((sc * L : ℝ) : EReal) := by
    rw [show sc * L = (11863283 / 134217728) * (Real.log 2)⁻¹ by norm_num [sc, L]]
    exact IdealRules.named_const.ideal_named_scalar _ _ _ _ rfl
  pointwise [qsC, h0, h1]
  rw [hn]
  split_ifs
  · rfl
  · rw [show 4 + ((j 1).val - 128) / 32 = (j 1).val / 32 by omega]

theorem scl_apply (c : FVec Ideal S1x256 .f32) (a : FVec Ideal S256x256 .f32) (k : ℕ → EReal) (j : S256x256.Idx) :
    scl (F := Ideal) c a (k 0) (k 1) (k 2) (k 3) (k 4) (k 5) (k 6) (k 7) j = a j * (c (ix2 0 (j 1)) * k ((j 0).val / 32)) := by
  have hj0 : (j 0).val < 256 := (j 0).isLt
  have key : ∀ (n : ℕ) (p : Fin 256), p = j 0 → n = (j 0).val / 32 →
      a (ix2 p (j 1)) * (c (ix2 0 (j 1)) * k n) = a j * (c (ix2 0 (j 1)) * k ((j 0).val / 32)) := by
    rintro n p rfl rfl
    rw [← eq_ix2]
  pointwise [scl, sl32]
  split_ifs <;> first
    | (rw [show (j 0).val / 32 = 0 by omega]; done)
    | exact key _ _ (Fin.ext (by simp only []; omega)) (by omega)

theorem diag_apply (msk : IVec S128x128 1) (hm : ∀ j, msk j = if (j 1).val < (j 0).val then 1#1 else 0#1) (ninf : FVec Ideal S128x128 .f32)
    (hn : ∀ j, ninf j = ⊥) (a : FVec Ideal S256x256 .f32) (j : S256x256.Idx) :
    diag msk ninf a j = if (j 0).val ≤ (j 1).val then a j else ⊥ := by
  have hj0 : (j 0).val < 256 := (j 0).isLt
  have hj1 : (j 1).val < 256 := (j 1).isLt
  pointwise [diag, hm, hn]
  have eq : ∀ p c : Fin 256, p = j 0 → c = j 1 → a (ix2 p c) = a j := by
    rintro p c rfl rfl
    rw [← eq_ix2]
  have sel : ∀ (p c : ℕ) (z : EReal), Scalar.select (if c < p then 1#1 else 0#1) ⊥ z = if p ≤ c then z else ⊥ := by
    intro p c z
    by_cases h : c < p
    · rw [if_pos h, if_neg (by omega)]; rfl
    · rw [if_neg h, if_pos (by omega)]; rfl
  have sel' : ∀ (p c : ℕ) (z : EReal), 128 ≤ p → 128 ≤ c →
      Scalar.select (if c - 128 < p - 128 then 1#1 else 0#1) ⊥ z = if p ≤ c then z else ⊥ := by
    intro p c z hp hc
    by_cases h : c < p
    · rw [if_pos (by omega), if_neg (by omega)]; rfl
    · rw [if_neg (by omega), if_pos (by omega)]; rfl
  by_cases h0 : (j 0).val < 128 <;> by_cases h1 : (j 1).val < 128
  · rw [dif_pos h0, dif_pos h1]
    exact sel _ _ _
  · rw [dif_pos h0, dif_neg h1]
    exact (eq _ _ rfl (Fin.ext (Nat.add_sub_cancel' (by omega)))).trans (if_pos (by omega)).symm
  · rw [dif_neg h0, dif_pos h1]
    exact (if_neg (by omega)).symm
  · rw [dif_neg h0, dif_neg h1, eq _ _ (Fin.ext (Nat.add_sub_cancel' (by omega))) (Fin.ext (Nat.add_sub_cancel' (by omega)))]
    exact sel' _ _ _ (by omega) (by omega)

end Cert.Unit

end
-- ==== Proof.Args.lean ====
module

public import proofs.«01_k».proof.Proof.Spec
public import proofs.«01_k».proof.Proof.UnitA

@[expose] public section

/-! The mathematics of a batch and a key head, read off the eight argument arrays. -/

noncomputable section

namespace Cert.Alg

open Idealize.ShloMosaic Cert.Unit

/-- An array's element at natural-number places. -/
def at3 {α : Type} {n0 n1 n2 : ℕ} [NeZero n0] [NeZero n1] [NeZero n2] (a : (⟨3, ![n0, n1, n2]⟩ : Shape).Idx → α) (i j k : ℕ) : α :=
  a (Idealize.ShloMosaic.ix3 (Fin.ofNat n0 i) (Fin.ofNat n1 j) (Fin.ofNat n2 k))
def at4 {α : Type} {n0 n1 n2 n3 : ℕ} [NeZero n0] [NeZero n1] [NeZero n2] [NeZero n3] (a : (⟨4, ![n0, n1, n2, n3]⟩ : Shape).Idx → α) (i j k l : ℕ) : α :=
  a (Idealize.ShloMosaic.ix4 (Fin.ofNat n0 i) (Fin.ofNat n1 j) (Fin.ofNat n2 k) (Fin.ofNat n3 l))

theorem at3_of {α : Type} {n0 n1 n2 : ℕ} [NeZero n0] [NeZero n1] [NeZero n2] (a : (⟨3, ![n0, n1, n2]⟩ : Shape).Idx → α) (x : (⟨3, ![n0, n1, n2]⟩ : Shape).Idx)
    {i j k : ℕ} (h0 : (x 0).val = i) (h1 : (x 1).val = j) (h2 : (x 2).val = k) : a x = at3 a i j k := by
  subst h0 h1 h2
  refine congrArg a (funext fun d => Fin.ext ?_)
  fin_cases d
  · exact (Nat.mod_eq_of_lt (x 0).isLt).symm
  · exact (Nat.mod_eq_of_lt (x 1).isLt).symm
  · exact (Nat.mod_eq_of_lt (x 2).isLt).symm

theorem at4_of {α : Type} {n0 n1 n2 n3 : ℕ} [NeZero n0] [NeZero n1] [NeZero n2] [NeZero n3] (a : (⟨4, ![n0, n1, n2, n3]⟩ : Shape).Idx → α)
    (x : (⟨4, ![n0, n1, n2, n3]⟩ : Shape).Idx)
    {i j k l : ℕ} (h0 : (x 0).val = i) (h1 : (x 1).val = j) (h2 : (x 2).val = k) (h3 : (x 3).val = l) : a x = at4 a i j k l := by
  subst h0 h1 h2 h3
  refine congrArg a (funext fun d => Fin.ext ?_)
  fin_cases d
  · exact (Nat.mod_eq_of_lt (x 0).isLt).symm
  · exact (Nat.mod_eq_of_lt (x 1).isLt).symm
  · exact (Nat.mod_eq_of_lt (x 2).isLt).symm
  · exact (Nat.mod_eq_of_lt (x 3).isLt).symm

/-- The eight argument arrays: query codes, query scales, query means, key codes, key scales, value codes, value scales, gates. -/
structure Args where
  qc : (⟨4, ![2, 1024, 28, 64]⟩ : Shape).Idx → BitVec 8
  qs : (⟨3, ![2, 32, 28]⟩ : Shape).Idx → EReal
  qm : (⟨4, ![2, 8, 28, 128]⟩ : Shape).Idx → EReal
  kc : (⟨4, ![2, 1024, 4, 64]⟩ : Shape).Idx → BitVec 8
  ks : (⟨3, ![2, 32, 4]⟩ : Shape).Idx → EReal
  v : (⟨4, ![2, 1024, 4, 128]⟩ : Shape).Idx → EReal
  vs : (⟨3, ![2, 4, 128]⟩ : Shape).Idx → EReal
  g : (⟨3, ![2, 1024, 3584]⟩ : Shape).Idx → EReal

namespace Args
variable (A : Args)

/-- A query's code byte. -/
def CQ (b g h d q : ℕ) : BitVec 8 := at4 A.qc b q (7 * g + h) d
/-- A key's code byte. -/
def CK (b g d k : ℕ) : BitVec 8 := at4 A.kc b k g d

/-- The mathematics of batch `b` and key head `g`. -/
def pt (b g : ℕ) : Pt where
  K k d := nib (A.CK b g (d / 2) k) d
  Q h d q := nib (A.CQ b g h (d / 2) q) d
  M h n d := (at4 A.qm b n (7 * g + h) d).toReal
  s h t := max fl (at3 A.qs b t (7 * g + h)).toReal
  ks t := at3 A.ks b t g
  v d k := at4 A.v b k g d
  vs d := at3 A.vs b g d
  g h q d := at3 A.g b q (128 * (7 * g + h) + d)
  hs h t := le_max_left _ _

/-- What the precondition says: every query scale is finite and at least the least scale, every query mean is finite. -/
structure Ok : Prop where
  qs : ∀ x, ((fl : ℝ) : EReal) ≤ A.qs x ∧ A.qs x < ⊤
  qm : ∀ x, max (A.qm x) (-(A.qm x)) < ⊤

variable {A}

theorem Ok.scale (ok : A.Ok) (b g h t : ℕ) : at3 A.qs b t (7 * g + h) = (((A.pt b g).s h t : ℝ) : EReal) := by
  obtain ⟨h1, h2⟩ := ok.qs (Idealize.ShloMosaic.ix3 (Fin.ofNat 2 b) (Fin.ofNat 32 t) (Fin.ofNat 28 (7 * g + h)))
  have hb : at3 A.qs b t (7 * g + h) ≠ ⊥ := fun e => absurd (e ▸ h1 : ((fl : ℝ) : EReal) ≤ ⊥) (by simp)
  have hr : ((at3 A.qs b t (7 * g + h)).toReal : EReal) = at3 A.qs b t (7 * g + h) := EReal.coe_toReal h2.ne hb
  show _ = ((max fl (at3 A.qs b t (7 * g + h)).toReal : ℝ) : EReal)
  rw [max_eq_right, hr]
  rw [← EReal.coe_le_coe_iff, hr]
  exact h1

theorem Ok.mean (ok : A.Ok) (b g h n d : ℕ) : at4 A.qm b n (7 * g + h) d = (((A.pt b g).M h n d : ℝ) : EReal) := by
  have h1 := ok.qm (Idealize.ShloMosaic.ix4 (Fin.ofNat 2 b) (Fin.ofNat 8 n) (Fin.ofNat 28 (7 * g + h)) (Fin.ofNat 128 d))
  refine (EReal.coe_toReal (fun e => ?_) (fun e => ?_)).symm
  · rw [at4] at e; rw [e] at h1; simp at h1
  · rw [at4] at e; rw [e] at h1; simp at h1

end Args

end Cert.Alg

end
-- ==== Proof.Shape.lean ====
module

public import proofs.«01_k».proof.Proof.Unit

@[expose] public section

/-! The tile's operations written out for each number of key blocks, as the printed program nests them. -/

noncomputable section

namespace Cert.Unit

open Idealize.ShloMosaic Idealize.ShloMosaic.ValueIdx Cert.KernelIdeal
open Cert.KernelIdeal.Facts₀ Cert.KernelIdeal.Facts

section Defs
variable {F : FTy → Type} [FloatOps F] [Named F]

/-- One more block's column maxima. -/
def m8s (a : FVec F S8x256 .f32) (s : FVec F S256x256 .f32) : FVec F S8x256 .f32 :=
  maximumf a (multiReduction .maximumf [0] S8x256 (shapeCast S32x8x256 s shapeCasts_S256x256_S32x8x256) 0xFF800000#32 reduces_S32x8x256_S8x256 (.inl rfl) rfl)
/-- No block's column maxima. -/
def m8z : FVec F S8x256 .f32 := broadcast S8x256 (Scalar.ofBits .f32 0xFF800000#32)
/-- The maxima of the eight rows. -/
def mfin (a : FVec F S8x256 .f32) : FVec F S1x256 .f32 :=
  shapeCast S1x256 (multiReduction .maximumf [0] S256 a 0xFF800000#32 reduces_S8x256_S256 (.inl rfl) rfl) shapeCasts_S256_S1x256

/-- One more block's column sums. -/
def l8s (a : FVec F S8x256 .f32) (e : FVec F S256x256 .f32) : FVec F S8x256 .f32 :=
  addf a (multiReduction .add [0] S8x256 (shapeCast S32x8x256 e shapeCasts_S256x256_S32x8x256) 0x00000000#32 reduces_S32x8x256_S8x256 (.inl rfl) rfl)
/-- No block's column sums. -/
def l8z : FVec F S8x256 .f32 := broadcast S8x256 (Scalar.ofBits .f32 0x00000000#32)
/-- The factor from the sums of the eight rows. -/
def rfin (a : FVec F S8x256 .f32) : FVec F S1x256 .f32 :=
  divf (broadcast S1x256 (Scalar.ofBits .f32 0x43800000#32))
    (shapeCast S1x256 (multiReduction .add [0] S256 a 0x00000000#32 reduces_S8x256_S256 (.inl rfl) rfl) shapeCasts_S256_S1x256)

/-- One more block's product of values and weights. -/
def accs (a : FVec F S128x256 .f32) (v : Vec F S1x1x128x256 .fp8e4m3) (p : FVec F S256x256 .fp8e4m3) : FVec F S128x256 .f32 :=
  addf a (matmul dot_S128x256_S256x256_S128x256_1_0_0_1_n_n none (shapeCast S128x256 v shapeCasts_S1x1x128x256_S128x256) p (constant S128x256 .f32 0x00000000#32))
/-- No block's product. -/
def accz : FVec F S128x256 .f32 := broadcast S128x256 (Scalar.ofBits .f32 0x00000000#32)

/-- A block as it is stored. -/
def st (s : FVec F S256x256 .f32) : FVec F S256x256 .f32 := shapeCast S256x256 s shapeCasts_S256x256_S256x256

/-- The eight rows of scales stored, the last of them zero. -/
def scaleP (y0 y1 y2 y3 y4 y5 y6 : FVec F S256x128 .f32) : FVec F S1x1x8x256 .f32 :=
  shapeCast S1x1x8x256 (extractStridedSlice S8x256 ![0, 0] (transpose S128x256 [1, 0]
    (scaleStep 6#32 y6 (scaleStep 5#32 y5 (scaleStep 4#32 y4 (scaleStep 3#32 y3 (scaleStep 2#32 y2 (scaleStep 1#32 y1 (scaleStep 0#32 y0
      (broadcast S256x128 (Scalar.ofBits .f32 0x00000000#32)))))))))
    transposes_S256x128_p1_0_S128x256) slices_S128x256_o0_0_S8x256) shapeCasts_S8x256_S1x1x8x256

end Defs

end Cert.Unit

end
-- ==== Proof.UnitC.lean ====
module

public import proofs.«01_k».proof.Proof.UnitA
public import proofs.«01_k».proof.Proof.Shape
public import proofs.«01_k».proof.Proof.Spec

@[expose] public section

/-! A block of scores, 256 keys by 256 queries, is the logarithm's factor times the specified scores. -/

noncomputable section

namespace Cert.Unit

open Idealize.ShloMosaic Idealize.ShloMosaic.ValueIdx Cert.KernelIdeal Cert.Alg
open Cert.KernelIdeal.Facts₀ Cert.KernelIdeal.Facts
open scoped BigOperators

variable (P : Pt)

/-- The rows of query scales of query block `i`: the first half's. -/
theorem rowLo {h i : ℕ} {grp : IVec S8x128 32} {r : FVec Ideal S8x128 .f32} {q0 q1 q2 q3 : EReal} (hr : r = row (F := Ideal) grp q0 q1 q2 q3)
    (hg : ∀ j, grp j = BitVec.ofNat 32 ((j 1).val / 32))
    (h0 : q0 = P.s h (8 * i)) (h1 : q1 = P.s h (8 * i + 1)) (h2 : q2 = P.s h (8 * i + 2)) (h3 : q3 = P.s h (8 * i + 3)) (j : S8x128.Idx) :
    r j = (P.s h (8 * i + (j 1).val / 32) : EReal) := by
  subst hr h0 h1 h2 h3
  exact row_apply grp hg (fun t => (P.s h (8 * i + t) : EReal)) j

/-- The second half's. -/
theorem rowHi {h i : ℕ} {grp : IVec S8x128 32} {r : FVec Ideal S8x128 .f32} {q0 q1 q2 q3 : EReal} (hr : r = row (F := Ideal) grp q0 q1 q2 q3)
    (hg : ∀ j, grp j = BitVec.ofNat 32 ((j 1).val / 32))
    (h0 : q0 = P.s h (8 * i + 4)) (h1 : q1 = P.s h (8 * i + 5)) (h2 : q2 = P.s h (8 * i + 6)) (h3 : q3 = P.s h (8 * i + 7)) (j : S8x128.Idx) :
    r j = (P.s h (8 * i + (4 + (j 1).val / 32)) : EReal) := by
  subst hr h0 h1 h2 h3
  exact row_apply grp hg (fun t => (P.s h (8 * i + (4 + t)) : EReal)) j

/-- The factors of the queries. -/
theorem colC {h i : ℕ} {C : FVec Ideal S1x256 .f32} {r0 r1 : FVec Ideal S8x128 .f32} (hC : C = qsC r0 r1)
    (h0 : ∀ j, r0 j = (P.s h (8 * i + (j 1).val / 32) : EReal)) (h1 : ∀ j, r1 j = (P.s h (8 * i + (4 + (j 1).val / 32)) : EReal)) (j : S1x256.Idx) :
    C j = (P.s h (8 * i + (j 1).val / 32) : EReal) * ((sc * L : ℝ) : EReal) := by
  subst hC
  exact qsC_apply r0 r1 (fun t => P.s h (8 * i + t)) h0 h1 j

/-- What the rows of the right operand are, for query block `i` of head `h`. -/
def RHP (h i : ℕ) (r c : ℕ) : EReal :=
  RH h (fun d c => (P.Q h d (256 * i + c) : EReal)) (W16 fun t => P.s h (8 * i + t)) r c

theorem w16P {h i : ℕ} {sub : IVec S8x128 32} (hs : ∀ j, sub j = BitVec.ofNat 32 (j 0).val) {r0 r1 : FVec Ideal S8x128 .f32}
    (h0 : ∀ j, r0 j = (P.s h (8 * i + (j 1).val / 32) : EReal)) (h1 : ∀ j, r1 j = (P.s h (8 * i + (4 + (j 1).val / 32)) : EReal)) (j : S16x256.Idx) :
    w16 sub r0 r1 j = W16 (fun t => P.s h (8 * i + t)) (j 0).val (j 1).val :=
  w16_apply sub hs r0 r1 (fun t => P.s h (8 * i + t)) (fun t => P.hs _ _) h0 h1 j

theorem qdecP {h i : ℕ} {x : Vec Ideal S1x1x64x256 .i8} {CQ : ℕ → ℕ → ℕ → BitVec 8} (hQ : ∀ h d q, P.Q h d q = nib (CQ h (d / 2) q) d)
    (hx : ∀ j, x j = CQ h (j 2).val (256 * i + (j 3).val)) (j : S128x256.Idx) :
    qdec (F := Ideal) x j = (P.Q h (j 0).val (256 * i + (j 1).val) : EReal) := by
  rw [qdec_apply x j (fun r c => CQ h r (256 * i + c)) hx, hQ]

/-- The right operand of the first head. -/
theorem rhs0P {i : ℕ} {R : FVec Ideal S256x256 .bf16} {x : Vec Ideal S1x1x64x256 .i8} {sub : IVec S8x128 32} {r0 r1 : FVec Ideal S8x128 .f32}
    (hR : R = rhs0 (qdec x) (w16 sub r0 r1))
    {CQ : ℕ → ℕ → ℕ → BitVec 8} (hQ : ∀ h d q, P.Q h d q = nib (CQ h (d / 2) q) d) (hs : ∀ j, sub j = BitVec.ofNat 32 (j 0).val)
    (hx : ∀ j, x j = CQ 0 (j 2).val (256 * i + (j 3).val))
    (h0 : ∀ j, r0 j = (P.s 0 (8 * i + (j 1).val / 32) : EReal)) (h1 : ∀ j, r1 j = (P.s 0 (8 * i + (4 + (j 1).val / 32)) : EReal)) (j : S256x256.Idx) :
    R j = RHP P 0 i (j 0).val (j 1).val := by
  subst hR
  exact rhs0_apply _ _ j (fun d c => (P.Q 0 d (256 * i + c) : EReal)) (W16 fun t => P.s 0 (8 * i + t)) (qdecP P hQ hx) (w16P P hs h0 h1)

/-- The right operand of a later head. -/
theorem rhsSP {h i : ℕ} {R : FVec Ideal S256x256 .bf16} {x : Vec Ideal S1x1x64x256 .i8} {sub : IVec S8x128 32} {r0 r1 : FVec Ideal S8x128 .f32}
    {s₁ s₂ : Shape} {hc : Shape.Concatenates [S128x256, s₁, S16x256, s₂] S256x256 0}
    (hR : R = rhsS s₁ s₂ hc (qdec x) (w16 sub r0 r1))
    (hh : h < 7) (hp : 0 < h) (e₁ : s₁ = ⟨2, ![16 * h, 256]⟩) (e₂ : s₂ = ⟨2, ![112 - 16 * h, 256]⟩)
    {CQ : ℕ → ℕ → ℕ → BitVec 8} (hQ : ∀ h d q, P.Q h d q = nib (CQ h (d / 2) q) d) (hs : ∀ j, sub j = BitVec.ofNat 32 (j 0).val)
    (hx : ∀ j, x j = CQ h (j 2).val (256 * i + (j 3).val))
    (h0 : ∀ j, r0 j = (P.s h (8 * i + (j 1).val / 32) : EReal)) (h1 : ∀ j, r1 j = (P.s h (8 * i + (4 + (j 1).val / 32)) : EReal)) (j : S256x256.Idx) :
    R j = RHP P h i (j 0).val (j 1).val := by
  subst hR
  exact rhsS_apply h hh hp s₁ s₂ e₁ e₂ hc _ _ j (fun d c => (P.Q h d (256 * i + c) : EReal)) (W16 fun t => P.s h (8 * i + t)) (qdecP P hQ hx) (w16P P hs h0 h1)

/-- The column of products with query means that lane `c` of the extension holds. -/
def BX (i k c : ℕ) : ℝ := if c < 112 then P.B (c / 16) (2 * i + c / 8 % 2) k else 0

/-- A scaled block before the mask. -/
theorem scores {h i b : ℕ} (hh : h < 7) {s : FVec Ideal S256x256 .f32} {C : FVec Ideal S1x256 .f32} {kc : Vec Ideal S256x128 .bf16} {ext : Vec Ideal S1x256x128 .bf16}
    {R : FVec Ideal S256x256 .bf16} {k0 k1 k2 k3 k4 k5 k6 k7 : EReal}
    (hs : s = scl (F := Ideal) C (dotA kc ext R) k0 k1 k2 k3 k4 k5 k6 k7)
    (hC : ∀ j, C j = (P.s h (8 * i + (j 1).val / 32) : EReal) * ((sc * L : ℝ) : EReal))
    (hR : ∀ j, R j = RHP P h i (j 0).val (j 1).val)
    (hk : ∀ j, kc j = (P.K (256 * b + (j 0).val) (j 1).val : EReal))
    (he : ∀ j, ext j = if (j 2).val % 8 < 3 then (BX P i (256 * b + (j 1).val) (j 2).val : EReal) else 0)
    (e0 : k0 = P.ks (8 * b)) (e1 : k1 = P.ks (8 * b + 1)) (e2 : k2 = P.ks (8 * b + 2)) (e3 : k3 = P.ks (8 * b + 3))
    (e4 : k4 = P.ks (8 * b + 4)) (e5 : k5 = P.ks (8 * b + 5)) (e6 : k6 = P.ks (8 * b + 6)) (e7 : k7 = P.ks (8 * b + 7)) (j : S256x256.Idx) :
    s j = (L : EReal) * ((sc : EReal) * P.ks ((256 * b + (j 0).val) / 32) *
      ((P.s h ((256 * i + (j 1).val) / 32) : EReal) * (P.dot h (256 * i + (j 1).val) (256 * b + (j 0).val) : EReal)
        + (P.B h ((256 * i + (j 1).val) / 128) (256 * b + (j 0).val) : EReal))) := by
  have hj0 : (j 0).val < 256 := (j 0).isLt
  have hj1 : (j 1).val < 256 := (j 1).isLt
  subst hs e0 e1 e2 e3 e4 e5 e6 e7
  have e := scl_apply C (dotA kc ext R) (fun t => P.ks (8 * b + t)) j
  refine (show _ = _ from e).trans ?_
  rw [hC, dotA_apply kc ext R h hh (fun k d => P.K (256 * b + k) d) (fun d c => P.Q h d (256 * i + c)) (fun k c => BX P i (256 * b + k) c)
    (fun t => P.s h (8 * i + t)) hk he hR j]
  have a1 : (256 * i + (j 1).val) / 32 = 8 * i + (j 1).val / 32 := by omega
  have a2 : (256 * b + (j 0).val) / 32 = 8 * b + (j 0).val / 32 := by omega
  have a3 : (256 * i + (j 1).val) / 128 = 2 * i + (j 1).val / 128 := by omega
  have b1 : 16 * h + 8 * ((j 1).val / 128) < 112 := by omega
  have b2 : (16 * h + 8 * ((j 1).val / 128)) / 16 = h := by omega
  have b3 : (16 * h + 8 * ((j 1).val / 128)) / 8 % 2 = (j 1).val / 128 := by omega
  rw [a1, a2, a3]
  simp only [BX, if_pos b1, b2, b3]
  have hne : P.s h (8 * i + (j 1).val / 32) ≠ 0 := by
    have := P.hs h (8 * i + (j 1).val / 32)
    have : (0 : ℝ) < fl := by unfold fl; positivity
    linarith
  exact score_eq hne sc (P.ks (8 * b + (j 0).val / 32))

/-- A block whose keys all come before its queries. -/
theorem scoreOff {h i b : ℕ} (hh : h < 7) (hb : b < i) {s : FVec Ideal S256x256 .f32} {C : FVec Ideal S1x256 .f32} {kc : Vec Ideal S256x128 .bf16} {ext : Vec Ideal S1x256x128 .bf16}
    {R : FVec Ideal S256x256 .bf16} {k0 k1 k2 k3 k4 k5 k6 k7 : EReal}
    (hs : s = scl (F := Ideal) C (dotA kc ext R) k0 k1 k2 k3 k4 k5 k6 k7)
    (hC : ∀ j, C j = (P.s h (8 * i + (j 1).val / 32) : EReal) * ((sc * L : ℝ) : EReal))
    (hR : ∀ j, R j = RHP P h i (j 0).val (j 1).val)
    (hk : ∀ j, kc j = (P.K (256 * b + (j 0).val) (j 1).val : EReal))
    (he : ∀ j, ext j = if (j 2).val % 8 < 3 then (BX P i (256 * b + (j 1).val) (j 2).val : EReal) else 0)
    (e0 : k0 = P.ks (8 * b)) (e1 : k1 = P.ks (8 * b + 1)) (e2 : k2 = P.ks (8 * b + 2)) (e3 : k3 = P.ks (8 * b + 3))
    (e4 : k4 = P.ks (8 * b + 4)) (e5 : k5 = P.ks (8 * b + 5)) (e6 : k6 = P.ks (8 * b + 6)) (e7 : k7 = P.ks (8 * b + 7)) (j : S256x256.Idx) :
    s j = (L : EReal) * P.X h (256 * i + (j 1).val) (256 * b + (j 0).val) := by
  have hj0 : (j 0).val < 256 := (j 0).isLt
  rw [scores P hh hs hC hR hk he e0 e1 e2 e3 e4 e5 e6 e7 j, Pt.X, if_pos (by omega)]

/-- The block on the diagonal. -/
theorem scoreDiag {h i : ℕ} (hh : h < 7) {msk : IVec S128x128 1} {ninf : FVec Ideal S128x128 .f32} {s : FVec Ideal S256x256 .f32} {C : FVec Ideal S1x256 .f32}
    {kc : Vec Ideal S256x128 .bf16} {ext : Vec Ideal S1x256x128 .bf16}
    {R : FVec Ideal S256x256 .bf16} {k0 k1 k2 k3 k4 k5 k6 k7 : EReal}
    (hs : s = diag msk ninf (scl (F := Ideal) C (dotA kc ext R) k0 k1 k2 k3 k4 k5 k6 k7))
    (hm : ∀ j, msk j = if (j 1).val < (j 0).val then 1#1 else 0#1) (hn : ∀ j, ninf j = ⊥)
    (hC : ∀ j, C j = (P.s h (8 * i + (j 1).val / 32) : EReal) * ((sc * L : ℝ) : EReal))
    (hR : ∀ j, R j = RHP P h i (j 0).val (j 1).val)
    (hk : ∀ j, kc j = (P.K (256 * i + (j 0).val) (j 1).val : EReal))
    (he : ∀ j, ext j = if (j 2).val % 8 < 3 then (BX P i (256 * i + (j 1).val) (j 2).val : EReal) else 0)
    (e0 : k0 = P.ks (8 * i)) (e1 : k1 = P.ks (8 * i + 1)) (e2 : k2 = P.ks (8 * i + 2)) (e3 : k3 = P.ks (8 * i + 3))
    (e4 : k4 = P.ks (8 * i + 4)) (e5 : k5 = P.ks (8 * i + 5)) (e6 : k6 = P.ks (8 * i + 6)) (e7 : k7 = P.ks (8 * i + 7)) (j : S256x256.Idx) :
    s j = (L : EReal) * P.X h (256 * i + (j 1).val) (256 * i + (j 0).val) := by
  subst hs
  rw [diag_apply msk hm ninf hn, Pt.X]
  by_cases hle : (j 0).val ≤ (j 1).val
  · rw [if_pos hle, if_pos (by omega)]
    exact scores P hh rfl hC hR hk he e0 e1 e2 e3 e4 e5 e6 e7 j
  · rw [if_neg hle, if_neg (by omega)]
    exact (EReal.coe_mul_bot_of_pos L_pos).symm

end Cert.Unit

end
-- ==== Proof.Ext.lean ====
module

public import proofs.«01_k».proof.Proof.UnitC
public import proofs.«01_k».proof.Proof.Gen.KernelIdeal.Skeleton

@[expose] public section

/-! The two scratch arrays that a grid point fills first: the decoded key codes, and the columns of products of the key
    codes with the query means. -/

noncomputable section

namespace Cert.Unit

open Idealize.ShloMosaic Idealize.ShloMosaic.ValueIdx Cert.KernelIdeal Cert.Alg
open Cert.KernelIdeal.Facts₀ Cert.KernelIdeal.Facts
open scoped BigOperators

section Defs
variable {F : FTy → Type} [FloatOps F] [Named F]

/-- The rows of query means of a query block, eight times each, and zeros behind them. -/
def bmq (x : Vec F S1x7x2x128 .bf16) : FVec F S128x128 .bf16 :=
  truncf .bf16 (concatenate S128x128 0 [⟨S112x128, shapeCast S112x128 (broadcastTo S7x2x8x128 (shapeCast S7x2x1x128
      (shapeCast S7x2x1x128 (extf .f32 (shapeCast S7x2x128 x shapeCasts_S1x7x2x128_S7x2x128) bitsLt_bf16_f32) shapeCasts_S7x2x128_S7x2x1x128)
      shapeCasts_S7x2x1x128_S7x2x1x128) broadcasts_S7x2x1x128_S7x2x8x128) shapeCasts_S7x2x8x128_S112x128⟩,
    ⟨S16x128, broadcast S16x128 (Scalar.ofBits .f32 0x00000000#32)⟩] concatenates_S112x128_S16x128_S128x128_d0) bitsLt_bf16_f32

/-- The pieces of the products by lane. -/
def extB {s : Shape} (idx : IVec s 32) (B : FVec F s .f32) : FVec F s .bf16 :=
  truncf .bf16 (pick idx (pc0 B) (pc0 B) (pc0 B) (pc1 B) (pc1 B) (pc1 B) (pc2 B) (pc2 B)) bitsLt_bf16_f32

/-- A lane's number in its group of eight, for every row. -/
def lanes (s : Shape) (v : IVec S8x128 32) (h : S1x128.Broadcasts s) : IVec s 32 :=
  broadcastTo s (shapeCast S1x128 (extractStridedSlice S1x128 ![0, 0] v slices_S8x128_o0_0_S1x128) shapeCasts_S1x128_S1x128) h

def ext0 (v : IVec S8x128 32) (k : Vec F S256x128 .bf16) (x : Vec F S1x7x2x128 .bf16) : FVec F S1x256x128 .bf16 :=
  shapeCast S1x256x128 (extB (lanes S256x128 v broadcasts_S1x128_S256x128)
    (matmul dot_S256x128_S128x128_S256x128_1_1_0_0_n_n none k (bmq x) (constant S256x128 .f32 0x00000000#32))) shapeCasts_S256x128_S1x256x128
def ext1 (v : IVec S8x128 32) (k : Vec F S512x128 .bf16) (x : Vec F S1x7x2x128 .bf16) : FVec F S1x512x128 .bf16 :=
  shapeCast S1x512x128 (extB (lanes S512x128 v broadcasts_S1x128_S512x128)
    (matmul dot_S512x128_S128x128_S512x128_1_1_0_0_n_n none k (bmq x) (constant S512x128 .f32 0x00000000#32))) shapeCasts_S512x128_S1x512x128
def ext2 (v : IVec S8x128 32) (k : Vec F S768x128 .bf16) (x : Vec F S1x7x2x128 .bf16) : FVec F S1x768x128 .bf16 :=
  shapeCast S1x768x128 (extB (lanes S768x128 v broadcasts_S1x128_S768x128)
    (matmul dot_S768x128_S128x128_S768x128_1_1_0_0_n_n none k (bmq x) (constant S768x128 .f32 0x00000000#32))) shapeCasts_S768x128_S1x768x128
def ext3 (v : IVec S8x128 32) (k : Vec F S1024x128 .bf16) (x : Vec F S1x7x2x128 .bf16) : FVec F S1x1024x128 .bf16 :=
  shapeCast S1x1024x128 (extB (lanes S1024x128 v broadcasts_S1x128_S1024x128)
    (matmul dot_S1024x128_S128x128_S1024x128_1_1_0_0_n_n none k (bmq x) (constant S1024x128 .f32 0x00000000#32))) shapeCasts_S1024x128_S1x1024x128

end Defs

variable (P : Pt)

theorem bmq_apply {x : Vec Ideal S1x7x2x128 .bf16} {i : ℕ} (hx : ∀ j, x j = (P.M (j 1).val (2 * i + (j 2).val) (j 3).val : EReal)) (j : S128x128.Idx) :
    bmq x j = ((if (j 0).val < 112 then P.M ((j 0).val / 16) (2 * i + (j 0).val / 8 % 2) (j 1).val else 0 : ℝ) : EReal) := by
  have hj0 : (j 0).val < 128 := (j 0).isLt
  pointwise [bmq, hx]
  split_ifs with h
  · congr 2 <;> first | omega | (congr 1 <;> omega) | skip
  · simp [Ideal.ofBits]

theorem extB_apply {s : Shape} {idx : IVec s 32} {B : FVec Ideal s .f32} (j : s.Idx) (c : ℕ) (hi : idx j = BitVec.ofNat 32 (c % 8))
    (b : ℝ) (hB : B j = b) : extB idx B j = if c % 8 < 3 then (b : EReal) else 0 := by
  have hlt : c % 8 < 8 := Nat.mod_lt _ (by norm_num)
  generalize c % 8 = t at hi hlt
  pointwise [extB, pick, pc0, pc1, pc2, hi, hB]
  interval_cases t <;> simp [← EReal.coe_sub] <;> rfl

theorem lane8_apply (j : S8x128.Idx) : Cert.KernelIdeal.Gen.k0_pay3 j = BitVec.ofNat 32 ((j 1).val % 8) := by
  have key : ∀ a : Fin 128, Cert.KernelIdeal.Gen.k0_pay3 (Idealize.ShloMosaic.ix2 (n0 := 8) (n1 := 128) 0 a) = BitVec.ofNat 32 (a.val % 8) := by decide +kernel
  exact key (j 1)

theorem laneGrp_apply (j : S8x128.Idx) :
    Cert.KernelIdeal.Gen.k0_pay37 (iota .tc S8x128 32 [1] iota_S8x128_d1_w32) 32#32 (Cert.KernelIdeal.Gen.k0_pay34 (iota .tc S8x128 32 [1] iota_S8x128_d1_w32))
      (Cert.KernelIdeal.Gen.k0_pay35 (iota .tc S8x128 32 [1] iota_S8x128_d1_w32)) (Cert.KernelIdeal.Gen.k0_pay36 (iota .tc S8x128 32 [1] iota_S8x128_d1_w32)) j
    = BitVec.ofNat 32 ((j 1).val / 32) := by
  have key : ∀ a : Fin 128, Cert.KernelIdeal.Gen.k0_pay37 (iota .tc S8x128 32 [1] iota_S8x128_d1_w32) 32#32 (Cert.KernelIdeal.Gen.k0_pay34 (iota .tc S8x128 32 [1] iota_S8x128_d1_w32))
      (Cert.KernelIdeal.Gen.k0_pay35 (iota .tc S8x128 32 [1] iota_S8x128_d1_w32)) (Cert.KernelIdeal.Gen.k0_pay36 (iota .tc S8x128 32 [1] iota_S8x128_d1_w32))
      (Idealize.ShloMosaic.ix2 (n0 := 8) (n1 := 128) 0 a) = BitVec.ofNat 32 (a.val / 32) := by decide +kernel
  exact key (j 1)

theorem sub_apply (j : S8x128.Idx) : iota .tc S8x128 32 [0] iota_S8x128_d0_w32 j = BitVec.ofNat 32 (j 0).val := by
  pointwise

theorem msk_apply (j : S128x128.Idx) : Cert.KernelIdeal.Gen.k0_pay38 j = if (j 1).val < (j 0).val then 1#1 else 0#1 := by
  have h0 : (j 0).val < 128 := (j 0).isLt
  have h1 : (j 1).val < 128 := (j 1).isLt
  pointwise [Cert.KernelIdeal.Gen.k0_pay38]
  have e0 : (BitVec.ofNat 32 (j 0).val).toInt = (j 0).val := by
    rw [BitVec.toInt_eq_toNat_of_lt (by rw [BitVec.toNat_ofNat]; omega), BitVec.toNat_ofNat]; omega
  have e1 : (BitVec.ofNat 32 (j 1).val).toInt = (j 1).val := by
    rw [BitVec.toInt_eq_toNat_of_lt (by rw [BitVec.toNat_ofNat]; omega), BitVec.toNat_ofNat]; omega
  simp only [IntOp.cmpi, BitVec.slt, e0, e1]
  by_cases h : (j 1).val < (j 0).val <;> simp [h]

theorem ninf_apply (j : S128x128.Idx) : Cert.KernelIdeal.Gen.k0_pay39 (F := Ideal) j = ⊥ := by
  pointwise [Cert.KernelIdeal.Gen.k0_pay39]
  exact cbot

theorem mm_sem {n : ℕ} {i : ℕ} {k : Fin n → Fin 128 → EReal} {q : Fin 128 → Fin 128 → EReal} (hk : ∀ a d, k a d = (P.K a.val d.val : EReal))
    (hq : ∀ c d, q c d = ((if c.val < 112 then P.M (c.val / 16) (2 * i + c.val / 8 % 2) d.val else 0 : ℝ) : EReal)) (a : Fin n) (c : Fin 128) :
    ∑ d, k a d * q c d = (BX P i a.val c.val : EReal) := by
  simp only [hk, hq, ← EReal.coe_mul, coe_sum]
  congr 1
  unfold BX Pt.B
  split_ifs with h
  · rfl
  · simp

/-- An extension whose products are the sums over the columns. -/
theorem ext_sem {n : ℕ} {idx : IVec ⟨2, ![n, 128]⟩ 32} {B : FVec Ideal ⟨2, ![n, 128]⟩ .f32} {E : FVec Ideal ⟨3, ![1, n, 128]⟩ .bf16}
    {k : Vec Ideal ⟨2, ![n, 128]⟩ .bf16} {x : Vec Ideal S1x7x2x128 .bf16} {i : ℕ}
    {hc : Shape.ShapeCasts ⟨2, ![n, 128]⟩ ⟨3, ![1, n, 128]⟩} (hD : E = shapeCast ⟨3, ![1, n, 128]⟩ (extB idx B) hc)
    (hE : ∀ j : (⟨3, ![1, n, 128]⟩ : Shape).Idx, E j = extB idx B (Idealize.ShloMosaic.ix2 (n0 := n) (n1 := 128) (j 1) (j 2)))
    (hl : ∀ (a : Fin n) (c : Fin 128), idx (Idealize.ShloMosaic.ix2 a c) = BitVec.ofNat 32 (c.val % 8))
    (hB : ∀ (a : Fin n) (c : Fin 128), B (Idealize.ShloMosaic.ix2 a c)
      = ∑ d : Fin 128, k (Idealize.ShloMosaic.ix2 a d) * bmq x (Idealize.ShloMosaic.ix2 c d))
    (hk : ∀ j, k j = (P.K (j 0).val (j 1).val : EReal)) (hx : ∀ j, x j = (P.M (j 1).val (2 * i + (j 2).val) (j 3).val : EReal))
    (j : (⟨3, ![1, n, 128]⟩ : Shape).Idx) :
    E j = if (j 2).val % 8 < 3 then (BX P i (j 1).val (j 2).val : EReal) else 0 := by
  rw [hE]
  refine extB_apply _ _ (hl _ _) _ ?_
  refine (hB _ _).trans ?_
  exact mm_sem P (k := fun a d => k (Idealize.ShloMosaic.ix2 a d)) (q := fun c d => bmq x (Idealize.ShloMosaic.ix2 c d))
    (fun a d => hk _) (fun c d => bmq_apply P hx _) _ _

theorem ext0_apply {v : IVec S8x128 32} (hv : ∀ j, v j = BitVec.ofNat 32 ((j 1).val % 8)) {k : Vec Ideal S256x128 .bf16}
    (hk : ∀ j, k j = (P.K (j 0).val (j 1).val : EReal)) {x : Vec Ideal S1x7x2x128 .bf16} {i : ℕ}
    (hx : ∀ j, x j = (P.M (j 1).val (2 * i + (j 2).val) (j 3).val : EReal)) (j : S1x256x128.Idx) :
    ext0 v k x j = if (j 2).val % 8 < 3 then (BX P i (j 1).val (j 2).val : EReal) else 0 :=
  ext_sem P rfl (fun j => by pointwise [ext0]) (fun a c => by pointwise [lanes, hv]) (fun a c => by pointwise) hk hx j

theorem ext1_apply {v : IVec S8x128 32} (hv : ∀ j, v j = BitVec.ofNat 32 ((j 1).val % 8)) {k : Vec Ideal S512x128 .bf16}
    (hk : ∀ j, k j = (P.K (j 0).val (j 1).val : EReal)) {x : Vec Ideal S1x7x2x128 .bf16} {i : ℕ}
    (hx : ∀ j, x j = (P.M (j 1).val (2 * i + (j 2).val) (j 3).val : EReal)) (j : S1x512x128.Idx) :
    ext1 v k x j = if (j 2).val % 8 < 3 then (BX P i (j 1).val (j 2).val : EReal) else 0 :=
  ext_sem P rfl (fun j => by pointwise [ext1]) (fun a c => by pointwise [lanes, hv]) (fun a c => by pointwise) hk hx j

theorem ext2_apply {v : IVec S8x128 32} (hv : ∀ j, v j = BitVec.ofNat 32 ((j 1).val % 8)) {k : Vec Ideal S768x128 .bf16}
    (hk : ∀ j, k j = (P.K (j 0).val (j 1).val : EReal)) {x : Vec Ideal S1x7x2x128 .bf16} {i : ℕ}
    (hx : ∀ j, x j = (P.M (j 1).val (2 * i + (j 2).val) (j 3).val : EReal)) (j : S1x768x128.Idx) :
    ext2 v k x j = if (j 2).val % 8 < 3 then (BX P i (j 1).val (j 2).val : EReal) else 0 :=
  ext_sem P rfl (fun j => by pointwise [ext2]) (fun a c => by pointwise [lanes, hv]) (fun a c => by pointwise) hk hx j

theorem ext3_apply {v : IVec S8x128 32} (hv : ∀ j, v j = BitVec.ofNat 32 ((j 1).val % 8)) {k : Vec Ideal S1024x128 .bf16}
    (hk : ∀ j, k j = (P.K (j 0).val (j 1).val : EReal)) {x : Vec Ideal S1x7x2x128 .bf16} {i : ℕ}
    (hx : ∀ j, x j = (P.M (j 1).val (2 * i + (j 2).val) (j 3).val : EReal)) (j : S1x1024x128.Idx) :
    ext3 v k x j = if (j 2).val % 8 < 3 then (BX P i (j 1).val (j 2).val : EReal) else 0 :=
  ext_sem P rfl (fun j => by pointwise [ext3]) (fun a c => by pointwise [lanes, hv]) (fun a c => by pointwise) hk hx j

end Cert.Unit

end
-- ==== Proof.Leaf.lean ====
module

public import proofs.«01_k».proof.Proof.Ext

@[expose] public section

/-! What the loads of a grid point read, from what its blocks hold. -/

noncomputable section

namespace Cert.Unit

open Idealize.ShloMosaic Idealize.ShloMosaic.ValueIdx Cert.KernelIdeal Cert.Alg
open Cert.KernelIdeal.Facts₀ Cert.KernelIdeal.Facts
open scoped BigOperators

/-- What the blocks of batch entry `b` and key/value head `g` hold: the inputs `P`, the codes in bytes of two. -/
structure Leaves (P : Pt) (b g : ℕ) (CQ : ℕ → ℕ → ℕ → BitVec 8) (CK : ℕ → ℕ → BitVec 8) (x0 : Vec Ideal S28x2x32 .f32) (x1 : Vec Ideal S2x4x32 .f32)
    (x2 : Vec Ideal S1x7x64x1024 .i8) (x3 : Vec Ideal S1x7x8x128 .bf16) (x4 : Vec Ideal S1x1x64x1024 .i8) (x5 : Vec Ideal S1x1x128x1024 .fp8e4m3)
    (x6 : Vec Ideal S1x4x128 .f32) (x7 : Vec Ideal S1x1024x896 .bf16) : Prop where
  hQ : ∀ h d q, P.Q h d q = nib (CQ h (d / 2) q) d
  hK : ∀ k d, P.K k d = nib (CK (d / 2) k) d
  h0 : ∀ (j : S28x2x32.Idx) (h t : ℕ), h < 7 → (j 0).val = 7 * g + h → (j 1).val = b → (j 2).val = t → x0 j = (P.s h t : EReal)
  h1 : ∀ (j : S2x4x32.Idx) (t : ℕ), (j 0).val = b → (j 1).val = g → (j 2).val = t → x1 j = P.ks t
  h2 : ∀ j, x2 j = CQ (j 1).val (j 2).val (j 3).val
  h3 : ∀ j, x3 j = (P.M (j 1).val (j 2).val (j 3).val : EReal)
  h4 : ∀ j, x4 j = CK (j 2).val (j 3).val
  h5 : ∀ j, x5 j = P.v (j 2).val (j 3).val
  h6 : ∀ j : S1x4x128.Idx, (j 1).val = g → x6 j = P.vs (j 2).val
  h7 : ∀ (j : S1x1024x896.Idx) (h d : ℕ), d < 128 → (j 2).val = 128 * h + d → x7 j = P.g h (j 1).val d

/-- A load of a whole buffer's rectangle reads the contents at the rectangle's places. -/
theorem ld_at {κ : Kind} {sp : Space} {s : Shape} {e : EltTy} (m : Memref sig κ sp s e) (hm : m.IsWhole) (x : s.Idx → Elt Ideal e) (r : Rect s)
    (j : r.shape.Idx) : View.readAt (Elt Ideal) m.view r.toLoadRect (hm.unread x) j = x (r.emb j) := by
  rw [View.readAt_eq_ld, hm.read_unread]
  rfl

/-- The place of a query scale. -/
def qoff (i : grid0.Coords) (h : BitVec 32) (t : ℕ) : Fin 3 → ℕ :=
  ![(Scalar.indexCast (Scalar.addi (Scalar.muli (BitVec.ofNat 32 (i 1).val) 7#32) h) : Index).toNat, (Scalar.indexCast (BitVec.ofNat 32 (i 0).val) : Index).toNat, t]
theorem qoff_eq : ∀ (i : grid0.Coords) (h : Fin 7) (t : ℕ), qoff i (BitVec.ofNat 32 h.val) t = ![7 * (i 1).val + h.val, (i 0).val, t] := by
  have key : ∀ (i : grid0.Coords) (h : Fin 7), (Scalar.indexCast (Scalar.addi (Scalar.muli (BitVec.ofNat 32 (i 1).val) 7#32) (BitVec.ofNat 32 h.val)) : Index).toNat = 7 * (i 1).val + h.val
      ∧ (Scalar.indexCast (BitVec.ofNat 32 (i 0).val) : Index).toNat = (i 0).val := by decide +kernel
  intro i h t
  rw [qoff, (key i h).1, (key i h).2]
/-- The place of a key scale. -/
def koff (i : grid0.Coords) (t : ℕ) : Fin 3 → ℕ :=
  ![(Scalar.indexCast (BitVec.ofNat 32 (i 0).val) : Index).toNat, (Scalar.indexCast (BitVec.ofNat 32 (i 1).val) : Index).toNat, t]
theorem koff_eq (i : grid0.Coords) (t : ℕ) : koff i t = ![(i 0).val, (i 1).val, t] := by
  have key : ∀ (i : grid0.Coords), (Scalar.indexCast (BitVec.ofNat 32 (i 0).val) : Index).toNat = (i 0).val
      ∧ (Scalar.indexCast (BitVec.ofNat 32 (i 1).val) : Index).toNat = (i 1).val := by decide +kernel
  rw [koff, (key i).1, (key i).2]

section
variable {P : Pt} {i : grid0.Coords} {CQ : ℕ → ℕ → ℕ → BitVec 8} {CK : ℕ → ℕ → BitVec 8} {x0 : Vec Ideal S28x2x32 .f32} {x1 : Vec Ideal S2x4x32 .f32}
    {x2 : Vec Ideal S1x7x64x1024 .i8} {x3 : Vec Ideal S1x7x8x128 .bf16} {x4 : Vec Ideal S1x1x64x1024 .i8} {x5 : Vec Ideal S1x1x128x1024 .fp8e4m3}
    {x6 : Vec Ideal S1x4x128 .f32} {x7 : Vec Ideal S1x1024x896 .bf16}
    (H : Leaves P (i 0).val (i 1).val CQ CK x0 x1 x2 x3 x4 x5 x6 x7)
include H

theorem ldQ (h t : ℕ) (hh : h < 7) (m : Memref sig .tc .smem S28x2x32 .f32) (hm : m.IsWhole) {off : Fin 3 → ℕ} (ho : off = qoff i (BitVec.ofNat 32 h) t)
    (inb : ∀ a, off a + S1x1x1.size a ≤ S28x2x32.size a) (hn : 0 < (Rect.unit (s := S28x2x32) off S1x1x1.size inb).toLoadRect.shape.numel) :
    View.readAt (Elt Ideal) m.view (Rect.unit (s := S28x2x32) off S1x1x1.size inb).toLoadRect (hm.unread x0) (Shape.Idx.first hn) = (P.s h t : EReal) := by
  have e := ho.trans (qoff_eq i ⟨h, hh⟩ t)
  subst e
  refine (ld_at m hm x0 _ _).trans ?_
  exact H.h0 _ h t hh rfl rfl rfl

theorem ldK (t : ℕ) (m : Memref sig .tc .smem S2x4x32 .f32) (hm : m.IsWhole) {off : Fin 3 → ℕ} (ho : off = koff i t)
    (inb : ∀ a, off a + S1x1x1.size a ≤ S2x4x32.size a) (hn : 0 < (Rect.unit (s := S2x4x32) off S1x1x1.size inb).toLoadRect.shape.numel) :
    View.readAt (Elt Ideal) m.view (Rect.unit (s := S2x4x32) off S1x1x1.size inb).toLoadRect (hm.unread x1) (Shape.Idx.first hn) = P.ks t := by
  have e := ho.trans (koff_eq i t)
  subst e
  refine (ld_at m hm x1 _ _).trans ?_
  exact H.h1 _ t rfl rfl rfl

theorem ldX2 (h o : ℕ) (m : Memref sig .tc .vmem S1x7x64x1024 .i8) (hm : m.IsWhole) (inb : ∀ a, (![0, h, 0, o] : Fin 4 → ℕ) a + S1x1x64x256.size a ≤ S1x7x64x1024.size a)
    (j : S1x1x64x256.Idx) :
    View.readAt (Elt Ideal) m.view (Rect.unit (s := S1x7x64x1024) ![0, h, 0, o] S1x1x64x256.size inb).toLoadRect (hm.unread x2) j = CQ h (j 2).val (o + (j 3).val) := by
  refine (ld_at m hm x2 _ _).trans ((H.h2 _).trans ?_)
  have h1 : (j 1).val < 1 := (j 1).isLt
  have e1 : ((Rect.unit (s := S1x7x64x1024) ![0, h, 0, o] S1x1x64x256.size inb).emb j 1).val = h + 1 * (j 1).val := rfl
  have e2 : ((Rect.unit (s := S1x7x64x1024) ![0, h, 0, o] S1x1x64x256.size inb).emb j 2).val = 0 + 1 * (j 2).val := rfl
  have e3 : ((Rect.unit (s := S1x7x64x1024) ![0, h, 0, o] S1x1x64x256.size inb).emb j 3).val = o + 1 * (j 3).val := rfl
  rw [e1, e2, e3]
  congr 1 <;> omega

theorem ldX3 (o i' : ℕ) (ho : o = 2 * i') (m : Memref sig .tc .vmem S1x7x8x128 .bf16) (hm : m.IsWhole) (inb : ∀ a, (![0, 0, o, 0] : Fin 4 → ℕ) a + S1x7x2x128.size a ≤ S1x7x8x128.size a)
    (j : S1x7x2x128.Idx) :
    View.readAt (Elt Ideal) m.view (Rect.unit (s := S1x7x8x128) ![0, 0, o, 0] S1x7x2x128.size inb).toLoadRect (hm.unread x3) j = (P.M (j 1).val (2 * i' + (j 2).val) (j 3).val : EReal) := by
  subst ho
  refine (ld_at m hm x3 _ _).trans ((H.h3 _).trans ?_)
  have e1 : ((Rect.unit (s := S1x7x8x128) ![0, 0, 2 * i', 0] S1x7x2x128.size inb).emb j 1).val = 0 + 1 * (j 1).val := rfl
  have e2 : ((Rect.unit (s := S1x7x8x128) ![0, 0, 2 * i', 0] S1x7x2x128.size inb).emb j 2).val = 2 * i' + 1 * (j 2).val := rfl
  have e3 : ((Rect.unit (s := S1x7x8x128) ![0, 0, 2 * i', 0] S1x7x2x128.size inb).emb j 3).val = 0 + 1 * (j 3).val := rfl
  rw [e1, e2, e3]
  simp only [one_mul, zero_add]

theorem ldX5 (o : ℕ) (m : Memref sig .tc .vmem S1x1x128x1024 .fp8e4m3) (hm : m.IsWhole) (inb : ∀ a, (![0, 0, 0, o] : Fin 4 → ℕ) a + S1x1x128x256.size a ≤ S1x1x128x1024.size a)
    (j : S1x1x128x256.Idx) :
    View.readAt (Elt Ideal) m.view (Rect.unit (s := S1x1x128x1024) ![0, 0, 0, o] S1x1x128x256.size inb).toLoadRect (hm.unread x5) j = P.v (j 2).val (o + (j 3).val) := by
  refine (ld_at m hm x5 _ _).trans ((H.h5 _).trans ?_)
  have e2 : ((Rect.unit (s := S1x1x128x1024) ![0, 0, 0, o] S1x1x128x256.size inb).emb j 2).val = 0 + 1 * (j 2).val := rfl
  have e3 : ((Rect.unit (s := S1x1x128x1024) ![0, 0, 0, o] S1x1x128x256.size inb).emb j 3).val = o + 1 * (j 3).val := rfl
  rw [e2, e3]
  simp only [one_mul, zero_add]

theorem ldX6 (m : Memref sig .tc .vmem S1x4x128 .f32) (hm : m.IsWhole) {off : Fin 3 → ℕ} (ho : off = k0_off17 i)
    (inb : ∀ a, off a + S1x1x128.size a ≤ S1x4x128.size a) (j : S1x1x128.Idx) :
    View.readAt (Elt Ideal) m.view (Rect.unit (s := S1x4x128) off S1x1x128.size inb).toLoadRect (hm.unread x6) j = P.vs (j 2).val := by
  have e := ho.trans (Cert.KernelIdeal.Gen.k0_off17_eq i)
  subst e
  have h1 : (j 1).val < 1 := (j 1).isLt
  refine (ld_at m hm x6 _ _).trans ?_
  have e1 : ((Rect.unit (s := S1x4x128) ![0, (i 1).val, 0] S1x1x128.size inb).emb j 1).val = (i 1).val + 1 * (j 1).val := rfl
  have e2 : ((Rect.unit (s := S1x4x128) ![0, (i 1).val, 0] S1x1x128.size inb).emb j 2).val = 0 + 1 * (j 2).val := rfl
  rw [H.h6 _ (by rw [e1]; omega), e2]
  simp only [one_mul, zero_add]

theorem ldX7 (h q o : ℕ) (ho : o = 128 * h) (m : Memref sig .tc .vmem S1x1024x896 .bf16) (hm : m.IsWhole) (inb : ∀ a, (![0, q, o] : Fin 3 → ℕ) a + S1x256x128.size a ≤ S1x1024x896.size a)
    (j : S1x256x128.Idx) :
    View.readAt (Elt Ideal) m.view (Rect.unit (s := S1x1024x896) ![0, q, o] S1x256x128.size inb).toLoadRect (hm.unread x7) j = P.g h (q + (j 1).val) (j 2).val := by
  subst ho
  have h2 : (j 2).val < 128 := (j 2).isLt
  refine (ld_at m hm x7 _ _).trans ?_
  have e1 : ((Rect.unit (s := S1x1024x896) ![0, q, 128 * h] S1x256x128.size inb).emb j 1).val = q + 1 * (j 1).val := rfl
  have e2 : ((Rect.unit (s := S1x1024x896) ![0, q, 128 * h] S1x256x128.size inb).emb j 2).val = 128 * h + 1 * (j 2).val := rfl
  rw [H.h7 _ h (j 2).val h2 (by rw [e2]; omega), e1]
  simp only [one_mul]

/-- The decoded key codes. -/
theorem kc_apply {x : Vec Ideal S1x1x64x1024 .i8} (hx : ∀ j, x j = CK (j 2).val (j 3).val) (j : S1024x128.Idx) :
    Cert.KernelIdeal.Gen.k0_pay2 (F := Ideal) x j = (P.K (j 0).val (j 1).val : EReal) := by
  have hj1 : (j 1).val < 128 := (j 1).isLt
  rw [H.hK]
  pointwise [Cert.KernelIdeal.Gen.k0_pay2]
  simp only [hx]
  by_cases h : (j 1).val % 2 = 0
  · rw [dif_pos (by omega), nib, if_pos h]; rfl
  · rw [dif_neg (by omega), nib, if_neg h]; rfl

theorem ldX4 (m : Memref sig .tc .vmem S1x1x64x1024 .i8) (hm : m.IsWhole) (inb : ∀ a, (![0, 0, 0, 0] : Fin 4 → ℕ) a + S1x1x64x1024.size a ≤ S1x1x64x1024.size a)
    (j : S1x1x64x1024.Idx) :
    View.readAt (Elt Ideal) m.view (Rect.unit (s := S1x1x64x1024) ![0, 0, 0, 0] S1x1x64x1024.size inb).toLoadRect (hm.unread x4) j = CK (j 2).val (j 3).val := by
  refine (ld_at m hm x4 _ _).trans ((H.h4 _).trans ?_)
  have e2 : ((Rect.unit (s := S1x1x64x1024) ![0, 0, 0, 0] S1x1x64x1024.size inb).emb j 2).val = 0 + 1 * (j 2).val := rfl
  have e3 : ((Rect.unit (s := S1x1x64x1024) ![0, 0, 0, 0] S1x1x64x1024.size inb).emb j 3).val = 0 + 1 * (j 3).val := rfl
  rw [e2, e3]
  simp only [one_mul, zero_add]

end

end Cert.Unit

end
-- ==== Proof.KWin.lean ====
module

public import proofs.«01_k».proof.Proof.Args
public import proofs.«01_k».proof.Proof.Leaf
public import proofs.«01_k».proof.Proof.Gen.KernelIdeal.Frame
import Idealize.ShloMosaic.Lib.Pipeline.ValueKit
import Idealize.ShloMosaic.Lib.Pointwise

@[expose] public section

noncomputable section

namespace Cert.Unit

open Idealize.ShloMosaic Idealize.ShloMosaic.TcCoe Cert.KernelIdeal Cert.KernelIdeal.Gen Cert.Alg Idealize.SL.Sem

variable (m : (ℓ : Loc nD τ sig) → Buf (Elt Ideal) ℓ) (c : Dev nD)

/-- The kernel's arguments. -/
def kargs : Args where
  qc := m ((c : Thread nD τ).loc main_arg0)
  qs := m ((c : Thread nD τ).loc main_arg1)
  qm := m ((c : Thread nD τ).loc main_arg2)
  kc := m ((c : Thread nD τ).loc main_arg3)
  ks := m ((c : Thread nD τ).loc main_arg4)
  v := m ((c : Thread nD τ).loc main_arg5)
  vs := m ((c : Thread nD τ).loc main_arg6)
  g := m ((c : Thread nD τ).loc main_arg7)

theorem idx0 : ∀ t : Fin cfg0.N, win0_0.index t = ![0, 0, 0] :=
  (by decide +kernel : ∀ t : Fin grid0.N, _)

theorem V0 : (V m c main_v4 : S28x2x32.Idx → EReal) = transpose S28x2x32 [2, 0, 1] (kargs m c).qs transposes_S2x32x28_S28x2x32_2_0_1 := by
  unfold_abbrev_sides
  after_results
  rfl

theorem w0 (t : Fin cfg0.N) (j : S28x2x32.Idx) : iblk m c 0 t j = at3 (kargs m c).qs (j 1).val (j 2).val (j 0).val := by
  blk_simp [iblk, idx0 t]
  have e := congrFun (V0 m c) ((win0_0.blk t).view.emb j)
  refine e.trans (at3_of (kargs m c).qs (Shape.Transposes.src transposes_S2x32x28_S28x2x32_2_0_1 ((win0_0.blk t).view.emb j)) ?_ ?_ ?_)
  · change ((win0_0.blk t).view.emb j 1).val = _
    blk_simp [idx0 t] <;> omega
  · change ((win0_0.blk t).view.emb j 2).val = _
    blk_simp [idx0 t] <;> omega
  · change ((win0_0.blk t).view.emb j 0).val = _
    blk_simp [idx0 t] <;> omega

theorem idx1 : ∀ t : Fin cfg0.N, win0_1.index t = ![0, 0, 0] :=
  (by decide +kernel : ∀ t : Fin grid0.N, _)

theorem V1 : (V m c main_v5 : S2x4x32.Idx → EReal) = transpose S2x4x32 [0, 2, 1] (kargs m c).ks transposes_S2x32x4_S2x4x32_0_2_1 := by
  unfold_abbrev_sides
  after_results
  rfl

theorem w1 (t : Fin cfg0.N) (j : S2x4x32.Idx) : iblk m c 1 t j = at3 (kargs m c).ks (j 0).val (j 2).val (j 1).val := by
  blk_simp [iblk, idx1 t]
  have e := congrFun (V1 m c) ((win0_1.blk t).view.emb j)
  refine e.trans (at3_of (kargs m c).ks (Shape.Transposes.src transposes_S2x32x4_S2x4x32_0_2_1 ((win0_1.blk t).view.emb j)) ?_ ?_ ?_)
  · change ((win0_1.blk t).view.emb j 0).val = _
    blk_simp [idx1 t] <;> omega
  · change ((win0_1.blk t).view.emb j 2).val = _
    blk_simp [idx1 t] <;> omega
  · change ((win0_1.blk t).view.emb j 1).val = _
    blk_simp [idx1 t] <;> omega

theorem idx2 : ∀ t : Fin cfg0.N, win0_2.index t = ![(grid0.coords t 0).val, (grid0.coords t 1).val, 0, 0] :=
  (by decide +kernel : ∀ t : Fin grid0.N, _)

theorem V2 : (V m c main_v0 : S2x28x64x1024.Idx → BitVec 8) = transpose S2x28x64x1024 [0, 2, 3, 1] (kargs m c).qc transposes_S2x1024x28x64_S2x28x64x1024_0_2_3_1 := by
  unfold_abbrev_sides
  after_results
  rfl

theorem w2 (t : Fin cfg0.N) (j : S1x7x64x1024.Idx) : iblk m c 2 t j = at4 (kargs m c).qc (grid0.coords t 0).val (j 3).val (7 * (grid0.coords t 1).val + (j 1).val) (j 2).val := by
  blk_simp [iblk, idx2 t]
  have e := congrFun (V2 m c) ((win0_2.blk t).view.emb j)
  refine e.trans (at4_of (kargs m c).qc (Shape.Transposes.src transposes_S2x1024x28x64_S2x28x64x1024_0_2_3_1 ((win0_2.blk t).view.emb j)) ?_ ?_ ?_ ?_)
  · change ((win0_2.blk t).view.emb j 0).val = _
    blk_simp [idx2 t] <;> omega
  · change ((win0_2.blk t).view.emb j 3).val = _
    blk_simp [idx2 t] <;> omega
  · change ((win0_2.blk t).view.emb j 1).val = _
    blk_simp [idx2 t] <;> omega
  · change ((win0_2.blk t).view.emb j 2).val = _
    blk_simp [idx2 t] <;> omega

theorem idx3 : ∀ t : Fin cfg0.N, win0_3.index t = ![(grid0.coords t 0).val, (grid0.coords t 1).val, 0, 0] :=
  (by decide +kernel : ∀ t : Fin grid0.N, _)

theorem V3 : (V m c main_v3 : S2x28x8x128.Idx → EReal) = transpose S2x28x8x128 [0, 2, 1, 3] (kargs m c).qm transposes_S2x8x28x128_S2x28x8x128_0_2_1_3 := by
  unfold_abbrev_sides
  after_results
  rfl

theorem w3 (t : Fin cfg0.N) (j : S1x7x8x128.Idx) : iblk m c 3 t j = at4 (kargs m c).qm (grid0.coords t 0).val (j 2).val (7 * (grid0.coords t 1).val + (j 1).val) (j 3).val := by
  blk_simp [iblk, idx3 t]
  have e := congrFun (V3 m c) ((win0_3.blk t).view.emb j)
  refine e.trans (at4_of (kargs m c).qm (Shape.Transposes.src transposes_S2x8x28x128_S2x28x8x128_0_2_1_3 ((win0_3.blk t).view.emb j)) ?_ ?_ ?_ ?_)
  · change ((win0_3.blk t).view.emb j 0).val = _
    blk_simp [idx3 t] <;> omega
  · change ((win0_3.blk t).view.emb j 2).val = _
    blk_simp [idx3 t] <;> omega
  · change ((win0_3.blk t).view.emb j 1).val = _
    blk_simp [idx3 t] <;> omega
  · change ((win0_3.blk t).view.emb j 3).val = _
    blk_simp [idx3 t] <;> omega

theorem idx4 : ∀ t : Fin cfg0.N, win0_4.index t = ![(grid0.coords t 0).val, (grid0.coords t 1).val, 0, 0] :=
  (by decide +kernel : ∀ t : Fin grid0.N, _)

theorem V4 : (V m c main_v1 : S2x4x64x1024.Idx → BitVec 8) = transpose S2x4x64x1024 [0, 2, 3, 1] (kargs m c).kc transposes_S2x1024x4x64_S2x4x64x1024_0_2_3_1 := by
  unfold_abbrev_sides
  after_results
  rfl

theorem w4 (t : Fin cfg0.N) (j : S1x1x64x1024.Idx) : iblk m c 4 t j = at4 (kargs m c).kc (grid0.coords t 0).val (j 3).val (grid0.coords t 1).val (j 2).val := by
  blk_simp [iblk, idx4 t]
  have e := congrFun (V4 m c) ((win0_4.blk t).view.emb j)
  refine e.trans (at4_of (kargs m c).kc (Shape.Transposes.src transposes_S2x1024x4x64_S2x4x64x1024_0_2_3_1 ((win0_4.blk t).view.emb j)) ?_ ?_ ?_ ?_)
  · change ((win0_4.blk t).view.emb j 0).val = _
    blk_simp [idx4 t] <;> omega
  · change ((win0_4.blk t).view.emb j 3).val = _
    blk_simp [idx4 t] <;> omega
  · change ((win0_4.blk t).view.emb j 1).val = _
    blk_simp [idx4 t] <;> omega
  · change ((win0_4.blk t).view.emb j 2).val = _
    blk_simp [idx4 t] <;> omega

theorem idx5 : ∀ t : Fin cfg0.N, win0_5.index t = ![(grid0.coords t 0).val, (grid0.coords t 1).val, 0, 0] :=
  (by decide +kernel : ∀ t : Fin grid0.N, _)

theorem V5 : (V m c main_v2 : S2x4x128x1024.Idx → EReal) = transpose S2x4x128x1024 [0, 2, 3, 1] (kargs m c).v transposes_S2x1024x4x128_S2x4x128x1024_0_2_3_1 := by
  unfold_abbrev_sides
  after_results
  rfl

theorem w5 (t : Fin cfg0.N) (j : S1x1x128x1024.Idx) : iblk m c 5 t j = at4 (kargs m c).v (grid0.coords t 0).val (j 3).val (grid0.coords t 1).val (j 2).val := by
  blk_simp [iblk, idx5 t]
  have e := congrFun (V5 m c) ((win0_5.blk t).view.emb j)
  refine e.trans (at4_of (kargs m c).v (Shape.Transposes.src transposes_S2x1024x4x128_S2x4x128x1024_0_2_3_1 ((win0_5.blk t).view.emb j)) ?_ ?_ ?_ ?_)
  · change ((win0_5.blk t).view.emb j 0).val = _
    blk_simp [idx5 t] <;> omega
  · change ((win0_5.blk t).view.emb j 3).val = _
    blk_simp [idx5 t] <;> omega
  · change ((win0_5.blk t).view.emb j 1).val = _
    blk_simp [idx5 t] <;> omega
  · change ((win0_5.blk t).view.emb j 2).val = _
    blk_simp [idx5 t] <;> omega

theorem idx6 : ∀ t : Fin cfg0.N, win0_6.index t = ![(grid0.coords t 0).val, 0, 0] :=
  (by decide +kernel : ∀ t : Fin grid0.N, _)

theorem w6 (t : Fin cfg0.N) (j : S1x4x128.Idx) : iblk m c 6 t j = at3 (kargs m c).vs (grid0.coords t 0).val (j 1).val (j 2).val := by
  blk_simp [iblk, idx6 t]
  have e := congrFun (V_main_arg6 m c) ((win0_6.blk t).view.emb j)
  refine e.trans (at3_of (kargs m c).vs ((win0_6.blk t).view.emb j) ?_ ?_ ?_)
  · blk_simp [idx6 t] <;> omega
  · blk_simp [idx6 t] <;> omega
  · blk_simp [idx6 t] <;> omega

theorem idx7 : ∀ t : Fin cfg0.N, win0_7.index t = ![(grid0.coords t 0).val, 0, (grid0.coords t 1).val] :=
  (by decide +kernel : ∀ t : Fin grid0.N, _)

theorem w7 (t : Fin cfg0.N) (j : S1x1024x896.Idx) : iblk m c 7 t j = at3 (kargs m c).g (grid0.coords t 0).val (j 1).val ((grid0.coords t 1).val * 896 + (j 2).val) := by
  blk_simp [iblk, idx7 t]
  have e := congrFun (V_main_arg7 m c) ((win0_7.blk t).view.emb j)
  refine e.trans (at3_of (kargs m c).g ((win0_7.blk t).view.emb j) ?_ ?_ ?_)
  · blk_simp [idx7 t] <;> omega
  · blk_simp [idx7 t] <;> omega
  · blk_simp [idx7 t] <;> omega

/-- Every block a point stages, on the mathematics of its batch and key head. -/
theorem leaves (ok : (kargs m c).Ok) (t : Fin cfg0.N) :
    Leaves ((kargs m c).pt (grid0.coords t 0).val (grid0.coords t 1).val) (grid0.coords t 0).val (grid0.coords t 1).val
      ((kargs m c).CQ (grid0.coords t 0).val (grid0.coords t 1).val) ((kargs m c).CK (grid0.coords t 0).val (grid0.coords t 1).val)
      (iblk m c 0 t) (iblk m c 1 t) (iblk m c 2 t) (iblk m c 3 t) (iblk m c 4 t) (iblk m c 5 t) (iblk m c 6 t) (iblk m c 7 t) where
  hQ h d q := rfl
  hK k d := rfl
  h0 j h t' hh e0 e1 e2 := by rw [w0, e0, e1, e2]; exact ok.scale _ _ _ _
  h1 j t' e0 e1 e2 := by rw [w1, e0, e1, e2]; rfl
  h2 j := w2 m c t j
  h3 j := (w3 m c t j).trans (ok.mean _ _ _ _ _)
  h4 j := w4 m c t j
  h5 j := w5 m c t j
  h6 j e := by rw [w6, e]; rfl
  h7 j h d hd e := by rw [w7, e]; exact congrArg _ (by ring)

end Cert.Unit

end
-- ==== Proof.Reads.lean ====
module

public import proofs.«01_k».proof.Proof.Leaf
public import Idealize.ShloMosaic.Lib.Pipeline.ReadBack
public import Idealize.ShloMosaic.Lib.Pipeline.RowLoads

@[expose] public section

/-! What the reads of the scratch arrays give back, from the writes before them. -/

noncomputable section

namespace Cert.Unit

open Idealize.ShloMosaic Idealize.ShloMosaic.ValueIdx Cert.KernelIdeal Cert.Alg
open Cert.KernelIdeal.Facts₀ Cert.KernelIdeal.Facts
open scoped BigOperators

/-- A read of rows of the decoded key codes. -/
theorem rdKc {P : Pt} {n o : ℕ} (m : Memref sig .tc .vmem S1024x128 .bf16) (w : S1024x128.Idx → Elt Ideal .bf16) (hw : ∀ j, w j = (P.K (j 0).val (j 1).val : EReal))
    (inb : ∀ a, (![0, 0] : Fin 2 → ℕ) a + S1024x128.size a ≤ S1024x128.size a)
    (inb' : ∀ a, (![o, 0] : Fin 2 → ℕ) a + (⟨2, ![n, 128]⟩ : Shape).size a ≤ S1024x128.size a) (j : (⟨2, ![n, 128]⟩ : Shape).Idx) :
    m.view.readCov (Val := Elt Ideal) [⟨Rect.unit (s := S1024x128) ![0, 0] S1024x128.size inb, w⟩]
      (Rect.unit (s := S1024x128) ![o, 0] (⟨2, ![n, 128]⟩ : Shape).size inb').toLoadRect j = (P.K (o + (j 0).val) (j 1).val : EReal) := by
  have e := congrFun (View.readCov_fill m.view inb w [] (Rect.unit (s := S1024x128) ![o, 0] (⟨2, ![n, 128]⟩ : Shape).size inb') (by intro a; fin_cases a <;> rfl)) j
  refine e.trans ?_
  refine (show View.ld w (Rect.unit (s := S1024x128) ![o, 0] (⟨2, ![n, 128]⟩ : Shape).size inb') j = w ((Rect.unit (s := S1024x128) ![o, 0] (⟨2, ![n, 128]⟩ : Shape).size inb').emb j) from rfl).trans ?_
  rw [hw]
  have e0 : ((Rect.unit (s := S1024x128) ![o, 0] (⟨2, ![n, 128]⟩ : Shape).size inb').emb j 0).val = o + 1 * (j 0).val := rfl
  have e1 : ((Rect.unit (s := S1024x128) ![o, 0] (⟨2, ![n, 128]⟩ : Shape).size inb').emb j 1).val = 0 + 1 * (j 1).val := rfl
  rw [e0, e1, one_mul, one_mul, zero_add]

/-- What the extension array holds. -/
def EX (P : Pt) (i k c : ℕ) : EReal := if c % 8 < 3 then (BX P i k c : EReal) else 0

/-- A read of rows of the extension array, whose block `i` lies within the block's write. -/
theorem rdExt {P : Pt} {i o : ℕ} (m : Memref sig .tc .vmem S4x1024x128 .bf16)
    {L : List (View.Piece (Elt Ideal) S4x1024x128 .bf16)}
    (hL : View.PiecesOf (fun y : S4x1024x128.Idx => EX P (y 0).val (y 1).val (y 2).val) L)
    (inb' : ∀ a, (![i, o, 0] : Fin 3 → ℕ) a + S1x256x128.size a ≤ S4x1024x128.size a)
    (hcov : ∀ j : S1x256x128.Idx, ∃ p ∈ L, (Rect.unit (s := S4x1024x128) ![i, o, 0] S1x256x128.size inb').emb j ∈ p.1.set) (j : S1x256x128.Idx) :
    m.view.readCov L (Rect.unit (s := S4x1024x128) ![i, o, 0] S1x256x128.size inb').toLoadRect j
      = if (j 2).val % 8 < 3 then (BX P i (o + (j 1).val) (j 2).val : EReal) else 0 := by
  have h0 : (j 0).val < 1 := (j 0).isLt
  have e := congrFun (View.readCov_eq_canon' m.view L (Rect.unit (s := S4x1024x128) ![i, o, 0] S1x256x128.size inb').toLoadRect) j
  refine e.trans ?_
  refine (View.canon_apply_of_pieces (fun y : S4x1024x128.Idx => EX P (y 0).val (y 1).val (y 2).val) L hL.mem _ (hcov j)).trans ?_
  show EX P (i + 1 * (j 0).val) (o + 1 * (j 1).val) (0 + 1 * (j 2).val) = _
  rw [show i + 1 * (j 0).val = i by omega, one_mul, one_mul, zero_add]
  rfl

/-- The rows of a read lie in the block's write. -/
theorem extCov {i n o : ℕ} (ho : o + 256 ≤ n) {L : List (View.Piece (Elt Ideal) S4x1024x128 .bf16)} {w : (⟨3, ![1, n, 128]⟩ : Shape).Idx → Elt Ideal .bf16}
    {inb : ∀ a, (![i, 0, 0] : Fin 3 → ℕ) a + (⟨3, ![1, n, 128]⟩ : Shape).size a ≤ S4x1024x128.size a}
    (hm : (⟨Rect.unit (s := S4x1024x128) ![i, 0, 0] (⟨3, ![1, n, 128]⟩ : Shape).size inb, w⟩ : View.Piece (Elt Ideal) S4x1024x128 .bf16) ∈ L)
    (inb' : ∀ a, (![i, o, 0] : Fin 3 → ℕ) a + S1x256x128.size a ≤ S4x1024x128.size a) (j : S1x256x128.Idx) :
    ∃ p ∈ L, (Rect.unit (s := S4x1024x128) ![i, o, 0] S1x256x128.size inb').emb j ∈ p.1.set := by
  refine ⟨_, hm, ?_⟩
  have h0 : (j 0).val < 1 := (j 0).isLt
  have h1 : (j 1).val < 256 := (j 1).isLt
  have h2 : (j 2).val < 128 := (j 2).isLt
  refine (Rect.mem_set_unit (s := S4x1024x128) (off := ![i, 0, 0]) (inb := inb)).mpr fun a => ?_
  fin_cases a
  · exact ⟨(show i ≤ i + 1 * (j 0).val by omega), (show i + 1 * (j 0).val < i + 1 by omega)⟩
  · exact ⟨(show 0 ≤ o + 1 * (j 1).val by omega), (show o + 1 * (j 1).val < 0 + n by omega)⟩
  · exact ⟨(show 0 ≤ 0 + 1 * (j 2).val by omega), (show 0 + 1 * (j 2).val < 0 + 128 by omega)⟩

/-- A piece of the extension array. -/
theorem extPiece {P : Pt} {i n : ℕ} {w : (⟨3, ![1, n, 128]⟩ : Shape).Idx → Elt Ideal .bf16}
    (hw : ∀ j, w j = if (j 2).val % 8 < 3 then (BX P i (j 1).val (j 2).val : EReal) else 0)
    (inb : ∀ a, (![i, 0, 0] : Fin 3 → ℕ) a + (⟨3, ![1, n, 128]⟩ : Shape).size a ≤ S4x1024x128.size a) (x : (⟨3, ![1, n, 128]⟩ : Shape).Idx) :
    w x = (fun y : S4x1024x128.Idx => EX P (y 0).val (y 1).val (y 2).val) ((Rect.unit (s := S4x1024x128) ![i, 0, 0] (⟨3, ![1, n, 128]⟩ : Shape).size inb).emb x) := by
  have h0 : (x 0).val < 1 := (x 0).isLt
  rw [hw]
  show _ = EX P (i + 1 * (x 0).val) (0 + 1 * (x 1).val) (0 + 1 * (x 2).val)
  rw [show i + 1 * (x 0).val = i by omega, one_mul, one_mul, zero_add, zero_add]
  rfl

/-- A read of the rows just written. -/
theorem rdHit (m : Memref sig .tc .vmem S1024x256 .f32) (r : Rect S1024x256) (w : r.shape.Idx → Elt Ideal .f32)
    (L : List (View.Piece (Elt Ideal) S1024x256 .f32)) : m.view.readCov (⟨r, w⟩ :: L) r.toLoadRect = w :=
  View.readCov_cons_toLoadRect m.view r w L

/-- A read of other rows. -/
theorem rdSkip (m : Memref sig .tc .vmem S1024x256 .f32) {o o' : ℕ} (x : S256x256.Idx → Elt Ideal .f32) (L : List (View.Piece (Elt Ideal) S1024x256 .f32))
    (inb : ∀ a, (![o, 0] : Fin 2 → Nat) a + S256x256.size a ≤ S1024x256.size a) (inb' : ∀ a, (![o', 0] : Fin 2 → Nat) a + S256x256.size a ≤ S1024x256.size a)
    {w : S256x256.Idx → Elt Ideal .f32} (h : o + 256 ≤ o' ∨ o' + 256 ≤ o)
    (e : m.view.readCov L (Rect.unit (s := S1024x256) ![o', 0] S256x256.size inb').toLoadRect = w) :
    m.view.readCov (⟨Rect.unit (s := S1024x256) ![o, 0] S256x256.size inb, x⟩ :: L) (Rect.unit (s := S1024x256) ![o', 0] S256x256.size inb').toLoadRect = w :=
  (View.readCov_cons_of_rows_disjoint m.view o o' h x L inb inb').trans e

end Cert.Unit

end
-- ==== Proof.UnitB.lean ====
module

public import proofs.«01_k».proof.Proof.UnitA
public import proofs.«01_k».proof.Proof.Shape
public import proofs.«01_k».proof.Proof.Spec

@[expose] public section

/-! What a tile's operations compute at an index: column maxima and sums, weights, the product with the values and the
    gated output. -/

noncomputable section

namespace Cert.Unit

open Idealize.ShloMosaic Idealize.ShloMosaic.ValueIdx Cert.KernelIdeal Cert.Alg
open Cert.KernelIdeal.Facts₀ Cert.KernelIdeal.Facts

theorem st_eq {F : FTy → Type} [FloatOps F] [Named F] (s : FVec F S256x256 .f32) : st s = s := by
  unfold st; exact shapeCast_self _ _

theorem redmax_apply (x : FVec Ideal S256x256 .f32) (f : ℕ → ℕ → EReal) (hx : ∀ j, x j = f (j 0).val (j 1).val) (j : S8x256.Idx) :
    multiReduction (F := Ideal) .maximumf [0] S8x256 (shapeCast S32x8x256 x shapeCasts_S256x256_S32x8x256) 0xFF800000#32 reduces_S32x8x256_S8x256 (.inl rfl) rfl j
      = (Finset.range 32).sup fun t => f (8 * t + (j 0).val) (j 1).val := by
  have hj0 : (j 0).val < 8 := (j 0).isLt
  pointwise [hx, cbot]
  simp only [Nat.mul_comm _ 8]
  exact fold_max (n := 32) fun t => f (8 * t + (j 0).val) (j 1).val

theorem redadd_apply (x : FVec Ideal S256x256 .f32) (f : ℕ → ℕ → EReal) (hx : ∀ j, x j = f (j 0).val (j 1).val) (j : S8x256.Idx) :
    multiReduction (F := Ideal) .add [0] S8x256 (shapeCast S32x8x256 x shapeCasts_S256x256_S32x8x256) 0x00000000#32 reduces_S32x8x256_S8x256 (.inl rfl) rfl j
      = ∑ t ∈ Finset.range 32, f (8 * t + (j 0).val) (j 1).val := by
  have hj0 : (j 0).val < 8 := (j 0).isLt
  pointwise [hx]
  simp only [Nat.mul_comm _ 8]
  exact (Finset.sum_range fun t => f (8 * t + (j 0).val) (j 1).val).symm

theorem mfin_apply (a : FVec Ideal S8x256 .f32) (f : ℕ → ℕ → EReal) (hx : ∀ j, a j = f (j 0).val (j 1).val) (j : S1x256.Idx) :
    mfin a j = (Finset.range 8).sup fun r => f r (j 1).val := by
  pointwise [mfin, hx, cbot]
  exact fold_max (n := 8) fun t => f t (j 1).val

theorem rfin_apply (a : FVec Ideal S8x256 .f32) (f : ℕ → ℕ → EReal) (hx : ∀ j, a j = f (j 0).val (j 1).val) (j : S1x256.Idx) :
    rfin a j = Ideal.div ((256 : ℝ) : EReal) (∑ r ∈ Finset.range 8, f r (j 1).val) := by
  pointwise [rfin, hx, c256]
  rw [Finset.sum_range]

theorem accs_apply (a : FVec Ideal S128x256 .f32) (v : Vec Ideal S1x1x128x256 .fp8e4m3) (p : FVec Ideal S256x256 .fp8e4m3)
    (f g : ℕ → ℕ → EReal) (hv : ∀ j, v j = f (j 2).val (j 3).val) (hp : ∀ j, p j = g (j 0).val (j 1).val) (j : S128x256.Idx) :
    accs a v p j = a j + ∑ k ∈ Finset.range 256, f (j 0).val k * g k (j 1).val := by
  pointwise [accs, hv, hp]
  rw [Finset.sum_range]

theorem p8_apply (e : Vec Ideal S256x256 .f32) (r : FVec Ideal S1x256 .f32) (j : S256x256.Idx) :
    p8 e r j = min (max (e j * r (Idealize.ShloMosaic.ix2 0 (j 1))) ((-448 : ℝ) : EReal)) ((448 : ℝ) : EReal) := by
  pointwise [p8, c448, cn448]

theorem ex_apply (e : Vec Ideal S256x256 .f32) (m : FVec Ideal S1x256 .f32) (j : S256x256.Idx) :
    ex e m j = Ideal.exp2 (e j - m (Idealize.ShloMosaic.ix2 0 (j 1))) := by
  pointwise [ex]
  rfl

theorem yv_apply (a : FVec Ideal S128x256 .f32) (gate : Vec Ideal S1x256x128 .bf16) (vs : Vec Ideal S1x1x128 .f32) (j : S256x128.Idx)
   (A : ℕ → ℕ → EReal) (G : ℕ → ℕ → EReal) (V : ℕ → EReal) (ha : ∀ j, a j = A (j 0).val (j 1).val) (hg : ∀ j, gate j = G (j 1).val (j 2).val)
   (hv : ∀ j, vs j = V (j 2).val) :
    yv a gate vs j = A (j 1).val (j 0).val * (V (j 1).val * Ideal.ofBits .f32 0x3B800000#32) * Ideal.logistic (G (j 0).val (j 1).val) := by
  have hn : (Named.named (F := Ideal) Cert.KernelIdeal.κ "neg_log2e" (φ := .f32) 0xBFB8AA3B#32) = ((-L : ℝ) : EReal) :=
    IdealRules.named_const.ideal_named_scalar _ _ _ _ rfl
  pointwise [yv, ha, hg, hv, hn]
  exact congrArg _ (gate_eq _)

theorem outP_apply (y : FVec Ideal S256x128 .f32) (f : ℕ → ℕ → EReal) (hy : ∀ j, y j = f (j 0).val (j 1).val) (j : S1x256x128.Idx) :
    outP y j = f (j 1).val (j 2).val := by
  pointwise [outP, hy]

theorem xr_apply (y : FVec Ideal S256x128 .f32) (f : ℕ → ℕ → EReal) (hy : ∀ j, y j = f (j 0).val (j 1).val) (j : S256x1.Idx) :
    xr y j = ((Finset.range 128).sup fun d => max (f (j 0).val d) (-(f (j 0).val d))) * Ideal.ofBits .f32 0x3B124925#32 := by
  pointwise [xr, hy, cbot]
  exact congrArg (fun x => x * Ideal.ofBits .f32 0x3B124925#32) (fold_max (n := 128) fun d => max (f (j 0).val d) (-(f (j 0).val d)))

theorem er_apply (y : FVec Ideal S256x128 .f32) (X : ℕ → EReal) (hx : ∀ j, xr y j = X (j 0).val) (j : S256x1.Idx) :
    er y j = erow (X (j 0).val) := by
  have hn : (Named.named (F := Ideal) Cert.KernelIdeal.κ "log2e" (φ := .f32) 0x3FB8AA3B#32) = ((L : ℝ) : EReal) :=
    IdealRules.named_const.ideal_named_scalar _ _ _ _ rfl
  pointwise [er, hx, hn]
  rfl

theorem codesP_apply (y : FVec Ideal S256x128 .f32) (f : ℕ → ℕ → EReal) (X : ℕ → EReal) (hy : ∀ j, y j = f (j 0).val (j 1).val)
    (he : ∀ j, er y j = X (j 0).val) (j : S1x256x128.Idx) :
    codesP y j = min (max (f (j 1).val (j 2).val * Ideal.exp2 (0 - X (j 1).val)) ((-448 : ℝ) : EReal)) ((448 : ℝ) : EReal) := by
  pointwise [codesP, hy, he, c448, cn448]
  rfl

theorem scaleStep_apply (h : BitVec 32) (y : FVec Ideal S256x128 .f32) (X : ℕ → EReal) (he : ∀ j, er y j = X (j 0).val)
    (prev : FVec Ideal S256x128 .f32) (j : S256x128.Idx) :
    scaleStep h y prev j = if BitVec.ofNat 32 (j 1).val = h then Ideal.exp2 (X (j 0).val) else prev j := by
  pointwise [scaleStep, he]
  by_cases hh : BitVec.ofNat 32 (j 1).val = h
  · rw [if_pos hh]; simp [Scalar.select, IntOp.cmpi, hh]; rfl
  · rw [if_neg hh]
    have : (BitVec.ofNat 32 (j 1).val == h) = false := beq_eq_false_iff_ne.mpr hh
    simp [Scalar.select, IntOp.cmpi, this]

/-! ## One tile -/

section Tile
variable (P : Pt)

theorem m8s_step {a : FVec Ideal S8x256 .f32} {s : FVec Ideal S256x256 .f32} {f : ℕ → ℕ → EReal} (N : ℕ)
    (ha : ∀ j, a j = (Finset.range N).sup fun t => f (8 * t + (j 0).val) (j 1).val) (hs : ∀ j, s j = f (8 * N + (j 0).val) (j 1).val)
    (j : S8x256.Idx) : m8s a s j = (Finset.range (N + 32)).sup fun t => f (8 * t + (j 0).val) (j 1).val := by
  have hr := redmax_apply s (fun r c => f (8 * N + r) c) hs j
  show max (a j) _ = _
  refine (congrArg₂ max (ha j) hr).trans ?_
  apply le_antisymm
  · refine max_le (Finset.sup_le fun t ht => ?_) (Finset.sup_le fun t ht => ?_)
    · exact Finset.le_sup (f := fun t => f (8 * t + (j 0).val) (j 1).val) (by simp only [Finset.mem_range] at *; omega)
    · have h2 : f (8 * (N + t) + (j 0).val) (j 1).val ≤ (Finset.range (N + 32)).sup fun t => f (8 * t + (j 0).val) (j 1).val :=
        Finset.le_sup (f := fun t => f (8 * t + (j 0).val) (j 1).val) (by simp only [Finset.mem_range] at *; omega)
      rw [show 8 * (N + t) + (j 0).val = 8 * N + (8 * t + (j 0).val) by ring] at h2
      exact h2
  · refine Finset.sup_le fun t ht => ?_
    by_cases h : t < N
    · exact le_max_of_le_left (Finset.le_sup (f := fun t => f (8 * t + (j 0).val) (j 1).val) (Finset.mem_range.mpr h))
    · refine le_max_of_le_right ?_
      have h2 : f (8 * N + (8 * (t - N) + (j 0).val)) (j 1).val ≤ (Finset.range 32).sup fun t => f (8 * N + (8 * t + (j 0).val)) (j 1).val :=
        Finset.le_sup (f := fun t => f (8 * N + (8 * t + (j 0).val)) (j 1).val) (by simp only [Finset.mem_range] at *; omega)
      rw [show 8 * N + (8 * (t - N) + (j 0).val) = 8 * t + (j 0).val by omega] at h2
      exact h2

theorem l8s_step {a : FVec Ideal S8x256 .f32} {s : FVec Ideal S256x256 .f32} {f : ℕ → ℕ → EReal} (N : ℕ)
    (ha : ∀ j, a j = ∑ t ∈ Finset.range N, f (8 * t + (j 0).val) (j 1).val) (hs : ∀ j, s j = f (8 * N + (j 0).val) (j 1).val)
    (j : S8x256.Idx) : l8s a s j = ∑ t ∈ Finset.range (N + 32), f (8 * t + (j 0).val) (j 1).val := by
  have hr := redadd_apply s (fun r c => f (8 * N + r) c) hs j
  show a j + _ = _
  refine (congrArg₂ (· + ·) (ha j) hr).trans ?_
  rw [Finset.sum_range_add]
  refine congrArg (_ + ·) (Finset.sum_congr rfl fun t _ => ?_)
  congr 1; ring

theorem accs_step {a : FVec Ideal S128x256 .f32} {v : Vec Ideal S1x1x128x256 .fp8e4m3} {p : FVec Ideal S256x256 .fp8e4m3}
    {f g : ℕ → ℕ → EReal} (N : ℕ) (ha : ∀ j, a j = ∑ k ∈ Finset.range N, f (j 0).val k * g k (j 1).val)
    (hv : ∀ j, v j = f (j 2).val (N + (j 3).val)) (hp : ∀ j, p j = g (N + (j 0).val) (j 1).val) (j : S128x256.Idx) :
    accs a v p j = ∑ k ∈ Finset.range (N + 256), f (j 0).val k * g k (j 1).val := by
  rw [accs_apply a v p (fun d k => f d (N + k)) (fun k c => g (N + k) c) hv hp, ha, Finset.sum_range_add]

theorem m8z_apply (f : ℕ → ℕ → EReal) (j : S8x256.Idx) : m8z (F := Ideal) j = (Finset.range 0).sup fun t => f (8 * t + (j 0).val) (j 1).val := by
  pointwise [m8z, cbot]
  rfl
theorem l8z_apply (f : ℕ → ℕ → EReal) (j : S8x256.Idx) : l8z (F := Ideal) j = ∑ t ∈ Finset.range 0, f (8 * t + (j 0).val) (j 1).val := by
  pointwise [l8z]
  rfl
theorem accz_apply (f g : ℕ → ℕ → EReal) (j : S128x256.Idx) : accz (F := Ideal) j = ∑ k ∈ Finset.range 0, f (j 0).val k * g k (j 1).val := by
  pointwise [accz]
  rfl

theorem X_bot {h q k : ℕ} (hk : q < k) : P.X h q k = ⊥ := if_neg (by omega)

/-- The greatest scaled score of a query, from the blocks up to its own. -/
theorem mtop {a : FVec Ideal S8x256 .f32} (h q0 n : ℕ) (hn : 8 * n ≤ 1024) (hq : q0 + 256 ≤ 8 * n)
    (ha : ∀ j, a j = (Finset.range n).sup fun t => (L : EReal) * P.X h (q0 + (j 1).val) (8 * t + (j 0).val)) (j : S1x256.Idx) :
    mfin a j = (L : EReal) * Finset.univ.sup (P.XR h (q0 + (j 1).val)) := by
  have hj1 : (j 1).val < 256 := (j 1).isLt
  rw [mfin_apply a (fun r c => (Finset.range n).sup fun t => (L : EReal) * P.X h (q0 + c) (8 * t + r)) ha,
    sup_rows (fun k => (L : EReal) * P.X h (q0 + (j 1).val) k) n, sup_scale,
    sup_range_le hn (fun k => P.X h (q0 + (j 1).val) k) fun k hk _ => X_bot P (by omega)]
  rfl

/-- The exponential of a score. -/
def Ef (h q k : ℕ) : EReal := Ideal.exp (P.X h q k - Finset.univ.sup (P.XR h q))

theorem Ef_bot {h q k : ℕ} (hk : q < k) : Ef P h q k = 0 := by
  rw [Ef, X_bot P hk, EReal.bot_sub]; rfl

theorem ex_sem {s : FVec Ideal S256x256 .f32} {m : FVec Ideal S1x256 .f32} (h q0 k0 : ℕ)
    (hs : ∀ j, s j = (L : EReal) * P.X h (q0 + (j 1).val) (k0 + (j 0).val))
    (hm : ∀ j, m j = (L : EReal) * Finset.univ.sup (P.XR h (q0 + (j 1).val))) (j : S256x256.Idx) :
    ex s m j = Ef P h (q0 + (j 1).val) (k0 + (j 0).val) := by
  rw [ex_apply, hs, hm]; exact exp2_sub _ _

theorem rtop {a : FVec Ideal S8x256 .f32} (h q0 n : ℕ) (hn : 8 * n ≤ 1024) (hq : q0 + 256 ≤ 8 * n)
    (ha : ∀ j, a j = ∑ t ∈ Finset.range n, Ef P h (q0 + (j 1).val) (8 * t + (j 0).val)) (j : S1x256.Idx) :
    rfin a j = Ideal.div ((256 : ℝ) : EReal) (l (P.XR h (q0 + (j 1).val))) := by
  have hj1 : (j 1).val < 256 := (j 1).isLt
  rw [rfin_apply a (fun r c => ∑ t ∈ Finset.range n, Ef P h (q0 + c) (8 * t + r)) ha,
    sum_rows (fun k => Ef P h (q0 + (j 1).val) k) n,
    sum_range_le hn (fun k => Ef P h (q0 + (j 1).val) k) fun k hk _ => Ef_bot P (by omega)]
  rfl

theorem w_bot {h q k : ℕ} (hk : q < k) : P.w h q k = 0 := by
  show min (Ef P h q k * _) _ = _
  rw [Ef_bot P hk, zero_mul, min_eq_left]
  exact_mod_cast (by norm_num : (0 : ℝ) ≤ 448)

theorem p8_sem {e : FVec Ideal S256x256 .f32} {r : FVec Ideal S1x256 .f32} (h q0 k0 : ℕ) (hk : k0 + 256 ≤ 1024)
    (he : ∀ j, e j = Ef P h (q0 + (j 1).val) (k0 + (j 0).val))
    (hr : ∀ j, r j = Ideal.div ((256 : ℝ) : EReal) (l (P.XR h (q0 + (j 1).val)))) (j : S256x256.Idx) :
    p8 e r j = P.w h (q0 + (j 1).val) (k0 + (j 0).val) := by
  have hj0 : (j 0).val < 256 := (j 0).isLt
  rw [p8_apply, he, hr]
  exact W_kernel (P.XR h (q0 + (j 1).val)) (⟨k0 + (j 0).val, by omega⟩ : Fin 1024)

theorem ytop {a : FVec Ideal S128x256 .f32} {gate : Vec Ideal S1x256x128 .bf16} {vs : Vec Ideal S1x1x128 .f32} (h q0 n : ℕ)
    (hn : n ≤ 1024) (hq : q0 + 256 ≤ n)
    (ha : ∀ j, a j = ∑ k ∈ Finset.range n, P.v (j 0).val k * P.w h (q0 + (j 1).val) k)
    (hg : ∀ j, gate j = P.g h (q0 + (j 1).val) (j 2).val) (hv : ∀ j, vs j = P.vs (j 2).val) (j : S256x128.Idx) :
    yv a gate vs j = P.Y h (q0 + (j 0).val) (j 1).val := by
  have hj0 : (j 0).val < 256 := (j 0).isLt
  rw [yv_apply a gate vs j (fun d c => ∑ k ∈ Finset.range n, P.v d k * P.w h (q0 + c) k) (fun c d => P.g h (q0 + c) d) P.vs ha hg hv,
    sum_range_le hn (fun k => P.v (j 1).val k * P.w h (q0 + (j 0).val) k) fun k hk _ => by rw [w_bot P (by omega), mul_zero]]
  rfl

/-- A tile with one block of keys. -/
theorem tile1 {h : ℕ} {y : FVec Ideal S256x128 .f32} {v0 : Vec Ideal S1x1x128x256 .fp8e4m3} {e0 d0 : Vec Ideal S256x256 .f32} {s0 : FVec Ideal S256x256 .f32}
    {r m : FVec Ideal S1x256 .f32} {gate : Vec Ideal S1x256x128 .bf16} {vs : Vec Ideal S1x1x128 .f32}
    (hy : y = yv (accs accz v0 (p8 e0 r)) gate vs) (hr : r = rfin (l8s l8z (ex d0 m))) (hm : m = mfin (m8s m8z s0))
    (he0 : e0 = st (ex d0 m)) (hd0 : d0 = st s0)
    (hs0 : ∀ j, s0 j = (L : EReal) * P.X h (0 + (j 1).val) (0 + (j 0).val)) (hv0 : ∀ j, v0 j = P.v (j 2).val (0 + (j 3).val))
    (hg : ∀ j, gate j = P.g h (0 + (j 1).val) (j 2).val) (hvs : ∀ j, vs j = P.vs (j 2).val) (j : S256x128.Idx) :
    y j = P.Y h (0 + (j 0).val) (j 1).val := by
  rw [st_eq] at he0 hd0
  subst he0 hd0
  have Hm : ∀ j, m j = (L : EReal) * Finset.univ.sup (P.XR h (0 + (j 1).val)) := by
    intro j
    rw [hm]
    exact mtop P h 0 32 (by omega) (by omega) (m8s_step (f := fun k c => (L : EReal) * P.X h (0 + c) k) 0 (m8z_apply fun k c => (L : EReal) * P.X h (0 + c) k) hs0) j
  have H0 := ex_sem P h 0 0 hs0 Hm
  have Hr : ∀ j, r j = Ideal.div ((256 : ℝ) : EReal) (l (P.XR h (0 + (j 1).val))) := by
    intro j
    rw [hr]
    exact rtop P h 0 32 (by omega) (by omega) (l8s_step (f := fun k c => Ef P h (0 + c) k) 0 (l8z_apply fun k c => Ef P h (0 + c) k) H0) j
  subst hy
  exact ytop P h 0 256 (by omega) (by omega)
    (accs_step (f := P.v) (g := fun k c => P.w h (0 + c) k) 0 (accz_apply P.v fun k c => P.w h (0 + c) k) hv0 (p8_sem P h 0 0 (by omega) H0 Hr)) hg hvs j

/-- A tile with two blocks of keys. -/
theorem tile2 {h : ℕ} {y : FVec Ideal S256x128 .f32} {v0 v1 : Vec Ideal S1x1x128x256 .fp8e4m3} {e0 e1 d0 d1 : Vec Ideal S256x256 .f32} {s0 s1 : FVec Ideal S256x256 .f32}
    {r m : FVec Ideal S1x256 .f32} {gate : Vec Ideal S1x256x128 .bf16} {vs : Vec Ideal S1x1x128 .f32}
    (hy : y = yv (accs (accs accz v0 (p8 e0 r)) v1 (p8 e1 r)) gate vs) (hr : r = rfin (l8s (l8s l8z (ex d0 m)) (ex d1 m)))
    (hm : m = mfin (m8s (m8s m8z s0) s1))
    (he0 : e0 = st (ex d0 m)) (hd0 : d0 = st s0) (he1 : e1 = st (ex d1 m)) (hd1 : d1 = st s1)
    (hs0 : ∀ j, s0 j = (L : EReal) * P.X h (256 + (j 1).val) (0 + (j 0).val)) (hv0 : ∀ j, v0 j = P.v (j 2).val (0 + (j 3).val))
    (hs1 : ∀ j, s1 j = (L : EReal) * P.X h (256 + (j 1).val) (256 + (j 0).val)) (hv1 : ∀ j, v1 j = P.v (j 2).val (256 + (j 3).val))
    (hg : ∀ j, gate j = P.g h (256 + (j 1).val) (j 2).val) (hvs : ∀ j, vs j = P.vs (j 2).val) (j : S256x128.Idx) :
    y j = P.Y h (256 + (j 0).val) (j 1).val := by
  rw [st_eq] at he0 hd0 he1 hd1
  subst he0 hd0 he1 hd1
  have Hm : ∀ j, m j = (L : EReal) * Finset.univ.sup (P.XR h (256 + (j 1).val)) := by
    intro j
    rw [hm]
    exact mtop P h 256 64 (by omega) (by omega) (m8s_step (f := fun k c => (L : EReal) * P.X h (256 + c) k) 32 (m8s_step (f := fun k c => (L : EReal) * P.X h (256 + c) k) 0 (m8z_apply fun k c => (L : EReal) * P.X h (256 + c) k) hs0) hs1) j
  have H0 := ex_sem P h 256 0 hs0 Hm
  have H1 := ex_sem P h 256 256 hs1 Hm
  have Hr : ∀ j, r j = Ideal.div ((256 : ℝ) : EReal) (l (P.XR h (256 + (j 1).val))) := by
    intro j
    rw [hr]
    exact rtop P h 256 64 (by omega) (by omega) (l8s_step (f := fun k c => Ef P h (256 + c) k) 32 (l8s_step (f := fun k c => Ef P h (256 + c) k) 0 (l8z_apply fun k c => Ef P h (256 + c) k) H0) H1) j
  subst hy
  exact ytop P h 256 512 (by omega) (by omega)
    (accs_step (f := P.v) (g := fun k c => P.w h (256 + c) k) 256 (accs_step (f := P.v) (g := fun k c => P.w h (256 + c) k) 0 (accz_apply P.v fun k c => P.w h (256 + c) k) hv0 (p8_sem P h 256 0 (by omega) H0 Hr)) hv1 (p8_sem P h 256 256 (by omega) H1 Hr)) hg hvs j

/-- A tile with three blocks of keys. -/
theorem tile3 {h : ℕ} {y : FVec Ideal S256x128 .f32} {v0 v1 v2 : Vec Ideal S1x1x128x256 .fp8e4m3} {e0 e1 e2 d0 d1 d2 : Vec Ideal S256x256 .f32} {s0 s1 s2 : FVec Ideal S256x256 .f32}
    {r m : FVec Ideal S1x256 .f32} {gate : Vec Ideal S1x256x128 .bf16} {vs : Vec Ideal S1x1x128 .f32}
    (hy : y = yv (accs (accs (accs accz v0 (p8 e0 r)) v1 (p8 e1 r)) v2 (p8 e2 r)) gate vs) (hr : r = rfin (l8s (l8s (l8s l8z (ex d0 m)) (ex d1 m)) (ex d2 m)))
    (hm : m = mfin (m8s (m8s (m8s m8z s0) s1) s2))
    (he0 : e0 = st (ex d0 m)) (hd0 : d0 = st s0) (he1 : e1 = st (ex d1 m)) (hd1 : d1 = st s1) (he2 : e2 = st (ex d2 m)) (hd2 : d2 = st s2)
    (hs0 : ∀ j, s0 j = (L : EReal) * P.X h (512 + (j 1).val) (0 + (j 0).val)) (hv0 : ∀ j, v0 j = P.v (j 2).val (0 + (j 3).val))
    (hs1 : ∀ j, s1 j = (L : EReal) * P.X h (512 + (j 1).val) (256 + (j 0).val)) (hv1 : ∀ j, v1 j = P.v (j 2).val (256 + (j 3).val))
    (hs2 : ∀ j, s2 j = (L : EReal) * P.X h (512 + (j 1).val) (512 + (j 0).val)) (hv2 : ∀ j, v2 j = P.v (j 2).val (512 + (j 3).val))
    (hg : ∀ j, gate j = P.g h (512 + (j 1).val) (j 2).val) (hvs : ∀ j, vs j = P.vs (j 2).val) (j : S256x128.Idx) :
    y j = P.Y h (512 + (j 0).val) (j 1).val := by
  rw [st_eq] at he0 hd0 he1 hd1 he2 hd2
  subst he0 hd0 he1 hd1 he2 hd2
  have Hm : ∀ j, m j = (L : EReal) * Finset.univ.sup (P.XR h (512 + (j 1).val)) := by
    intro j
    rw [hm]
    exact mtop P h 512 96 (by omega) (by omega) (m8s_step (f := fun k c => (L : EReal) * P.X h (512 + c) k) 64 (m8s_step (f := fun k c => (L : EReal) * P.X h (512 + c) k) 32 (m8s_step (f := fun k c => (L : EReal) * P.X h (512 + c) k) 0 (m8z_apply fun k c => (L : EReal) * P.X h (512 + c) k) hs0) hs1) hs2) j
  have H0 := ex_sem P h 512 0 hs0 Hm
  have H1 := ex_sem P h 512 256 hs1 Hm
  have H2 := ex_sem P h 512 512 hs2 Hm
  have Hr : ∀ j, r j = Ideal.div ((256 : ℝ) : EReal) (l (P.XR h (512 + (j 1).val))) := by
    intro j
    rw [hr]
    exact rtop P h 512 96 (by omega) (by omega) (l8s_step (f := fun k c => Ef P h (512 + c) k) 64 (l8s_step (f := fun k c => Ef P h (512 + c) k) 32 (l8s_step (f := fun k c => Ef P h (512 + c) k) 0 (l8z_apply fun k c => Ef P h (512 + c) k) H0) H1) H2) j
  subst hy
  exact ytop P h 512 768 (by omega) (by omega)
    (accs_step (f := P.v) (g := fun k c => P.w h (512 + c) k) 512 (accs_step (f := P.v) (g := fun k c => P.w h (512 + c) k) 256 (accs_step (f := P.v) (g := fun k c => P.w h (512 + c) k) 0 (accz_apply P.v fun k c => P.w h (512 + c) k) hv0 (p8_sem P h 512 0 (by omega) H0 Hr)) hv1 (p8_sem P h 512 256 (by omega) H1 Hr)) hv2 (p8_sem P h 512 512 (by omega) H2 Hr)) hg hvs j

/-- A tile with four blocks of keys. -/
theorem tile4 {h : ℕ} {y : FVec Ideal S256x128 .f32} {v0 v1 v2 v3 : Vec Ideal S1x1x128x256 .fp8e4m3} {e0 e1 e2 e3 d0 d1 d2 d3 : Vec Ideal S256x256 .f32} {s0 s1 s2 s3 : FVec Ideal S256x256 .f32}
    {r m : FVec Ideal S1x256 .f32} {gate : Vec Ideal S1x256x128 .bf16} {vs : Vec Ideal S1x1x128 .f32}
    (hy : y = yv (accs (accs (accs (accs accz v0 (p8 e0 r)) v1 (p8 e1 r)) v2 (p8 e2 r)) v3 (p8 e3 r)) gate vs) (hr : r = rfin (l8s (l8s (l8s (l8s l8z (ex d0 m)) (ex d1 m)) (ex d2 m)) (ex d3 m)))
    (hm : m = mfin (m8s (m8s (m8s (m8s m8z s0) s1) s2) s3))
    (he0 : e0 = st (ex d0 m)) (hd0 : d0 = st s0) (he1 : e1 = st (ex d1 m)) (hd1 : d1 = st s1) (he2 : e2 = st (ex d2 m)) (hd2 : d2 = st s2) (he3 : e3 = st (ex d3 m)) (hd3 : d3 = st s3)
    (hs0 : ∀ j, s0 j = (L : EReal) * P.X h (768 + (j 1).val) (0 + (j 0).val)) (hv0 : ∀ j, v0 j = P.v (j 2).val (0 + (j 3).val))
    (hs1 : ∀ j, s1 j = (L : EReal) * P.X h (768 + (j 1).val) (256 + (j 0).val)) (hv1 : ∀ j, v1 j = P.v (j 2).val (256 + (j 3).val))
    (hs2 : ∀ j, s2 j = (L : EReal) * P.X h (768 + (j 1).val) (512 + (j 0).val)) (hv2 : ∀ j, v2 j = P.v (j 2).val (512 + (j 3).val))
    (hs3 : ∀ j, s3 j = (L : EReal) * P.X h (768 + (j 1).val) (768 + (j 0).val)) (hv3 : ∀ j, v3 j = P.v (j 2).val (768 + (j 3).val))
    (hg : ∀ j, gate j = P.g h (768 + (j 1).val) (j 2).val) (hvs : ∀ j, vs j = P.vs (j 2).val) (j : S256x128.Idx) :
    y j = P.Y h (768 + (j 0).val) (j 1).val := by
  rw [st_eq] at he0 hd0 he1 hd1 he2 hd2 he3 hd3
  subst he0 hd0 he1 hd1 he2 hd2 he3 hd3
  have Hm : ∀ j, m j = (L : EReal) * Finset.univ.sup (P.XR h (768 + (j 1).val)) := by
    intro j
    rw [hm]
    exact mtop P h 768 128 (by omega) (by omega) (m8s_step (f := fun k c => (L : EReal) * P.X h (768 + c) k) 96 (m8s_step (f := fun k c => (L : EReal) * P.X h (768 + c) k) 64 (m8s_step (f := fun k c => (L : EReal) * P.X h (768 + c) k) 32 (m8s_step (f := fun k c => (L : EReal) * P.X h (768 + c) k) 0 (m8z_apply fun k c => (L : EReal) * P.X h (768 + c) k) hs0) hs1) hs2) hs3) j
  have H0 := ex_sem P h 768 0 hs0 Hm
  have H1 := ex_sem P h 768 256 hs1 Hm
  have H2 := ex_sem P h 768 512 hs2 Hm
  have H3 := ex_sem P h 768 768 hs3 Hm
  have Hr : ∀ j, r j = Ideal.div ((256 : ℝ) : EReal) (l (P.XR h (768 + (j 1).val))) := by
    intro j
    rw [hr]
    exact rtop P h 768 128 (by omega) (by omega) (l8s_step (f := fun k c => Ef P h (768 + c) k) 96 (l8s_step (f := fun k c => Ef P h (768 + c) k) 64 (l8s_step (f := fun k c => Ef P h (768 + c) k) 32 (l8s_step (f := fun k c => Ef P h (768 + c) k) 0 (l8z_apply fun k c => Ef P h (768 + c) k) H0) H1) H2) H3) j
  subst hy
  exact ytop P h 768 1024 (by omega) (by omega)
    (accs_step (f := P.v) (g := fun k c => P.w h (768 + c) k) 768 (accs_step (f := P.v) (g := fun k c => P.w h (768 + c) k) 512 (accs_step (f := P.v) (g := fun k c => P.w h (768 + c) k) 256 (accs_step (f := P.v) (g := fun k c => P.w h (768 + c) k) 0 (accz_apply P.v fun k c => P.w h (768 + c) k) hv0 (p8_sem P h 768 0 (by omega) H0 Hr)) hv1 (p8_sem P h 768 256 (by omega) H1 Hr)) hv2 (p8_sem P h 768 512 (by omega) H2 Hr)) hv3 (p8_sem P h 768 768 (by omega) H3 Hr)) hg hvs j

end Tile

end Cert.Unit

end
-- ==== Proof.ExtW.lean ====
module

public import proofs.«01_k».proof.Proof.Reads
public import proofs.«01_k».proof.Proof.UnitB
public import proofs.«01_k».proof.Proof.Gen.KernelIdeal.Value
import all proofs.«01_k».proof.Proof.Gen.KernelIdeal.Frame.RunA

@[expose] public section

/-! What the run leaves in the scratch arrays of decoded key codes and of products with the query means. -/

noncomputable section

namespace Cert.Unit

open Idealize.ShloMosaic Cert.KernelIdeal Cert.KernelIdeal.Gen Cert.Alg

/-- The rows of decoded key codes that the run reads back. -/
theorem kc_rows {P : Pt} {CQ : ℕ → ℕ → ℕ → BitVec 8} {CK : ℕ → ℕ → BitVec 8} (c : Dev nD) (i : grid0.Coords) (arg2 : Memref sig .tc .smem S28x2x32 .f32) (harg2 : arg2.IsWhole) (arg3 : Memref sig .tc .smem S2x4x32 .f32) (harg3 : arg3.IsWhole) (arg4 : Memref sig .tc .vmem S1x7x64x1024 .i8) (harg4 : arg4.IsWhole) (arg5 : Memref sig .tc .vmem S1x7x8x128 .bf16) (harg5 : arg5.IsWhole) (arg6 : Memref sig .tc .vmem S1x1x64x1024 .i8) (harg6 : arg6.IsWhole) (arg7 : Memref sig .tc .vmem S1x1x128x1024 .fp8e4m3) (harg7 : arg7.IsWhole) (arg8 : Memref sig .tc .vmem S1x4x128 .f32) (harg8 : arg8.IsWhole) (arg9 : Memref sig .tc .vmem S1x1024x896 .bf16) (harg9 : arg9.IsWhole) (arg10 : Memref sig .tc .vmem S1x1024x896 .bf16) (harg10 : arg10.IsWhole) (arg11 : Memref sig .tc .vmem S1x1024x896 .fp8e4m3) (harg11 : arg11.IsWhole) (arg12 : Memref sig .tc .vmem S1x1x8x1024 .f32) (harg12 : arg12.IsWhole) (arg13 : Memref sig .tc .vmem S1024x128 .bf16) (harg13 : arg13.IsWhole) (arg14 : Memref sig .tc .vmem S4x1024x128 .bf16) (harg14 : arg14.IsWhole) (arg15 : Memref sig .tc .vmem S1024x256 .f32) (harg15 : arg15.IsWhole)
 (x0 : Vec Ideal S28x2x32 .f32) (x1 : Vec Ideal S2x4x32 .f32) (x2 : Vec Ideal S1x7x64x1024 .i8) (x3 : Vec Ideal S1x7x8x128 .bf16) (x4 : Vec Ideal S1x1x64x1024 .i8) (x5 : Vec Ideal S1x1x128x1024 .fp8e4m3) (x6 : Vec Ideal S1x4x128 .f32) (x7 : Vec Ideal S1x1024x896 .bf16)
    (H : Leaves P (i 0).val (i 1).val CQ CK x0 x1 x2 x3 x4 x5 x6 x7) {n : ℕ} (o : ℕ)
    (inb' : ∀ a, (![o, 0] : Fin 2 → ℕ) a + (⟨2, ![n, 128]⟩ : Shape).size a ≤ S1024x128.size a) (j : (⟨2, ![n, 128]⟩ : Shape).Idx) :
    arg13.view.readCov (Val := Elt Ideal) (kernelRun0_A.sl.HS0_1 c arg6 harg6 x4) (Rect.unit (s := S1024x128) ![o, 0] (⟨2, ![n, 128]⟩ : Shape).size inb').toLoadRect j
      = (P.K (o + (j 0).val) (j 1).val : EReal) :=
  rdKc (P := P) arg13 _ (fun j => kc_apply H (fun j => ldX4 H arg6 harg6 _ j) j) _ inb' j

/-- The extension array's writes. -/
theorem ext_pieces {P : Pt} {CQ : ℕ → ℕ → ℕ → BitVec 8} {CK : ℕ → ℕ → BitVec 8} (c : Dev nD) (i : grid0.Coords) (arg2 : Memref sig .tc .smem S28x2x32 .f32) (harg2 : arg2.IsWhole) (arg3 : Memref sig .tc .smem S2x4x32 .f32) (harg3 : arg3.IsWhole) (arg4 : Memref sig .tc .vmem S1x7x64x1024 .i8) (harg4 : arg4.IsWhole) (arg5 : Memref sig .tc .vmem S1x7x8x128 .bf16) (harg5 : arg5.IsWhole) (arg6 : Memref sig .tc .vmem S1x1x64x1024 .i8) (harg6 : arg6.IsWhole) (arg7 : Memref sig .tc .vmem S1x1x128x1024 .fp8e4m3) (harg7 : arg7.IsWhole) (arg8 : Memref sig .tc .vmem S1x4x128 .f32) (harg8 : arg8.IsWhole) (arg9 : Memref sig .tc .vmem S1x1024x896 .bf16) (harg9 : arg9.IsWhole) (arg10 : Memref sig .tc .vmem S1x1024x896 .bf16) (harg10 : arg10.IsWhole) (arg11 : Memref sig .tc .vmem S1x1024x896 .fp8e4m3) (harg11 : arg11.IsWhole) (arg12 : Memref sig .tc .vmem S1x1x8x1024 .f32) (harg12 : arg12.IsWhole) (arg13 : Memref sig .tc .vmem S1024x128 .bf16) (harg13 : arg13.IsWhole) (arg14 : Memref sig .tc .vmem S4x1024x128 .bf16) (harg14 : arg14.IsWhole) (arg15 : Memref sig .tc .vmem S1024x256 .f32) (harg15 : arg15.IsWhole)
 (x0 : Vec Ideal S28x2x32 .f32) (x1 : Vec Ideal S2x4x32 .f32) (x2 : Vec Ideal S1x7x64x1024 .i8) (x3 : Vec Ideal S1x7x8x128 .bf16) (x4 : Vec Ideal S1x1x64x1024 .i8) (x5 : Vec Ideal S1x1x128x1024 .fp8e4m3) (x6 : Vec Ideal S1x4x128 .f32) (x7 : Vec Ideal S1x1024x896 .bf16)
    (H : Leaves P (i 0).val (i 1).val CQ CK x0 x1 x2 x3 x4 x5 x6 x7) :
    View.PiecesOf (fun y : S4x1024x128.Idx => EX P (y 0).val (y 1).val (y 2).val) (kernelRun0_A.sl.HS1_4 (F := Ideal) c arg5 harg5 arg6 harg6 arg13 x3 x4) := by
  have hr : ∀ {n : ℕ} (inb' : ∀ a, (![0, 0] : Fin 2 → ℕ) a + (⟨2, ![n, 128]⟩ : Shape).size a ≤ S1024x128.size a) (j : (⟨2, ![n, 128]⟩ : Shape).Idx),
      arg13.view.readCov (Val := Elt Ideal) (kernelRun0_A.sl.HS0_1 c arg6 harg6 x4) (Rect.unit (s := S1024x128) ![0, 0] (⟨2, ![n, 128]⟩ : Shape).size inb').toLoadRect j
        = (P.K (j 0).val (j 1).val : EReal) := by
    intro n inb' j
    refine (kc_rows c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 H 0 inb' j).trans ?_
    rw [zero_add]
  refine ⟨fun x => extPiece (fun j => ext3_apply P lane8_apply (hr _) (fun j => ldX3 H 6 3 rfl arg5 harg5 _ j) j) inb_S4x1024x128_S1x1024x128_3_0_0 x,
    fun x => extPiece (fun j => ext2_apply P lane8_apply (hr _) (fun j => ldX3 H 4 2 rfl arg5 harg5 _ j) j) inb_S4x1024x128_S1x768x128_2_0_0 x,
    fun x => extPiece (fun j => ext1_apply P lane8_apply (hr _) (fun j => ldX3 H 2 1 rfl arg5 harg5 _ j) j) inb_S4x1024x128_S1x512x128_1_0_0 x,
    fun x => extPiece (fun j => ext0_apply P lane8_apply (hr _) (fun j => ldX3 H 0 0 rfl arg5 harg5 _ j) j) inb_S4x1024x128_S1x256x128_0_0_0 x, trivial⟩

end Cert.Unit

end
-- ==== Proof.Row0.lean ====
module

public import proofs.«01_k».proof.Proof.ExtW
import all proofs.«01_k».proof.Proof.Gen.KernelIdeal.Frame.RunA

@[expose] public section

/-! The tiles of query block 0: what the run stores there, for the seven heads. -/

noncomputable section

namespace Cert.Unit

open Idealize.ShloMosaic Cert.KernelIdeal Cert.KernelIdeal.Gen Cert.Alg

set_option maxHeartbeats 1600000 in
/-- The stores of query block 0 are built from seven tiles, and each tile is what is specified. -/
theorem row0 {P : Pt} {CQ : ℕ → ℕ → ℕ → BitVec 8} {CK : ℕ → ℕ → BitVec 8} (c : Dev nD) (i : grid0.Coords) (arg2 : Memref sig .tc .smem S28x2x32 .f32) (harg2 : arg2.IsWhole) (arg3 : Memref sig .tc .smem S2x4x32 .f32) (harg3 : arg3.IsWhole) (arg4 : Memref sig .tc .vmem S1x7x64x1024 .i8) (harg4 : arg4.IsWhole) (arg5 : Memref sig .tc .vmem S1x7x8x128 .bf16) (harg5 : arg5.IsWhole) (arg6 : Memref sig .tc .vmem S1x1x64x1024 .i8) (harg6 : arg6.IsWhole) (arg7 : Memref sig .tc .vmem S1x1x128x1024 .fp8e4m3) (harg7 : arg7.IsWhole) (arg8 : Memref sig .tc .vmem S1x4x128 .f32) (harg8 : arg8.IsWhole) (arg9 : Memref sig .tc .vmem S1x1024x896 .bf16) (harg9 : arg9.IsWhole) (arg10 : Memref sig .tc .vmem S1x1024x896 .bf16) (harg10 : arg10.IsWhole) (arg11 : Memref sig .tc .vmem S1x1024x896 .fp8e4m3) (harg11 : arg11.IsWhole) (arg12 : Memref sig .tc .vmem S1x1x8x1024 .f32) (harg12 : arg12.IsWhole) (arg13 : Memref sig .tc .vmem S1024x128 .bf16) (harg13 : arg13.IsWhole) (arg14 : Memref sig .tc .vmem S4x1024x128 .bf16) (harg14 : arg14.IsWhole) (arg15 : Memref sig .tc .vmem S1024x256 .f32) (harg15 : arg15.IsWhole)
 (x0 : Vec Ideal S28x2x32 .f32) (x1 : Vec Ideal S2x4x32 .f32) (x2 : Vec Ideal S1x7x64x1024 .i8) (x3 : Vec Ideal S1x7x8x128 .bf16) (x4 : Vec Ideal S1x1x64x1024 .i8) (x5 : Vec Ideal S1x1x128x1024 .fp8e4m3) (x6 : Vec Ideal S1x4x128 .f32) (x7 : Vec Ideal S1x1024x896 .bf16)
    (H : Leaves P (i 0).val (i 1).val CQ CK x0 x1 x2 x3 x4 x5 x6 x7) :
    ∃ y0 y1 y2 y3 y4 y5 y6 : FVec Ideal S256x128 .f32,
    ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).1.drop 21).take 7 = [⟨Rect.unit (s := S1x1024x896) ![0, 0, 768] S1x256x128.size inb_S1x1024x896_S1x256x128_0_0_768, outP y6⟩,
      ⟨Rect.unit (s := S1x1024x896) ![0, 0, 640] S1x256x128.size inb_S1x1024x896_S1x256x128_0_0_640, outP y5⟩,
      ⟨Rect.unit (s := S1x1024x896) ![0, 0, 512] S1x256x128.size inb_S1x1024x896_S1x256x128_0_0_512, outP y4⟩,
      ⟨Rect.unit (s := S1x1024x896) ![0, 0, 384] S1x256x128.size inb_S1x1024x896_S1x256x128_0_0_384, outP y3⟩,
      ⟨Rect.unit (s := S1x1024x896) ![0, 0, 256] S1x256x128.size inb_S1x1024x896_S1x256x128_0_0_256, outP y2⟩,
      ⟨Rect.unit (s := S1x1024x896) ![0, 0, 128] S1x256x128.size inb_S1x1024x896_S1x256x128_0_0_128, outP y1⟩,
      ⟨Rect.unit (s := S1x1024x896) ![0, 0, 0] S1x256x128.size inb_S1x1024x896_S1x256x128_0_0_0, outP y0⟩] ∧
    ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.1.drop 21).take 7 = [⟨Rect.unit (s := S1x1024x896) ![0, 0, 768] S1x256x128.size inb_S1x1024x896_S1x256x128_0_0_768, codesP y6⟩,
      ⟨Rect.unit (s := S1x1024x896) ![0, 0, 640] S1x256x128.size inb_S1x1024x896_S1x256x128_0_0_640, codesP y5⟩,
      ⟨Rect.unit (s := S1x1024x896) ![0, 0, 512] S1x256x128.size inb_S1x1024x896_S1x256x128_0_0_512, codesP y4⟩,
      ⟨Rect.unit (s := S1x1024x896) ![0, 0, 384] S1x256x128.size inb_S1x1024x896_S1x256x128_0_0_384, codesP y3⟩,
      ⟨Rect.unit (s := S1x1024x896) ![0, 0, 256] S1x256x128.size inb_S1x1024x896_S1x256x128_0_0_256, codesP y2⟩,
      ⟨Rect.unit (s := S1x1024x896) ![0, 0, 128] S1x256x128.size inb_S1x1024x896_S1x256x128_0_0_128, codesP y1⟩,
      ⟨Rect.unit (s := S1x1024x896) ![0, 0, 0] S1x256x128.size inb_S1x1024x896_S1x256x128_0_0_0, codesP y0⟩] ∧
    ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.1.drop 3).take 1 = [⟨Rect.unit (s := S1x1x8x1024) ![0, 0, 0, 0] S1x1x8x256.size inb_S1x1x8x1024_S1x1x8x256_0_0_0_0, scaleP y0 y1 y2 y3 y4 y5 y6⟩] ∧
    (∀ j : S256x128.Idx, y0 j = P.Y 0 (0 + (j 0).val) (j 1).val) ∧
    (∀ j : S256x128.Idx, y1 j = P.Y 1 (0 + (j 0).val) (j 1).val) ∧
    (∀ j : S256x128.Idx, y2 j = P.Y 2 (0 + (j 0).val) (j 1).val) ∧
    (∀ j : S256x128.Idx, y3 j = P.Y 3 (0 + (j 0).val) (j 1).val) ∧
    (∀ j : S256x128.Idx, y4 j = P.Y 4 (0 + (j 0).val) (j 1).val) ∧
    (∀ j : S256x128.Idx, y5 j = P.Y 5 (0 + (j 0).val) (j 1).val) ∧
    (∀ j : S256x128.Idx, y6 j = P.Y 6 (0 + (j 0).val) (j 1).val) := by
  have hE := ext_pieces c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 H
  have hk {n : ℕ} (o : ℕ) := kc_rows (n := n) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 H o
  refine ⟨_, _, _, _, _, _, _, rfl, rfl, rfl, ?_, ?_, ?_, ?_, ?_, ?_, ?_⟩
  · refine tile1 P rfl rfl rfl ?_ ?_ ?_ (ldX5 H _ arg7 harg7 _) (ldX7 H _ _ _ (by rfl) arg9 harg9 _) (ldX6 H arg8 harg8 rfl _)
    · exact rdHit _ _ _ _
    · exact rdHit _ _ _ _
    · refine scoreDiag P (i := 0) (by omega) rfl msk_apply ninf_apply ?_ ?_ (hk (256 * 0) _) ?_ ?_ ?_ ?_ ?_ ?_ ?_ ?_ ?_
      · refine colC P rfl ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · refine rhs0P P rfl H.hQ sub_apply (ldX2 H _ _ arg4 harg4 _) ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · exact rdExt (i := 0) (o := 256 * 0) arg14 hE inb_S4x1024x128_S1x256x128_0_0_0 (extCov (i := 0) (n := 256) (by omega) (.tail _ (.tail _ (.tail _ (.head _)))) _)
      all_goals exact ldK H _ arg3 harg3 rfl _ _
  all_goals
    refine tile1 P rfl rfl rfl ?_ ?_ ?_ (ldX5 H _ arg7 harg7 _) (ldX7 H _ _ _ (by rfl) arg9 harg9 _) (ldX6 H arg8 harg8 rfl _)
    · exact rdHit _ _ _ _
    · exact rdHit _ _ _ _
    · refine scoreDiag P (i := 0) (by omega) rfl msk_apply ninf_apply ?_ ?_ (hk (256 * 0) _) ?_ ?_ ?_ ?_ ?_ ?_ ?_ ?_ ?_
      · refine colC P rfl ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · refine rhsSP P (hc := by first | exact concatenates_S128x256_S16x256_S16x256_S96x256_S256x256_d0 | exact concatenates_S128x256_S32x256_S16x256_S80x256_S256x256_d0 | exact concatenates_S128x256_S48x256_S16x256_S64x256_S256x256_d0 | exact concatenates_S128x256_S64x256_S16x256_S48x256_S256x256_d0 | exact concatenates_S128x256_S80x256_S16x256_S32x256_S256x256_d0 | exact concatenates_S128x256_S96x256_S16x256_S16x256_S256x256_d0) rfl (by omega) (by omega) rfl rfl H.hQ sub_apply (ldX2 H _ _ arg4 harg4 _) ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · exact rdExt (i := 0) (o := 256 * 0) arg14 hE inb_S4x1024x128_S1x256x128_0_0_0 (extCov (i := 0) (n := 256) (by omega) (.tail _ (.tail _ (.tail _ (.head _)))) _)
      all_goals exact ldK H _ arg3 harg3 rfl _ _

end Cert.Unit

end
-- ==== Proof.Row1.lean ====
module

public import proofs.«01_k».proof.Proof.ExtW
import all proofs.«01_k».proof.Proof.Gen.KernelIdeal.Frame.RunA

@[expose] public section

/-! The tiles of query block 1: what the run stores there, for the seven heads. -/

noncomputable section

namespace Cert.Unit

open Idealize.ShloMosaic Cert.KernelIdeal Cert.KernelIdeal.Gen Cert.Alg

set_option maxHeartbeats 1600000 in
/-- The stores of query block 1 are built from seven tiles, and each tile is what is specified. -/
theorem row1 {P : Pt} {CQ : ℕ → ℕ → ℕ → BitVec 8} {CK : ℕ → ℕ → BitVec 8} (c : Dev nD) (i : grid0.Coords) (arg2 : Memref sig .tc .smem S28x2x32 .f32) (harg2 : arg2.IsWhole) (arg3 : Memref sig .tc .smem S2x4x32 .f32) (harg3 : arg3.IsWhole) (arg4 : Memref sig .tc .vmem S1x7x64x1024 .i8) (harg4 : arg4.IsWhole) (arg5 : Memref sig .tc .vmem S1x7x8x128 .bf16) (harg5 : arg5.IsWhole) (arg6 : Memref sig .tc .vmem S1x1x64x1024 .i8) (harg6 : arg6.IsWhole) (arg7 : Memref sig .tc .vmem S1x1x128x1024 .fp8e4m3) (harg7 : arg7.IsWhole) (arg8 : Memref sig .tc .vmem S1x4x128 .f32) (harg8 : arg8.IsWhole) (arg9 : Memref sig .tc .vmem S1x1024x896 .bf16) (harg9 : arg9.IsWhole) (arg10 : Memref sig .tc .vmem S1x1024x896 .bf16) (harg10 : arg10.IsWhole) (arg11 : Memref sig .tc .vmem S1x1024x896 .fp8e4m3) (harg11 : arg11.IsWhole) (arg12 : Memref sig .tc .vmem S1x1x8x1024 .f32) (harg12 : arg12.IsWhole) (arg13 : Memref sig .tc .vmem S1024x128 .bf16) (harg13 : arg13.IsWhole) (arg14 : Memref sig .tc .vmem S4x1024x128 .bf16) (harg14 : arg14.IsWhole) (arg15 : Memref sig .tc .vmem S1024x256 .f32) (harg15 : arg15.IsWhole)
 (x0 : Vec Ideal S28x2x32 .f32) (x1 : Vec Ideal S2x4x32 .f32) (x2 : Vec Ideal S1x7x64x1024 .i8) (x3 : Vec Ideal S1x7x8x128 .bf16) (x4 : Vec Ideal S1x1x64x1024 .i8) (x5 : Vec Ideal S1x1x128x1024 .fp8e4m3) (x6 : Vec Ideal S1x4x128 .f32) (x7 : Vec Ideal S1x1024x896 .bf16)
    (H : Leaves P (i 0).val (i 1).val CQ CK x0 x1 x2 x3 x4 x5 x6 x7) :
    ∃ y0 y1 y2 y3 y4 y5 y6 : FVec Ideal S256x128 .f32,
    ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).1.drop 14).take 7 = [⟨Rect.unit (s := S1x1024x896) ![0, 256, 768] S1x256x128.size inb_S1x1024x896_S1x256x128_0_256_768, outP y6⟩,
      ⟨Rect.unit (s := S1x1024x896) ![0, 256, 640] S1x256x128.size inb_S1x1024x896_S1x256x128_0_256_640, outP y5⟩,
      ⟨Rect.unit (s := S1x1024x896) ![0, 256, 512] S1x256x128.size inb_S1x1024x896_S1x256x128_0_256_512, outP y4⟩,
      ⟨Rect.unit (s := S1x1024x896) ![0, 256, 384] S1x256x128.size inb_S1x1024x896_S1x256x128_0_256_384, outP y3⟩,
      ⟨Rect.unit (s := S1x1024x896) ![0, 256, 256] S1x256x128.size inb_S1x1024x896_S1x256x128_0_256_256, outP y2⟩,
      ⟨Rect.unit (s := S1x1024x896) ![0, 256, 128] S1x256x128.size inb_S1x1024x896_S1x256x128_0_256_128, outP y1⟩,
      ⟨Rect.unit (s := S1x1024x896) ![0, 256, 0] S1x256x128.size inb_S1x1024x896_S1x256x128_0_256_0, outP y0⟩] ∧
    ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.1.drop 14).take 7 = [⟨Rect.unit (s := S1x1024x896) ![0, 256, 768] S1x256x128.size inb_S1x1024x896_S1x256x128_0_256_768, codesP y6⟩,
      ⟨Rect.unit (s := S1x1024x896) ![0, 256, 640] S1x256x128.size inb_S1x1024x896_S1x256x128_0_256_640, codesP y5⟩,
      ⟨Rect.unit (s := S1x1024x896) ![0, 256, 512] S1x256x128.size inb_S1x1024x896_S1x256x128_0_256_512, codesP y4⟩,
      ⟨Rect.unit (s := S1x1024x896) ![0, 256, 384] S1x256x128.size inb_S1x1024x896_S1x256x128_0_256_384, codesP y3⟩,
      ⟨Rect.unit (s := S1x1024x896) ![0, 256, 256] S1x256x128.size inb_S1x1024x896_S1x256x128_0_256_256, codesP y2⟩,
      ⟨Rect.unit (s := S1x1024x896) ![0, 256, 128] S1x256x128.size inb_S1x1024x896_S1x256x128_0_256_128, codesP y1⟩,
      ⟨Rect.unit (s := S1x1024x896) ![0, 256, 0] S1x256x128.size inb_S1x1024x896_S1x256x128_0_256_0, codesP y0⟩] ∧
    ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.1.drop 2).take 1 = [⟨Rect.unit (s := S1x1x8x1024) ![0, 0, 0, 256] S1x1x8x256.size inb_S1x1x8x1024_S1x1x8x256_0_0_0_256, scaleP y0 y1 y2 y3 y4 y5 y6⟩] ∧
    (∀ j : S256x128.Idx, y0 j = P.Y 0 (256 + (j 0).val) (j 1).val) ∧
    (∀ j : S256x128.Idx, y1 j = P.Y 1 (256 + (j 0).val) (j 1).val) ∧
    (∀ j : S256x128.Idx, y2 j = P.Y 2 (256 + (j 0).val) (j 1).val) ∧
    (∀ j : S256x128.Idx, y3 j = P.Y 3 (256 + (j 0).val) (j 1).val) ∧
    (∀ j : S256x128.Idx, y4 j = P.Y 4 (256 + (j 0).val) (j 1).val) ∧
    (∀ j : S256x128.Idx, y5 j = P.Y 5 (256 + (j 0).val) (j 1).val) ∧
    (∀ j : S256x128.Idx, y6 j = P.Y 6 (256 + (j 0).val) (j 1).val) := by
  have hE := ext_pieces c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 H
  have hk {n : ℕ} (o : ℕ) := kc_rows (n := n) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 H o
  refine ⟨_, _, _, _, _, _, _, rfl, rfl, rfl, ?_, ?_, ?_, ?_, ?_, ?_, ?_⟩
  · refine tile2 P rfl rfl rfl ?_ ?_ ?_ ?_ ?_ (ldX5 H _ arg7 harg7 _) ?_ (ldX5 H _ arg7 harg7 _) (ldX7 H _ _ _ (by rfl) arg9 harg9 _) (ldX6 H arg8 harg8 rfl _)
    · exact rdSkip _ _ _ _ _ (by decide) (rdHit _ _ _ _)
    · exact rdSkip _ _ _ _ _ (by decide) (rdHit _ _ _ _)
    · exact rdHit _ _ _ _
    · exact rdSkip _ _ _ _ _ (by decide) (rdHit _ _ _ _)
    · refine scoreOff P (i := 1) (b := 0) (by omega) (by omega) rfl ?_ ?_ (hk (256 * 0) _) ?_ ?_ ?_ ?_ ?_ ?_ ?_ ?_ ?_
      · refine colC P rfl ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · refine rhs0P P rfl H.hQ sub_apply (ldX2 H _ _ arg4 harg4 _) ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · exact rdExt (i := 1) (o := 256 * 0) arg14 hE inb_S4x1024x128_S1x256x128_1_0_0 (extCov (i := 1) (n := 512) (by omega) (.tail _ (.tail _ (.head _))) _)
      all_goals exact ldK H _ arg3 harg3 rfl _ _
    · refine scoreDiag P (i := 1) (by omega) rfl msk_apply ninf_apply ?_ ?_ (hk (256 * 1) _) ?_ ?_ ?_ ?_ ?_ ?_ ?_ ?_ ?_
      · refine colC P rfl ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · refine rhs0P P rfl H.hQ sub_apply (ldX2 H _ _ arg4 harg4 _) ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · exact rdExt (i := 1) (o := 256 * 1) arg14 hE inb_S4x1024x128_S1x256x128_1_256_0 (extCov (i := 1) (n := 512) (by omega) (.tail _ (.tail _ (.head _))) _)
      all_goals exact ldK H _ arg3 harg3 rfl _ _
  all_goals
    refine tile2 P rfl rfl rfl ?_ ?_ ?_ ?_ ?_ (ldX5 H _ arg7 harg7 _) ?_ (ldX5 H _ arg7 harg7 _) (ldX7 H _ _ _ (by rfl) arg9 harg9 _) (ldX6 H arg8 harg8 rfl _)
    · exact rdSkip _ _ _ _ _ (by decide) (rdHit _ _ _ _)
    · exact rdSkip _ _ _ _ _ (by decide) (rdHit _ _ _ _)
    · exact rdHit _ _ _ _
    · exact rdSkip _ _ _ _ _ (by decide) (rdHit _ _ _ _)
    · refine scoreOff P (i := 1) (b := 0) (by omega) (by omega) rfl ?_ ?_ (hk (256 * 0) _) ?_ ?_ ?_ ?_ ?_ ?_ ?_ ?_ ?_
      · refine colC P rfl ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · refine rhsSP P (hc := by first | exact concatenates_S128x256_S16x256_S16x256_S96x256_S256x256_d0 | exact concatenates_S128x256_S32x256_S16x256_S80x256_S256x256_d0 | exact concatenates_S128x256_S48x256_S16x256_S64x256_S256x256_d0 | exact concatenates_S128x256_S64x256_S16x256_S48x256_S256x256_d0 | exact concatenates_S128x256_S80x256_S16x256_S32x256_S256x256_d0 | exact concatenates_S128x256_S96x256_S16x256_S16x256_S256x256_d0) rfl (by omega) (by omega) rfl rfl H.hQ sub_apply (ldX2 H _ _ arg4 harg4 _) ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · exact rdExt (i := 1) (o := 256 * 0) arg14 hE inb_S4x1024x128_S1x256x128_1_0_0 (extCov (i := 1) (n := 512) (by omega) (.tail _ (.tail _ (.head _))) _)
      all_goals exact ldK H _ arg3 harg3 rfl _ _
    · refine scoreDiag P (i := 1) (by omega) rfl msk_apply ninf_apply ?_ ?_ (hk (256 * 1) _) ?_ ?_ ?_ ?_ ?_ ?_ ?_ ?_ ?_
      · refine colC P rfl ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · refine rhsSP P (hc := by first | exact concatenates_S128x256_S16x256_S16x256_S96x256_S256x256_d0 | exact concatenates_S128x256_S32x256_S16x256_S80x256_S256x256_d0 | exact concatenates_S128x256_S48x256_S16x256_S64x256_S256x256_d0 | exact concatenates_S128x256_S64x256_S16x256_S48x256_S256x256_d0 | exact concatenates_S128x256_S80x256_S16x256_S32x256_S256x256_d0 | exact concatenates_S128x256_S96x256_S16x256_S16x256_S256x256_d0) rfl (by omega) (by omega) rfl rfl H.hQ sub_apply (ldX2 H _ _ arg4 harg4 _) ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · exact rdExt (i := 1) (o := 256 * 1) arg14 hE inb_S4x1024x128_S1x256x128_1_256_0 (extCov (i := 1) (n := 512) (by omega) (.tail _ (.tail _ (.head _))) _)
      all_goals exact ldK H _ arg3 harg3 rfl _ _

end Cert.Unit

end
-- ==== Proof.Row2.lean ====
module

public import proofs.«01_k».proof.Proof.ExtW
import all proofs.«01_k».proof.Proof.Gen.KernelIdeal.Frame.RunA

@[expose] public section

/-! The tiles of query block 2: what the run stores there, for the seven heads. -/

noncomputable section

namespace Cert.Unit

open Idealize.ShloMosaic Cert.KernelIdeal Cert.KernelIdeal.Gen Cert.Alg

set_option maxHeartbeats 1600000 in
/-- The stores of query block 2 are built from seven tiles, and each tile is what is specified. -/
theorem row2 {P : Pt} {CQ : ℕ → ℕ → ℕ → BitVec 8} {CK : ℕ → ℕ → BitVec 8} (c : Dev nD) (i : grid0.Coords) (arg2 : Memref sig .tc .smem S28x2x32 .f32) (harg2 : arg2.IsWhole) (arg3 : Memref sig .tc .smem S2x4x32 .f32) (harg3 : arg3.IsWhole) (arg4 : Memref sig .tc .vmem S1x7x64x1024 .i8) (harg4 : arg4.IsWhole) (arg5 : Memref sig .tc .vmem S1x7x8x128 .bf16) (harg5 : arg5.IsWhole) (arg6 : Memref sig .tc .vmem S1x1x64x1024 .i8) (harg6 : arg6.IsWhole) (arg7 : Memref sig .tc .vmem S1x1x128x1024 .fp8e4m3) (harg7 : arg7.IsWhole) (arg8 : Memref sig .tc .vmem S1x4x128 .f32) (harg8 : arg8.IsWhole) (arg9 : Memref sig .tc .vmem S1x1024x896 .bf16) (harg9 : arg9.IsWhole) (arg10 : Memref sig .tc .vmem S1x1024x896 .bf16) (harg10 : arg10.IsWhole) (arg11 : Memref sig .tc .vmem S1x1024x896 .fp8e4m3) (harg11 : arg11.IsWhole) (arg12 : Memref sig .tc .vmem S1x1x8x1024 .f32) (harg12 : arg12.IsWhole) (arg13 : Memref sig .tc .vmem S1024x128 .bf16) (harg13 : arg13.IsWhole) (arg14 : Memref sig .tc .vmem S4x1024x128 .bf16) (harg14 : arg14.IsWhole) (arg15 : Memref sig .tc .vmem S1024x256 .f32) (harg15 : arg15.IsWhole)
 (x0 : Vec Ideal S28x2x32 .f32) (x1 : Vec Ideal S2x4x32 .f32) (x2 : Vec Ideal S1x7x64x1024 .i8) (x3 : Vec Ideal S1x7x8x128 .bf16) (x4 : Vec Ideal S1x1x64x1024 .i8) (x5 : Vec Ideal S1x1x128x1024 .fp8e4m3) (x6 : Vec Ideal S1x4x128 .f32) (x7 : Vec Ideal S1x1024x896 .bf16)
    (H : Leaves P (i 0).val (i 1).val CQ CK x0 x1 x2 x3 x4 x5 x6 x7) :
    ∃ y0 y1 y2 y3 y4 y5 y6 : FVec Ideal S256x128 .f32,
    ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).1.drop 7).take 7 = [⟨Rect.unit (s := S1x1024x896) ![0, 512, 768] S1x256x128.size inb_S1x1024x896_S1x256x128_0_512_768, outP y6⟩,
      ⟨Rect.unit (s := S1x1024x896) ![0, 512, 640] S1x256x128.size inb_S1x1024x896_S1x256x128_0_512_640, outP y5⟩,
      ⟨Rect.unit (s := S1x1024x896) ![0, 512, 512] S1x256x128.size inb_S1x1024x896_S1x256x128_0_512_512, outP y4⟩,
      ⟨Rect.unit (s := S1x1024x896) ![0, 512, 384] S1x256x128.size inb_S1x1024x896_S1x256x128_0_512_384, outP y3⟩,
      ⟨Rect.unit (s := S1x1024x896) ![0, 512, 256] S1x256x128.size inb_S1x1024x896_S1x256x128_0_512_256, outP y2⟩,
      ⟨Rect.unit (s := S1x1024x896) ![0, 512, 128] S1x256x128.size inb_S1x1024x896_S1x256x128_0_512_128, outP y1⟩,
      ⟨Rect.unit (s := S1x1024x896) ![0, 512, 0] S1x256x128.size inb_S1x1024x896_S1x256x128_0_512_0, outP y0⟩] ∧
    ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.1.drop 7).take 7 = [⟨Rect.unit (s := S1x1024x896) ![0, 512, 768] S1x256x128.size inb_S1x1024x896_S1x256x128_0_512_768, codesP y6⟩,
      ⟨Rect.unit (s := S1x1024x896) ![0, 512, 640] S1x256x128.size inb_S1x1024x896_S1x256x128_0_512_640, codesP y5⟩,
      ⟨Rect.unit (s := S1x1024x896) ![0, 512, 512] S1x256x128.size inb_S1x1024x896_S1x256x128_0_512_512, codesP y4⟩,
      ⟨Rect.unit (s := S1x1024x896) ![0, 512, 384] S1x256x128.size inb_S1x1024x896_S1x256x128_0_512_384, codesP y3⟩,
      ⟨Rect.unit (s := S1x1024x896) ![0, 512, 256] S1x256x128.size inb_S1x1024x896_S1x256x128_0_512_256, codesP y2⟩,
      ⟨Rect.unit (s := S1x1024x896) ![0, 512, 128] S1x256x128.size inb_S1x1024x896_S1x256x128_0_512_128, codesP y1⟩,
      ⟨Rect.unit (s := S1x1024x896) ![0, 512, 0] S1x256x128.size inb_S1x1024x896_S1x256x128_0_512_0, codesP y0⟩] ∧
    ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.1.drop 1).take 1 = [⟨Rect.unit (s := S1x1x8x1024) ![0, 0, 0, 512] S1x1x8x256.size inb_S1x1x8x1024_S1x1x8x256_0_0_0_512, scaleP y0 y1 y2 y3 y4 y5 y6⟩] ∧
    (∀ j : S256x128.Idx, y0 j = P.Y 0 (512 + (j 0).val) (j 1).val) ∧
    (∀ j : S256x128.Idx, y1 j = P.Y 1 (512 + (j 0).val) (j 1).val) ∧
    (∀ j : S256x128.Idx, y2 j = P.Y 2 (512 + (j 0).val) (j 1).val) ∧
    (∀ j : S256x128.Idx, y3 j = P.Y 3 (512 + (j 0).val) (j 1).val) ∧
    (∀ j : S256x128.Idx, y4 j = P.Y 4 (512 + (j 0).val) (j 1).val) ∧
    (∀ j : S256x128.Idx, y5 j = P.Y 5 (512 + (j 0).val) (j 1).val) ∧
    (∀ j : S256x128.Idx, y6 j = P.Y 6 (512 + (j 0).val) (j 1).val) := by
  have hE := ext_pieces c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 H
  have hk {n : ℕ} (o : ℕ) := kc_rows (n := n) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 H o
  refine ⟨_, _, _, _, _, _, _, rfl, rfl, rfl, ?_, ?_, ?_, ?_, ?_, ?_, ?_⟩
  · refine tile3 P rfl rfl rfl ?_ ?_ ?_ ?_ ?_ ?_ ?_ (ldX5 H _ arg7 harg7 _) ?_ (ldX5 H _ arg7 harg7 _) ?_ (ldX5 H _ arg7 harg7 _) (ldX7 H _ _ _ (by rfl) arg9 harg9 _) (ldX6 H arg8 harg8 rfl _)
    · exact rdSkip _ _ _ _ _ (by decide) (rdSkip _ _ _ _ _ (by decide) (rdHit _ _ _ _))
    · exact rdSkip _ _ _ _ _ (by decide) (rdSkip _ _ _ _ _ (by decide) (rdHit _ _ _ _))
    · exact rdSkip _ _ _ _ _ (by decide) (rdHit _ _ _ _)
    · exact rdSkip _ _ _ _ _ (by decide) (rdSkip _ _ _ _ _ (by decide) (rdHit _ _ _ _))
    · exact rdHit _ _ _ _
    · exact rdSkip _ _ _ _ _ (by decide) (rdSkip _ _ _ _ _ (by decide) (rdHit _ _ _ _))
    · refine scoreOff P (i := 2) (b := 0) (by omega) (by omega) rfl ?_ ?_ (hk (256 * 0) _) ?_ ?_ ?_ ?_ ?_ ?_ ?_ ?_ ?_
      · refine colC P rfl ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · refine rhs0P P rfl H.hQ sub_apply (ldX2 H _ _ arg4 harg4 _) ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · exact rdExt (i := 2) (o := 256 * 0) arg14 hE inb_S4x1024x128_S1x256x128_2_0_0 (extCov (i := 2) (n := 768) (by omega) (.tail _ (.head _)) _)
      all_goals exact ldK H _ arg3 harg3 rfl _ _
    · refine scoreOff P (i := 2) (b := 1) (by omega) (by omega) rfl ?_ ?_ (hk (256 * 1) _) ?_ ?_ ?_ ?_ ?_ ?_ ?_ ?_ ?_
      · refine colC P rfl ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · refine rhs0P P rfl H.hQ sub_apply (ldX2 H _ _ arg4 harg4 _) ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · exact rdExt (i := 2) (o := 256 * 1) arg14 hE inb_S4x1024x128_S1x256x128_2_256_0 (extCov (i := 2) (n := 768) (by omega) (.tail _ (.head _)) _)
      all_goals exact ldK H _ arg3 harg3 rfl _ _
    · refine scoreDiag P (i := 2) (by omega) rfl msk_apply ninf_apply ?_ ?_ (hk (256 * 2) _) ?_ ?_ ?_ ?_ ?_ ?_ ?_ ?_ ?_
      · refine colC P rfl ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · refine rhs0P P rfl H.hQ sub_apply (ldX2 H _ _ arg4 harg4 _) ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · exact rdExt (i := 2) (o := 256 * 2) arg14 hE inb_S4x1024x128_S1x256x128_2_512_0 (extCov (i := 2) (n := 768) (by omega) (.tail _ (.head _)) _)
      all_goals exact ldK H _ arg3 harg3 rfl _ _
  all_goals
    refine tile3 P rfl rfl rfl ?_ ?_ ?_ ?_ ?_ ?_ ?_ (ldX5 H _ arg7 harg7 _) ?_ (ldX5 H _ arg7 harg7 _) ?_ (ldX5 H _ arg7 harg7 _) (ldX7 H _ _ _ (by rfl) arg9 harg9 _) (ldX6 H arg8 harg8 rfl _)
    · exact rdSkip _ _ _ _ _ (by decide) (rdSkip _ _ _ _ _ (by decide) (rdHit _ _ _ _))
    · exact rdSkip _ _ _ _ _ (by decide) (rdSkip _ _ _ _ _ (by decide) (rdHit _ _ _ _))
    · exact rdSkip _ _ _ _ _ (by decide) (rdHit _ _ _ _)
    · exact rdSkip _ _ _ _ _ (by decide) (rdSkip _ _ _ _ _ (by decide) (rdHit _ _ _ _))
    · exact rdHit _ _ _ _
    · exact rdSkip _ _ _ _ _ (by decide) (rdSkip _ _ _ _ _ (by decide) (rdHit _ _ _ _))
    · refine scoreOff P (i := 2) (b := 0) (by omega) (by omega) rfl ?_ ?_ (hk (256 * 0) _) ?_ ?_ ?_ ?_ ?_ ?_ ?_ ?_ ?_
      · refine colC P rfl ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · refine rhsSP P (hc := by first | exact concatenates_S128x256_S16x256_S16x256_S96x256_S256x256_d0 | exact concatenates_S128x256_S32x256_S16x256_S80x256_S256x256_d0 | exact concatenates_S128x256_S48x256_S16x256_S64x256_S256x256_d0 | exact concatenates_S128x256_S64x256_S16x256_S48x256_S256x256_d0 | exact concatenates_S128x256_S80x256_S16x256_S32x256_S256x256_d0 | exact concatenates_S128x256_S96x256_S16x256_S16x256_S256x256_d0) rfl (by omega) (by omega) rfl rfl H.hQ sub_apply (ldX2 H _ _ arg4 harg4 _) ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · exact rdExt (i := 2) (o := 256 * 0) arg14 hE inb_S4x1024x128_S1x256x128_2_0_0 (extCov (i := 2) (n := 768) (by omega) (.tail _ (.head _)) _)
      all_goals exact ldK H _ arg3 harg3 rfl _ _
    · refine scoreOff P (i := 2) (b := 1) (by omega) (by omega) rfl ?_ ?_ (hk (256 * 1) _) ?_ ?_ ?_ ?_ ?_ ?_ ?_ ?_ ?_
      · refine colC P rfl ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · refine rhsSP P (hc := by first | exact concatenates_S128x256_S16x256_S16x256_S96x256_S256x256_d0 | exact concatenates_S128x256_S32x256_S16x256_S80x256_S256x256_d0 | exact concatenates_S128x256_S48x256_S16x256_S64x256_S256x256_d0 | exact concatenates_S128x256_S64x256_S16x256_S48x256_S256x256_d0 | exact concatenates_S128x256_S80x256_S16x256_S32x256_S256x256_d0 | exact concatenates_S128x256_S96x256_S16x256_S16x256_S256x256_d0) rfl (by omega) (by omega) rfl rfl H.hQ sub_apply (ldX2 H _ _ arg4 harg4 _) ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · exact rdExt (i := 2) (o := 256 * 1) arg14 hE inb_S4x1024x128_S1x256x128_2_256_0 (extCov (i := 2) (n := 768) (by omega) (.tail _ (.head _)) _)
      all_goals exact ldK H _ arg3 harg3 rfl _ _
    · refine scoreDiag P (i := 2) (by omega) rfl msk_apply ninf_apply ?_ ?_ (hk (256 * 2) _) ?_ ?_ ?_ ?_ ?_ ?_ ?_ ?_ ?_
      · refine colC P rfl ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · refine rhsSP P (hc := by first | exact concatenates_S128x256_S16x256_S16x256_S96x256_S256x256_d0 | exact concatenates_S128x256_S32x256_S16x256_S80x256_S256x256_d0 | exact concatenates_S128x256_S48x256_S16x256_S64x256_S256x256_d0 | exact concatenates_S128x256_S64x256_S16x256_S48x256_S256x256_d0 | exact concatenates_S128x256_S80x256_S16x256_S32x256_S256x256_d0 | exact concatenates_S128x256_S96x256_S16x256_S16x256_S256x256_d0) rfl (by omega) (by omega) rfl rfl H.hQ sub_apply (ldX2 H _ _ arg4 harg4 _) ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · exact rdExt (i := 2) (o := 256 * 2) arg14 hE inb_S4x1024x128_S1x256x128_2_512_0 (extCov (i := 2) (n := 768) (by omega) (.tail _ (.head _)) _)
      all_goals exact ldK H _ arg3 harg3 rfl _ _

end Cert.Unit

end
-- ==== Proof.Row3.lean ====
module

public import proofs.«01_k».proof.Proof.ExtW
import all proofs.«01_k».proof.Proof.Gen.KernelIdeal.Frame.RunA

@[expose] public section

/-! The tiles of query block 3: what the run stores there, for the seven heads. -/

noncomputable section

namespace Cert.Unit

open Idealize.ShloMosaic Cert.KernelIdeal Cert.KernelIdeal.Gen Cert.Alg

/-- The gated output of the last query block's sixth head, as its run reads it. -/
theorem yv35 (a : FVec Ideal S128x256 .f32) (x : Vec Ideal S1x256x128 .bf16) (v : Vec Ideal S1x1x128 .f32) : k0_pay1618 a (k0_pay1617 x) v = yv a x v := rfl

/-- The last query block's seventh head's maximum, as its run computes it: the first block's part, … -/
theorem m36a {a : FVec Ideal S8x256 .f32} {v13717 : FVec Ideal S1x256 .f32} {v13744 : FVec Ideal S256x256 .f32} {v13752 : FVec Ideal S32x256 .f32} {v13760 : FVec Ideal S32x256 .f32} {v13763 : Elt Ideal .f32} {v13771 : Elt Ideal .f32} {v13779 : Elt Ideal .f32} {v13787 : Elt Ideal .f32} {v13795 : Elt Ideal .f32} {v13803 : Elt Ideal .f32} (h : a = m8z) :
    k0_pay1647 (F := Ideal) a (k0_pay1646 (F := Ideal) v13717 v13744 v13752 v13760 v13763 v13771 v13779 v13787 v13795 v13803) = m8s m8z (k0_pay1644 (F := Ideal) v13717 v13744 v13752 v13760 v13763 v13771 v13779 v13787 v13795 v13803) := by subst h; rfl

/-- … and the whole. -/
theorem m36 {v273 : IVec S128x128 1} {v274 : FVec Ideal S128x128 .f32} {v13717 : FVec Ideal S1x256 .f32} {v13967 : FVec Ideal S8x256 .f32} {v13972 : FVec Ideal S256x256 .f32} {v13980 : FVec Ideal S32x256 .f32} {v13988 : FVec Ideal S32x256 .f32} {v13996 : FVec Ideal S32x256 .f32} {v14004 : FVec Ideal S32x256 .f32} {v14007 : Elt Ideal .f32} {v14015 : Elt Ideal .f32} {v14023 : Elt Ideal .f32} {v14031 : Elt Ideal .f32} {a : FVec Ideal S8x256 .f32} {s0 s1 s2 : FVec Ideal S256x256 .f32} (h' : v13967 = m8s (m8s a s1) s2) (h : a = m8s m8z s0) :
    k0_pay1669 (F := Ideal) v273 v274 v13717 v13967 v13972 v13980 v13988 v13996 v14004 v14007 v14015 v14023 v14031 = mfin (m8s (m8s (m8s (m8s m8z s0) s1) s2) (k0_pay1667 (F := Ideal) v273 v274 v13717 v13972 v13980 v13988 v13996 v14004 v14007 v14015 v14023 v14031)) := by subst h' h; rfl

set_option maxHeartbeats 1600000 in
set_option maxRecDepth 4096 in
/-- The stores of query block 3 are built from seven tiles, and each tile is what is specified. -/
theorem row3 {P : Pt} {CQ : ℕ → ℕ → ℕ → BitVec 8} {CK : ℕ → ℕ → BitVec 8} (c : Dev nD) (i : grid0.Coords) (arg2 : Memref sig .tc .smem S28x2x32 .f32) (harg2 : arg2.IsWhole) (arg3 : Memref sig .tc .smem S2x4x32 .f32) (harg3 : arg3.IsWhole) (arg4 : Memref sig .tc .vmem S1x7x64x1024 .i8) (harg4 : arg4.IsWhole) (arg5 : Memref sig .tc .vmem S1x7x8x128 .bf16) (harg5 : arg5.IsWhole) (arg6 : Memref sig .tc .vmem S1x1x64x1024 .i8) (harg6 : arg6.IsWhole) (arg7 : Memref sig .tc .vmem S1x1x128x1024 .fp8e4m3) (harg7 : arg7.IsWhole) (arg8 : Memref sig .tc .vmem S1x4x128 .f32) (harg8 : arg8.IsWhole) (arg9 : Memref sig .tc .vmem S1x1024x896 .bf16) (harg9 : arg9.IsWhole) (arg10 : Memref sig .tc .vmem S1x1024x896 .bf16) (harg10 : arg10.IsWhole) (arg11 : Memref sig .tc .vmem S1x1024x896 .fp8e4m3) (harg11 : arg11.IsWhole) (arg12 : Memref sig .tc .vmem S1x1x8x1024 .f32) (harg12 : arg12.IsWhole) (arg13 : Memref sig .tc .vmem S1024x128 .bf16) (harg13 : arg13.IsWhole) (arg14 : Memref sig .tc .vmem S4x1024x128 .bf16) (harg14 : arg14.IsWhole) (arg15 : Memref sig .tc .vmem S1024x256 .f32) (harg15 : arg15.IsWhole)
 (x0 : Vec Ideal S28x2x32 .f32) (x1 : Vec Ideal S2x4x32 .f32) (x2 : Vec Ideal S1x7x64x1024 .i8) (x3 : Vec Ideal S1x7x8x128 .bf16) (x4 : Vec Ideal S1x1x64x1024 .i8) (x5 : Vec Ideal S1x1x128x1024 .fp8e4m3) (x6 : Vec Ideal S1x4x128 .f32) (x7 : Vec Ideal S1x1024x896 .bf16)
    (H : Leaves P (i 0).val (i 1).val CQ CK x0 x1 x2 x3 x4 x5 x6 x7) :
    ∃ y0 y1 y2 y3 y4 y5 y6 : FVec Ideal S256x128 .f32,
    ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).1.drop 0).take 7 = [⟨Rect.unit (s := S1x1024x896) ![0, 768, 768] S1x256x128.size inb_S1x1024x896_S1x256x128_0_768_768, outP y6⟩,
      ⟨Rect.unit (s := S1x1024x896) ![0, 768, 640] S1x256x128.size inb_S1x1024x896_S1x256x128_0_768_640, outP y5⟩,
      ⟨Rect.unit (s := S1x1024x896) ![0, 768, 512] S1x256x128.size inb_S1x1024x896_S1x256x128_0_768_512, outP y4⟩,
      ⟨Rect.unit (s := S1x1024x896) ![0, 768, 384] S1x256x128.size inb_S1x1024x896_S1x256x128_0_768_384, outP y3⟩,
      ⟨Rect.unit (s := S1x1024x896) ![0, 768, 256] S1x256x128.size inb_S1x1024x896_S1x256x128_0_768_256, outP y2⟩,
      ⟨Rect.unit (s := S1x1024x896) ![0, 768, 128] S1x256x128.size inb_S1x1024x896_S1x256x128_0_768_128, outP y1⟩,
      ⟨Rect.unit (s := S1x1024x896) ![0, 768, 0] S1x256x128.size inb_S1x1024x896_S1x256x128_0_768_0, outP y0⟩] ∧
    ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.1.drop 0).take 7 = [⟨Rect.unit (s := S1x1024x896) ![0, 768, 768] S1x256x128.size inb_S1x1024x896_S1x256x128_0_768_768, codesP y6⟩,
      ⟨Rect.unit (s := S1x1024x896) ![0, 768, 640] S1x256x128.size inb_S1x1024x896_S1x256x128_0_768_640, codesP y5⟩,
      ⟨Rect.unit (s := S1x1024x896) ![0, 768, 512] S1x256x128.size inb_S1x1024x896_S1x256x128_0_768_512, codesP y4⟩,
      ⟨Rect.unit (s := S1x1024x896) ![0, 768, 384] S1x256x128.size inb_S1x1024x896_S1x256x128_0_768_384, codesP y3⟩,
      ⟨Rect.unit (s := S1x1024x896) ![0, 768, 256] S1x256x128.size inb_S1x1024x896_S1x256x128_0_768_256, codesP y2⟩,
      ⟨Rect.unit (s := S1x1024x896) ![0, 768, 128] S1x256x128.size inb_S1x1024x896_S1x256x128_0_768_128, codesP y1⟩,
      ⟨Rect.unit (s := S1x1024x896) ![0, 768, 0] S1x256x128.size inb_S1x1024x896_S1x256x128_0_768_0, codesP y0⟩] ∧
    ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.1.drop 0).take 1 = [⟨Rect.unit (s := S1x1x8x1024) ![0, 0, 0, 768] S1x1x8x256.size inb_S1x1x8x1024_S1x1x8x256_0_0_0_768, scaleP y0 y1 y2 y3 y4 y5 y6⟩] ∧
    (∀ j : S256x128.Idx, y0 j = P.Y 0 (768 + (j 0).val) (j 1).val) ∧
    (∀ j : S256x128.Idx, y1 j = P.Y 1 (768 + (j 0).val) (j 1).val) ∧
    (∀ j : S256x128.Idx, y2 j = P.Y 2 (768 + (j 0).val) (j 1).val) ∧
    (∀ j : S256x128.Idx, y3 j = P.Y 3 (768 + (j 0).val) (j 1).val) ∧
    (∀ j : S256x128.Idx, y4 j = P.Y 4 (768 + (j 0).val) (j 1).val) ∧
    (∀ j : S256x128.Idx, y5 j = P.Y 5 (768 + (j 0).val) (j 1).val) ∧
    (∀ j : S256x128.Idx, y6 j = P.Y 6 (768 + (j 0).val) (j 1).val) := by
  have hE := ext_pieces c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 H
  have hk {n : ℕ} (o : ℕ) := kc_rows (n := n) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 H o
  refine ⟨_, _, _, _, _, _, _, rfl, rfl, rfl, ?_, ?_, ?_, ?_, ?_, ?_, ?_⟩
  · refine tile4 P rfl rfl rfl ?_ ?_ ?_ ?_ ?_ ?_ ?_ ?_ ?_ (ldX5 H _ arg7 harg7 _) ?_ (ldX5 H _ arg7 harg7 _) ?_ (ldX5 H _ arg7 harg7 _) ?_ (ldX5 H _ arg7 harg7 _) (ldX7 H _ _ _ (by rfl) arg9 harg9 _) (ldX6 H arg8 harg8 rfl _)
    · exact rdSkip _ _ _ _ _ (by decide) (rdSkip _ _ _ _ _ (by decide) (rdSkip _ _ _ _ _ (by decide) (rdHit _ _ _ _)))
    · exact rdSkip _ _ _ _ _ (by decide) (rdSkip _ _ _ _ _ (by decide) (rdSkip _ _ _ _ _ (by decide) (rdHit _ _ _ _)))
    · exact rdSkip _ _ _ _ _ (by decide) (rdSkip _ _ _ _ _ (by decide) (rdHit _ _ _ _))
    · exact rdSkip _ _ _ _ _ (by decide) (rdSkip _ _ _ _ _ (by decide) (rdSkip _ _ _ _ _ (by decide) (rdHit _ _ _ _)))
    · exact rdSkip _ _ _ _ _ (by decide) (rdHit _ _ _ _)
    · exact rdSkip _ _ _ _ _ (by decide) (rdSkip _ _ _ _ _ (by decide) (rdSkip _ _ _ _ _ (by decide) (rdHit _ _ _ _)))
    · exact rdHit _ _ _ _
    · exact rdSkip _ _ _ _ _ (by decide) (rdSkip _ _ _ _ _ (by decide) (rdSkip _ _ _ _ _ (by decide) (rdHit _ _ _ _)))
    · refine scoreOff P (i := 3) (b := 0) (by omega) (by omega) rfl ?_ ?_ (hk (256 * 0) _) ?_ ?_ ?_ ?_ ?_ ?_ ?_ ?_ ?_
      · refine colC P rfl ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · refine rhs0P P rfl H.hQ sub_apply (ldX2 H _ _ arg4 harg4 _) ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · exact rdExt (i := 3) (o := 256 * 0) arg14 hE inb_S4x1024x128_S1x256x128_3_0_0 (extCov (i := 3) (n := 1024) (by omega) (.head _) _)
      all_goals exact ldK H _ arg3 harg3 rfl _ _
    · refine scoreOff P (i := 3) (b := 1) (by omega) (by omega) rfl ?_ ?_ (hk (256 * 1) _) ?_ ?_ ?_ ?_ ?_ ?_ ?_ ?_ ?_
      · refine colC P rfl ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · refine rhs0P P rfl H.hQ sub_apply (ldX2 H _ _ arg4 harg4 _) ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · exact rdExt (i := 3) (o := 256 * 1) arg14 hE inb_S4x1024x128_S1x256x128_3_256_0 (extCov (i := 3) (n := 1024) (by omega) (.head _) _)
      all_goals exact ldK H _ arg3 harg3 rfl _ _
    · refine scoreOff P (i := 3) (b := 2) (by omega) (by omega) rfl ?_ ?_ (hk (256 * 2) _) ?_ ?_ ?_ ?_ ?_ ?_ ?_ ?_ ?_
      · refine colC P rfl ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · refine rhs0P P rfl H.hQ sub_apply (ldX2 H _ _ arg4 harg4 _) ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · exact rdExt (i := 3) (o := 256 * 2) arg14 hE inb_S4x1024x128_S1x256x128_3_512_0 (extCov (i := 3) (n := 1024) (by omega) (.head _) _)
      all_goals exact ldK H _ arg3 harg3 rfl _ _
    · refine scoreDiag P (i := 3) (by omega) rfl msk_apply ninf_apply ?_ ?_ (hk (256 * 3) _) ?_ ?_ ?_ ?_ ?_ ?_ ?_ ?_ ?_
      · refine colC P rfl ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · refine rhs0P P rfl H.hQ sub_apply (ldX2 H _ _ arg4 harg4 _) ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · exact rdExt (i := 3) (o := 256 * 3) arg14 hE inb_S4x1024x128_S1x256x128_3_768_0 (extCov (i := 3) (n := 1024) (by omega) (.head _) _)
      all_goals exact ldK H _ arg3 harg3 rfl _ _
  rotate_left 4
  · refine tile4 P (yv35 _ _ _) rfl rfl ?_ ?_ ?_ ?_ ?_ ?_ ?_ ?_ ?_ (ldX5 H _ arg7 harg7 _) ?_ (ldX5 H _ arg7 harg7 _) ?_ (ldX5 H _ arg7 harg7 _) ?_ (ldX5 H _ arg7 harg7 _) (ldX7 H _ _ _ (by rfl) arg9 harg9 _) (ldX6 H arg8 harg8 rfl _)
    · exact rdSkip _ _ _ _ _ (by decide) (rdSkip _ _ _ _ _ (by decide) (rdSkip _ _ _ _ _ (by decide) (rdHit _ _ _ _)))
    · exact rdSkip _ _ _ _ _ (by decide) (rdSkip _ _ _ _ _ (by decide) (rdSkip _ _ _ _ _ (by decide) (rdHit _ _ _ _)))
    · exact rdSkip _ _ _ _ _ (by decide) (rdSkip _ _ _ _ _ (by decide) (rdHit _ _ _ _))
    · exact rdSkip _ _ _ _ _ (by decide) (rdSkip _ _ _ _ _ (by decide) (rdSkip _ _ _ _ _ (by decide) (rdHit _ _ _ _)))
    · exact rdSkip _ _ _ _ _ (by decide) (rdHit _ _ _ _)
    · exact rdSkip _ _ _ _ _ (by decide) (rdSkip _ _ _ _ _ (by decide) (rdSkip _ _ _ _ _ (by decide) (rdHit _ _ _ _)))
    · exact rdHit _ _ _ _
    · exact rdSkip _ _ _ _ _ (by decide) (rdSkip _ _ _ _ _ (by decide) (rdSkip _ _ _ _ _ (by decide) (rdHit _ _ _ _)))
    · refine scoreOff P (i := 3) (b := 0) (by omega) (by omega) rfl ?_ ?_ (hk (256 * 0) _) ?_ ?_ ?_ ?_ ?_ ?_ ?_ ?_ ?_
      · refine colC P rfl ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · refine rhsSP P (hc := by first | exact concatenates_S128x256_S16x256_S16x256_S96x256_S256x256_d0 | exact concatenates_S128x256_S32x256_S16x256_S80x256_S256x256_d0 | exact concatenates_S128x256_S48x256_S16x256_S64x256_S256x256_d0 | exact concatenates_S128x256_S64x256_S16x256_S48x256_S256x256_d0 | exact concatenates_S128x256_S80x256_S16x256_S32x256_S256x256_d0 | exact concatenates_S128x256_S96x256_S16x256_S16x256_S256x256_d0) rfl (by omega) (by omega) rfl rfl H.hQ sub_apply (ldX2 H _ _ arg4 harg4 _) ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · exact rdExt (i := 3) (o := 256 * 0) arg14 hE inb_S4x1024x128_S1x256x128_3_0_0 (extCov (i := 3) (n := 1024) (by omega) (.head _) _)
      all_goals exact ldK H _ arg3 harg3 rfl _ _
    · refine scoreOff P (i := 3) (b := 1) (by omega) (by omega) rfl ?_ ?_ (hk (256 * 1) _) ?_ ?_ ?_ ?_ ?_ ?_ ?_ ?_ ?_
      · refine colC P rfl ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · refine rhsSP P (hc := by first | exact concatenates_S128x256_S16x256_S16x256_S96x256_S256x256_d0 | exact concatenates_S128x256_S32x256_S16x256_S80x256_S256x256_d0 | exact concatenates_S128x256_S48x256_S16x256_S64x256_S256x256_d0 | exact concatenates_S128x256_S64x256_S16x256_S48x256_S256x256_d0 | exact concatenates_S128x256_S80x256_S16x256_S32x256_S256x256_d0 | exact concatenates_S128x256_S96x256_S16x256_S16x256_S256x256_d0) rfl (by omega) (by omega) rfl rfl H.hQ sub_apply (ldX2 H _ _ arg4 harg4 _) ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · exact rdExt (i := 3) (o := 256 * 1) arg14 hE inb_S4x1024x128_S1x256x128_3_256_0 (extCov (i := 3) (n := 1024) (by omega) (.head _) _)
      all_goals exact ldK H _ arg3 harg3 rfl _ _
    · refine scoreOff P (i := 3) (b := 2) (by omega) (by omega) rfl ?_ ?_ (hk (256 * 2) _) ?_ ?_ ?_ ?_ ?_ ?_ ?_ ?_ ?_
      · refine colC P rfl ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · refine rhsSP P (hc := by first | exact concatenates_S128x256_S16x256_S16x256_S96x256_S256x256_d0 | exact concatenates_S128x256_S32x256_S16x256_S80x256_S256x256_d0 | exact concatenates_S128x256_S48x256_S16x256_S64x256_S256x256_d0 | exact concatenates_S128x256_S64x256_S16x256_S48x256_S256x256_d0 | exact concatenates_S128x256_S80x256_S16x256_S32x256_S256x256_d0 | exact concatenates_S128x256_S96x256_S16x256_S16x256_S256x256_d0) rfl (by omega) (by omega) rfl rfl H.hQ sub_apply (ldX2 H _ _ arg4 harg4 _) ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · exact rdExt (i := 3) (o := 256 * 2) arg14 hE inb_S4x1024x128_S1x256x128_3_512_0 (extCov (i := 3) (n := 1024) (by omega) (.head _) _)
      all_goals exact ldK H _ arg3 harg3 rfl _ _
    · refine scoreDiag P (i := 3) (by omega) rfl msk_apply ninf_apply ?_ ?_ (hk (256 * 3) _) ?_ ?_ ?_ ?_ ?_ ?_ ?_ ?_ ?_
      · refine colC P rfl ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · refine rhsSP P (hc := by first | exact concatenates_S128x256_S16x256_S16x256_S96x256_S256x256_d0 | exact concatenates_S128x256_S32x256_S16x256_S80x256_S256x256_d0 | exact concatenates_S128x256_S48x256_S16x256_S64x256_S256x256_d0 | exact concatenates_S128x256_S64x256_S16x256_S48x256_S256x256_d0 | exact concatenates_S128x256_S80x256_S16x256_S32x256_S256x256_d0 | exact concatenates_S128x256_S96x256_S16x256_S16x256_S256x256_d0) rfl (by omega) (by omega) rfl rfl H.hQ sub_apply (ldX2 H _ _ arg4 harg4 _) ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · exact rdExt (i := 3) (o := 256 * 3) arg14 hE inb_S4x1024x128_S1x256x128_3_768_0 (extCov (i := 3) (n := 1024) (by omega) (.head _) _)
      all_goals exact ldK H _ arg3 harg3 rfl _ _
  · refine tile4 P rfl rfl (m36 rfl (m36a rfl)) ?_ ?_ ?_ ?_ ?_ ?_ ?_ ?_ ?_ (ldX5 H _ arg7 harg7 _) ?_ (ldX5 H _ arg7 harg7 _) ?_ (ldX5 H _ arg7 harg7 _) ?_ (ldX5 H _ arg7 harg7 _) (ldX7 H _ _ _ (by rfl) arg9 harg9 _) (ldX6 H arg8 harg8 rfl _)
    · exact rdSkip _ _ _ _ _ (by decide) (rdSkip _ _ _ _ _ (by decide) (rdSkip _ _ _ _ _ (by decide) (rdHit _ _ _ _)))
    · exact rdSkip _ _ _ _ _ (by decide) (rdSkip _ _ _ _ _ (by decide) (rdSkip _ _ _ _ _ (by decide) (rdHit _ _ _ _)))
    · exact rdSkip _ _ _ _ _ (by decide) (rdSkip _ _ _ _ _ (by decide) (rdHit _ _ _ _))
    · exact rdSkip _ _ _ _ _ (by decide) (rdSkip _ _ _ _ _ (by decide) (rdSkip _ _ _ _ _ (by decide) (rdHit _ _ _ _)))
    · exact rdSkip _ _ _ _ _ (by decide) (rdHit _ _ _ _)
    · exact rdSkip _ _ _ _ _ (by decide) (rdSkip _ _ _ _ _ (by decide) (rdSkip _ _ _ _ _ (by decide) (rdHit _ _ _ _)))
    · exact rdHit _ _ _ _
    · exact rdSkip _ _ _ _ _ (by decide) (rdSkip _ _ _ _ _ (by decide) (rdSkip _ _ _ _ _ (by decide) (rdHit _ _ _ _)))
    · refine scoreOff P (i := 3) (b := 0) (by omega) (by omega) rfl ?_ ?_ (hk (256 * 0) _) ?_ ?_ ?_ ?_ ?_ ?_ ?_ ?_ ?_
      · refine colC P rfl ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · refine rhsSP P (hc := by first | exact concatenates_S128x256_S16x256_S16x256_S96x256_S256x256_d0 | exact concatenates_S128x256_S32x256_S16x256_S80x256_S256x256_d0 | exact concatenates_S128x256_S48x256_S16x256_S64x256_S256x256_d0 | exact concatenates_S128x256_S64x256_S16x256_S48x256_S256x256_d0 | exact concatenates_S128x256_S80x256_S16x256_S32x256_S256x256_d0 | exact concatenates_S128x256_S96x256_S16x256_S16x256_S256x256_d0) rfl (by omega) (by omega) rfl rfl H.hQ sub_apply (ldX2 H _ _ arg4 harg4 _) ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · exact rdExt (i := 3) (o := 256 * 0) arg14 hE inb_S4x1024x128_S1x256x128_3_0_0 (extCov (i := 3) (n := 1024) (by omega) (.head _) _)
      all_goals exact ldK H _ arg3 harg3 rfl _ _
    · refine scoreOff P (i := 3) (b := 1) (by omega) (by omega) rfl ?_ ?_ (hk (256 * 1) _) ?_ ?_ ?_ ?_ ?_ ?_ ?_ ?_ ?_
      · refine colC P rfl ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · refine rhsSP P (hc := by first | exact concatenates_S128x256_S16x256_S16x256_S96x256_S256x256_d0 | exact concatenates_S128x256_S32x256_S16x256_S80x256_S256x256_d0 | exact concatenates_S128x256_S48x256_S16x256_S64x256_S256x256_d0 | exact concatenates_S128x256_S64x256_S16x256_S48x256_S256x256_d0 | exact concatenates_S128x256_S80x256_S16x256_S32x256_S256x256_d0 | exact concatenates_S128x256_S96x256_S16x256_S16x256_S256x256_d0) rfl (by omega) (by omega) rfl rfl H.hQ sub_apply (ldX2 H _ _ arg4 harg4 _) ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · exact rdExt (i := 3) (o := 256 * 1) arg14 hE inb_S4x1024x128_S1x256x128_3_256_0 (extCov (i := 3) (n := 1024) (by omega) (.head _) _)
      all_goals exact ldK H _ arg3 harg3 rfl _ _
    · refine scoreOff P (i := 3) (b := 2) (by omega) (by omega) rfl ?_ ?_ (hk (256 * 2) _) ?_ ?_ ?_ ?_ ?_ ?_ ?_ ?_ ?_
      · refine colC P rfl ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · refine rhsSP P (hc := by first | exact concatenates_S128x256_S16x256_S16x256_S96x256_S256x256_d0 | exact concatenates_S128x256_S32x256_S16x256_S80x256_S256x256_d0 | exact concatenates_S128x256_S48x256_S16x256_S64x256_S256x256_d0 | exact concatenates_S128x256_S64x256_S16x256_S48x256_S256x256_d0 | exact concatenates_S128x256_S80x256_S16x256_S32x256_S256x256_d0 | exact concatenates_S128x256_S96x256_S16x256_S16x256_S256x256_d0) rfl (by omega) (by omega) rfl rfl H.hQ sub_apply (ldX2 H _ _ arg4 harg4 _) ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · exact rdExt (i := 3) (o := 256 * 2) arg14 hE inb_S4x1024x128_S1x256x128_3_512_0 (extCov (i := 3) (n := 1024) (by omega) (.head _) _)
      all_goals exact ldK H _ arg3 harg3 rfl _ _
    · refine scoreDiag P (i := 3) (by omega) rfl msk_apply ninf_apply ?_ ?_ (hk (256 * 3) _) ?_ ?_ ?_ ?_ ?_ ?_ ?_ ?_ ?_
      · refine colC P rfl ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · refine rhsSP P (hc := by first | exact concatenates_S128x256_S16x256_S16x256_S96x256_S256x256_d0 | exact concatenates_S128x256_S32x256_S16x256_S80x256_S256x256_d0 | exact concatenates_S128x256_S48x256_S16x256_S64x256_S256x256_d0 | exact concatenates_S128x256_S64x256_S16x256_S48x256_S256x256_d0 | exact concatenates_S128x256_S80x256_S16x256_S32x256_S256x256_d0 | exact concatenates_S128x256_S96x256_S16x256_S16x256_S256x256_d0) rfl (by omega) (by omega) rfl rfl H.hQ sub_apply (ldX2 H _ _ arg4 harg4 _) ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · exact rdExt (i := 3) (o := 256 * 3) arg14 hE inb_S4x1024x128_S1x256x128_3_768_0 (extCov (i := 3) (n := 1024) (by omega) (.head _) _)
      all_goals exact ldK H _ arg3 harg3 rfl _ _
  all_goals
    refine tile4 P rfl rfl rfl ?_ ?_ ?_ ?_ ?_ ?_ ?_ ?_ ?_ (ldX5 H _ arg7 harg7 _) ?_ (ldX5 H _ arg7 harg7 _) ?_ (ldX5 H _ arg7 harg7 _) ?_ (ldX5 H _ arg7 harg7 _) (ldX7 H _ _ _ (by rfl) arg9 harg9 _) (ldX6 H arg8 harg8 rfl _)
    · exact rdSkip _ _ _ _ _ (by decide) (rdSkip _ _ _ _ _ (by decide) (rdSkip _ _ _ _ _ (by decide) (rdHit _ _ _ _)))
    · exact rdSkip _ _ _ _ _ (by decide) (rdSkip _ _ _ _ _ (by decide) (rdSkip _ _ _ _ _ (by decide) (rdHit _ _ _ _)))
    · exact rdSkip _ _ _ _ _ (by decide) (rdSkip _ _ _ _ _ (by decide) (rdHit _ _ _ _))
    · exact rdSkip _ _ _ _ _ (by decide) (rdSkip _ _ _ _ _ (by decide) (rdSkip _ _ _ _ _ (by decide) (rdHit _ _ _ _)))
    · exact rdSkip _ _ _ _ _ (by decide) (rdHit _ _ _ _)
    · exact rdSkip _ _ _ _ _ (by decide) (rdSkip _ _ _ _ _ (by decide) (rdSkip _ _ _ _ _ (by decide) (rdHit _ _ _ _)))
    · exact rdHit _ _ _ _
    · exact rdSkip _ _ _ _ _ (by decide) (rdSkip _ _ _ _ _ (by decide) (rdSkip _ _ _ _ _ (by decide) (rdHit _ _ _ _)))
    · refine scoreOff P (i := 3) (b := 0) (by omega) (by omega) rfl ?_ ?_ (hk (256 * 0) _) ?_ ?_ ?_ ?_ ?_ ?_ ?_ ?_ ?_
      · refine colC P rfl ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · refine rhsSP P (hc := by first | exact concatenates_S128x256_S16x256_S16x256_S96x256_S256x256_d0 | exact concatenates_S128x256_S32x256_S16x256_S80x256_S256x256_d0 | exact concatenates_S128x256_S48x256_S16x256_S64x256_S256x256_d0 | exact concatenates_S128x256_S64x256_S16x256_S48x256_S256x256_d0 | exact concatenates_S128x256_S80x256_S16x256_S32x256_S256x256_d0 | exact concatenates_S128x256_S96x256_S16x256_S16x256_S256x256_d0) rfl (by omega) (by omega) rfl rfl H.hQ sub_apply (ldX2 H _ _ arg4 harg4 _) ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · exact rdExt (i := 3) (o := 256 * 0) arg14 hE inb_S4x1024x128_S1x256x128_3_0_0 (extCov (i := 3) (n := 1024) (by omega) (.head _) _)
      all_goals exact ldK H _ arg3 harg3 rfl _ _
    · refine scoreOff P (i := 3) (b := 1) (by omega) (by omega) rfl ?_ ?_ (hk (256 * 1) _) ?_ ?_ ?_ ?_ ?_ ?_ ?_ ?_ ?_
      · refine colC P rfl ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · refine rhsSP P (hc := by first | exact concatenates_S128x256_S16x256_S16x256_S96x256_S256x256_d0 | exact concatenates_S128x256_S32x256_S16x256_S80x256_S256x256_d0 | exact concatenates_S128x256_S48x256_S16x256_S64x256_S256x256_d0 | exact concatenates_S128x256_S64x256_S16x256_S48x256_S256x256_d0 | exact concatenates_S128x256_S80x256_S16x256_S32x256_S256x256_d0 | exact concatenates_S128x256_S96x256_S16x256_S16x256_S256x256_d0) rfl (by omega) (by omega) rfl rfl H.hQ sub_apply (ldX2 H _ _ arg4 harg4 _) ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · exact rdExt (i := 3) (o := 256 * 1) arg14 hE inb_S4x1024x128_S1x256x128_3_256_0 (extCov (i := 3) (n := 1024) (by omega) (.head _) _)
      all_goals exact ldK H _ arg3 harg3 rfl _ _
    · refine scoreOff P (i := 3) (b := 2) (by omega) (by omega) rfl ?_ ?_ (hk (256 * 2) _) ?_ ?_ ?_ ?_ ?_ ?_ ?_ ?_ ?_
      · refine colC P rfl ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · refine rhsSP P (hc := by first | exact concatenates_S128x256_S16x256_S16x256_S96x256_S256x256_d0 | exact concatenates_S128x256_S32x256_S16x256_S80x256_S256x256_d0 | exact concatenates_S128x256_S48x256_S16x256_S64x256_S256x256_d0 | exact concatenates_S128x256_S64x256_S16x256_S48x256_S256x256_d0 | exact concatenates_S128x256_S80x256_S16x256_S32x256_S256x256_d0 | exact concatenates_S128x256_S96x256_S16x256_S16x256_S256x256_d0) rfl (by omega) (by omega) rfl rfl H.hQ sub_apply (ldX2 H _ _ arg4 harg4 _) ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · exact rdExt (i := 3) (o := 256 * 2) arg14 hE inb_S4x1024x128_S1x256x128_3_512_0 (extCov (i := 3) (n := 1024) (by omega) (.head _) _)
      all_goals exact ldK H _ arg3 harg3 rfl _ _
    · refine scoreDiag P (i := 3) (by omega) rfl msk_apply ninf_apply ?_ ?_ (hk (256 * 3) _) ?_ ?_ ?_ ?_ ?_ ?_ ?_ ?_ ?_
      · refine colC P rfl ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · refine rhsSP P (hc := by first | exact concatenates_S128x256_S16x256_S16x256_S96x256_S256x256_d0 | exact concatenates_S128x256_S32x256_S16x256_S80x256_S256x256_d0 | exact concatenates_S128x256_S48x256_S16x256_S64x256_S256x256_d0 | exact concatenates_S128x256_S64x256_S16x256_S48x256_S256x256_d0 | exact concatenates_S128x256_S80x256_S16x256_S32x256_S256x256_d0 | exact concatenates_S128x256_S96x256_S16x256_S16x256_S256x256_d0) rfl (by omega) (by omega) rfl rfl H.hQ sub_apply (ldX2 H _ _ arg4 harg4 _) ?_ ?_
        · refine rowLo P rfl laneGrp_apply ?_ ?_ ?_ ?_
          all_goals exact ldQ H _ _ (by omega) arg2 harg2 rfl _ _
        · refine rowHi P rfl laneGrp_apply ?_ ?_ ?_ ?_
          all_goals exact ldQ H _ _ (by omega) arg2 harg2 rfl _ _
      · exact rdExt (i := 3) (o := 256 * 3) arg14 hE inb_S4x1024x128_S1x256x128_3_768_0 (extCov (i := 3) (n := 1024) (by omega) (.head _) _)
      all_goals exact ldK H _ arg3 harg3 rfl _ _

end Cert.Unit

end
-- ==== Proof.Out.lean ====
module

public import proofs.«01_k».proof.Proof.Row0
public import proofs.«01_k».proof.Proof.Row1
public import proofs.«01_k».proof.Proof.Row2
public import proofs.«01_k».proof.Proof.Row3
import all proofs.«01_k».proof.Proof.Gen.KernelIdeal.Frame.RunA
public import proofs.«01_k».proof.Proof.Gen.KernelIdeal.Frame

@[expose] public section

/-! What a grid point leaves in its three output blocks. -/

noncomputable section

namespace Cert.Unit

open Idealize.ShloMosaic Cert.KernelIdeal Cert.KernelIdeal.Gen Cert.Alg

/-- A grid point's block of outputs, of codes, and of scales (the eighth row of scales is zero). -/
def G8 (P : Pt) (y : S1x1024x896.Idx) : EReal := P.Y ((y 2).val / 128) (y 1).val ((y 2).val % 128)
def G9 (P : Pt) (y : S1x1024x896.Idx) : EReal := P.code ((y 2).val / 128) (y 1).val ((y 2).val % 128)
def G10 (P : Pt) (y : S1x1x8x1024.Idx) : EReal := if (y 2).val < 7 then P.scale (y 2).val (y 3).val else 0

/-- Four runs of stores, in order, make the whole list of stores. -/
theorem pieces4 {s : Shape} {e : EltTy} {G : s.Idx → Elt Ideal e} {L : List (View.Piece (Elt Ideal) s e)} (n b c d f : ℕ)
    (hb : b = n + 0) (hc : c = n + b) (hd : d = n + c) (hf : f = n + d)
    (h0 : View.PiecesOf G ((L.drop 0).take n)) (h1 : View.PiecesOf G ((L.drop b).take n)) (h2 : View.PiecesOf G ((L.drop c).take n))
    (h3 : View.PiecesOf G ((L.drop d).take n)) (hl : L.drop f = []) (p : View.Piece (Elt Ideal) s e) (hp : p ∈ L) :
    ∀ x : p.1.shape.Idx, p.2 x = G (p.1.emb x) := by
  have step : ∀ k, p ∈ L.drop k → View.PiecesOf G ((L.drop k).take n) → (∀ x : p.1.shape.Idx, p.2 x = G (p.1.emb x)) ∨ p ∈ L.drop (n + k) := by
    intro k hk hP
    rw [← List.take_append_drop n (L.drop k)] at hk
    rcases List.mem_append.mp hk with hk | hk
    · exact .inl (hP.mem p hk)
    · rw [List.drop_drop, Nat.add_comm] at hk
      exact .inr hk
  rcases step 0 hp h0 with h | h; · exact h
  rw [← hb] at h
  rcases step b h h1 with h | h; · exact h
  rw [← hc] at h
  rcases step c h h2 with h | h; · exact h
  rw [← hd] at h
  rcases step d h h3 with h | h; · exact h
  rw [← hf, hl] at h
  exact absurd h List.not_mem_nil

theorem ofL {s : Shape} {e : EltTy} {G : s.Idx → Elt Ideal e} {L L' : List (View.Piece (Elt Ideal) s e)} (h : L = L') (hL : View.PiecesOf G L') : View.PiecesOf G L := by
  subst h; exact hL

theorem piece8 {P : Pt} {h o oc : ℕ} (hc : oc = 128 * h) {y : FVec Ideal S256x128 .f32} (hy : ∀ j : S256x128.Idx, y j = P.Y h (o + (j 0).val) (j 1).val)
    {inb : ∀ a, (![0, o, oc] : Fin 3 → ℕ) a + S1x256x128.size a ≤ S1x1024x896.size a} (x : S1x256x128.Idx) :
    outP y x = G8 P ((Rect.unit (s := S1x1024x896) ![0, o, oc] S1x256x128.size inb).emb x) := by
  have h2 : (x 2).val < 128 := (x 2).isLt
  refine (outP_apply y (fun a b => P.Y h (o + a) b) hy x).trans ?_
  show _ = P.Y ((oc + 1 * (x 2).val) / 128) (o + 1 * (x 1).val) ((oc + 1 * (x 2).val) % 128)
  rw [one_mul, one_mul, show (oc + (x 2).val) / 128 = h by omega, show (oc + (x 2).val) % 128 = (x 2).val by omega]

theorem er_spec {P : Pt} {h o : ℕ} {y : FVec Ideal S256x128 .f32} (hy : ∀ j : S256x128.Idx, y j = P.Y h (o + (j 0).val) (j 1).val) (j : S256x1.Idx) :
    er y j = erow (P.xr h (o + (j 0).val)) :=
  er_apply y (fun a => P.xr h (o + a)) (fun j => xr_apply y (fun a b => P.Y h (o + a) b) hy j) j

theorem piece9 {P : Pt} {h o oc : ℕ} (hc : oc = 128 * h) {y : FVec Ideal S256x128 .f32} (hy : ∀ j : S256x128.Idx, y j = P.Y h (o + (j 0).val) (j 1).val)
    {inb : ∀ a, (![0, o, oc] : Fin 3 → ℕ) a + S1x256x128.size a ≤ S1x1024x896.size a} (x : S1x256x128.Idx) :
    codesP y x = G9 P ((Rect.unit (s := S1x1024x896) ![0, o, oc] S1x256x128.size inb).emb x) := by
  have h2 : (x 2).val < 128 := (x 2).isLt
  refine (codesP_apply y (fun a b => P.Y h (o + a) b) (fun a => erow (P.xr h (o + a))) hy (er_spec hy) x).trans ?_
  show _ = P.code ((oc + 1 * (x 2).val) / 128) (o + 1 * (x 1).val) ((oc + 1 * (x 2).val) % 128)
  rw [one_mul, one_mul, show (oc + (x 2).val) / 128 = h by omega, show (oc + (x 2).val) % 128 = (x 2).val by omega]
  rfl

theorem piece10 {P : Pt} {o : ℕ} {y0 y1 y2 y3 y4 y5 y6 : FVec Ideal S256x128 .f32}
    (f0 : ∀ j : S256x128.Idx, y0 j = P.Y 0 (o + (j 0).val) (j 1).val)
    (f1 : ∀ j : S256x128.Idx, y1 j = P.Y 1 (o + (j 0).val) (j 1).val)
    (f2 : ∀ j : S256x128.Idx, y2 j = P.Y 2 (o + (j 0).val) (j 1).val)
    (f3 : ∀ j : S256x128.Idx, y3 j = P.Y 3 (o + (j 0).val) (j 1).val)
    (f4 : ∀ j : S256x128.Idx, y4 j = P.Y 4 (o + (j 0).val) (j 1).val)
    (f5 : ∀ j : S256x128.Idx, y5 j = P.Y 5 (o + (j 0).val) (j 1).val)
    (f6 : ∀ j : S256x128.Idx, y6 j = P.Y 6 (o + (j 0).val) (j 1).val)
    {inb : ∀ a, (![0, 0, 0, o] : Fin 4 → ℕ) a + S1x1x8x256.size a ≤ S1x1x8x1024.size a} (x : S1x1x8x256.Idx) :
    scaleP y0 y1 y2 y3 y4 y5 y6 x = G10 P ((Rect.unit (s := S1x1x8x1024) ![0, 0, 0, o] S1x1x8x256.size inb).emb x) := by
  have h2 : (x 2).val < 8 := (x 2).isLt
  show _ = if 0 + 1 * (x 2).val < 7 then P.scale (0 + 1 * (x 2).val) (o + 1 * (x 3).val) else 0
  rw [one_mul, one_mul, zero_add]
  have hs : ∀ (h : BitVec 32) (n : ℕ) (y : FVec Ideal S256x128 .f32) (hy : ∀ j : S256x128.Idx, y j = P.Y n (o + (j 0).val) (j 1).val)
      (prev : FVec Ideal S256x128 .f32) (j : S256x128.Idx), scaleStep h y prev j = if BitVec.ofNat 32 (j 1).val = h then P.scale n (o + (j 0).val) else prev j :=
    fun h n y hy prev j => scaleStep_apply h y (fun a => erow (P.xr n (o + a))) (er_spec hy) prev j
  pointwise [scaleP, hs _ 0 y0 f0, hs _ 1 y1 f1, hs _ 2 y2 f2, hs _ 3 y3 f3, hs _ 4 y4 f4, hs _ 5 y5 f5, hs _ 6 y6 f6]
  generalize (x 2).val = n at h2
  interval_cases n <;> simp

section

theorem out8 {P : Pt} {CQ : ℕ → ℕ → ℕ → BitVec 8} {CK : ℕ → ℕ → BitVec 8} (c : Dev nD) (i : grid0.Coords) (arg2 : Memref sig .tc .smem S28x2x32 .f32) (harg2 : arg2.IsWhole) (arg3 : Memref sig .tc .smem S2x4x32 .f32) (harg3 : arg3.IsWhole) (arg4 : Memref sig .tc .vmem S1x7x64x1024 .i8) (harg4 : arg4.IsWhole) (arg5 : Memref sig .tc .vmem S1x7x8x128 .bf16) (harg5 : arg5.IsWhole) (arg6 : Memref sig .tc .vmem S1x1x64x1024 .i8) (harg6 : arg6.IsWhole) (arg7 : Memref sig .tc .vmem S1x1x128x1024 .fp8e4m3) (harg7 : arg7.IsWhole) (arg8 : Memref sig .tc .vmem S1x4x128 .f32) (harg8 : arg8.IsWhole) (arg9 : Memref sig .tc .vmem S1x1024x896 .bf16) (harg9 : arg9.IsWhole) (arg10 : Memref sig .tc .vmem S1x1024x896 .bf16) (harg10 : arg10.IsWhole) (arg11 : Memref sig .tc .vmem S1x1024x896 .fp8e4m3) (harg11 : arg11.IsWhole) (arg12 : Memref sig .tc .vmem S1x1x8x1024 .f32) (harg12 : arg12.IsWhole) (arg13 : Memref sig .tc .vmem S1024x128 .bf16) (harg13 : arg13.IsWhole) (arg14 : Memref sig .tc .vmem S4x1024x128 .bf16) (harg14 : arg14.IsWhole) (arg15 : Memref sig .tc .vmem S1024x256 .f32) (harg15 : arg15.IsWhole)
 (x0 : Vec Ideal S28x2x32 .f32) (x1 : Vec Ideal S2x4x32 .f32) (x2 : Vec Ideal S1x7x64x1024 .i8) (x3 : Vec Ideal S1x7x8x128 .bf16) (x4 : Vec Ideal S1x1x64x1024 .i8) (x5 : Vec Ideal S1x1x128x1024 .fp8e4m3) (x6 : Vec Ideal S1x4x128 .f32) (x7 : Vec Ideal S1x1024x896 .bf16)
    (H : Leaves P (i 0).val (i 1).val CQ CK x0 x1 x2 x3 x4 x5 x6 x7) (y) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y = G8 P y := by
  obtain ⟨a00, a01, a02, a03, a04, a05, a06, e08, e09, e010, f00, f01, f02, f03, f04, f05, f06⟩ := row0 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 H
  obtain ⟨a10, a11, a12, a13, a14, a15, a16, e18, e19, e110, f10, f11, f12, f13, f14, f15, f16⟩ := row1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 H
  obtain ⟨a20, a21, a22, a23, a24, a25, a26, e28, e29, e210, f20, f21, f22, f23, f24, f25, f26⟩ := row2 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 H
  obtain ⟨a30, a31, a32, a33, a34, a35, a36, e38, e39, e310, f30, f31, f32, f33, f34, f35, f36⟩ := row3 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 H
  have hP : ∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).1, ∀ x : p.1.shape.Idx, p.2 x = G8 P (p.1.emb x) := by
    refine pieces4 (s := S1x1024x896) (e := .bf16) (G := G8 P) 7 7 14 21 28 rfl rfl rfl rfl ?_ ?_ ?_ ?_ ?_
    · exact ofL e38 ⟨piece8 (inb := inb_S1x1024x896_S1x256x128_0_768_768) (by rfl) f36, piece8 (inb := inb_S1x1024x896_S1x256x128_0_768_640) (by rfl) f35, piece8 (inb := inb_S1x1024x896_S1x256x128_0_768_512) (by rfl) f34, piece8 (inb := inb_S1x1024x896_S1x256x128_0_768_384) (by rfl) f33, piece8 (inb := inb_S1x1024x896_S1x256x128_0_768_256) (by rfl) f32, piece8 (inb := inb_S1x1024x896_S1x256x128_0_768_128) (by rfl) f31, piece8 (inb := inb_S1x1024x896_S1x256x128_0_768_0) (by rfl) f30, trivial⟩
    · exact ofL e28 ⟨piece8 (inb := inb_S1x1024x896_S1x256x128_0_512_768) (by rfl) f26, piece8 (inb := inb_S1x1024x896_S1x256x128_0_512_640) (by rfl) f25, piece8 (inb := inb_S1x1024x896_S1x256x128_0_512_512) (by rfl) f24, piece8 (inb := inb_S1x1024x896_S1x256x128_0_512_384) (by rfl) f23, piece8 (inb := inb_S1x1024x896_S1x256x128_0_512_256) (by rfl) f22, piece8 (inb := inb_S1x1024x896_S1x256x128_0_512_128) (by rfl) f21, piece8 (inb := inb_S1x1024x896_S1x256x128_0_512_0) (by rfl) f20, trivial⟩
    · exact ofL e18 ⟨piece8 (inb := inb_S1x1024x896_S1x256x128_0_256_768) (by rfl) f16, piece8 (inb := inb_S1x1024x896_S1x256x128_0_256_640) (by rfl) f15, piece8 (inb := inb_S1x1024x896_S1x256x128_0_256_512) (by rfl) f14, piece8 (inb := inb_S1x1024x896_S1x256x128_0_256_384) (by rfl) f13, piece8 (inb := inb_S1x1024x896_S1x256x128_0_256_256) (by rfl) f12, piece8 (inb := inb_S1x1024x896_S1x256x128_0_256_128) (by rfl) f11, piece8 (inb := inb_S1x1024x896_S1x256x128_0_256_0) (by rfl) f10, trivial⟩
    · exact ofL e08 ⟨piece8 (inb := inb_S1x1024x896_S1x256x128_0_0_768) (by rfl) f06, piece8 (inb := inb_S1x1024x896_S1x256x128_0_0_640) (by rfl) f05, piece8 (inb := inb_S1x1024x896_S1x256x128_0_0_512) (by rfl) f04, piece8 (inb := inb_S1x1024x896_S1x256x128_0_0_384) (by rfl) f03, piece8 (inb := inb_S1x1024x896_S1x256x128_0_0_256) (by rfl) f02, piece8 (inb := inb_S1x1024x896_S1x256x128_0_0_128) (by rfl) f01, piece8 (inb := inb_S1x1024x896_S1x256x128_0_0_0) (by rfl) f00, trivial⟩
    · rfl
  refine (congrFun (View.read_writes_junk_eq_canon _ _) y).trans ?_
  exact View.canon_apply_of_pieces (G8 P) _ hP y (cover0_A_8 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y)

theorem out9 {P : Pt} {CQ : ℕ → ℕ → ℕ → BitVec 8} {CK : ℕ → ℕ → BitVec 8} (c : Dev nD) (i : grid0.Coords) (arg2 : Memref sig .tc .smem S28x2x32 .f32) (harg2 : arg2.IsWhole) (arg3 : Memref sig .tc .smem S2x4x32 .f32) (harg3 : arg3.IsWhole) (arg4 : Memref sig .tc .vmem S1x7x64x1024 .i8) (harg4 : arg4.IsWhole) (arg5 : Memref sig .tc .vmem S1x7x8x128 .bf16) (harg5 : arg5.IsWhole) (arg6 : Memref sig .tc .vmem S1x1x64x1024 .i8) (harg6 : arg6.IsWhole) (arg7 : Memref sig .tc .vmem S1x1x128x1024 .fp8e4m3) (harg7 : arg7.IsWhole) (arg8 : Memref sig .tc .vmem S1x4x128 .f32) (harg8 : arg8.IsWhole) (arg9 : Memref sig .tc .vmem S1x1024x896 .bf16) (harg9 : arg9.IsWhole) (arg10 : Memref sig .tc .vmem S1x1024x896 .bf16) (harg10 : arg10.IsWhole) (arg11 : Memref sig .tc .vmem S1x1024x896 .fp8e4m3) (harg11 : arg11.IsWhole) (arg12 : Memref sig .tc .vmem S1x1x8x1024 .f32) (harg12 : arg12.IsWhole) (arg13 : Memref sig .tc .vmem S1024x128 .bf16) (harg13 : arg13.IsWhole) (arg14 : Memref sig .tc .vmem S4x1024x128 .bf16) (harg14 : arg14.IsWhole) (arg15 : Memref sig .tc .vmem S1024x256 .f32) (harg15 : arg15.IsWhole)
 (x0 : Vec Ideal S28x2x32 .f32) (x1 : Vec Ideal S2x4x32 .f32) (x2 : Vec Ideal S1x7x64x1024 .i8) (x3 : Vec Ideal S1x7x8x128 .bf16) (x4 : Vec Ideal S1x1x64x1024 .i8) (x5 : Vec Ideal S1x1x128x1024 .fp8e4m3) (x6 : Vec Ideal S1x4x128 .f32) (x7 : Vec Ideal S1x1024x896 .bf16)
    (H : Leaves P (i 0).val (i 1).val CQ CK x0 x1 x2 x3 x4 x5 x6 x7) (y) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y = G9 P y := by
  obtain ⟨a00, a01, a02, a03, a04, a05, a06, e08, e09, e010, f00, f01, f02, f03, f04, f05, f06⟩ := row0 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 H
  obtain ⟨a10, a11, a12, a13, a14, a15, a16, e18, e19, e110, f10, f11, f12, f13, f14, f15, f16⟩ := row1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 H
  obtain ⟨a20, a21, a22, a23, a24, a25, a26, e28, e29, e210, f20, f21, f22, f23, f24, f25, f26⟩ := row2 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 H
  obtain ⟨a30, a31, a32, a33, a34, a35, a36, e38, e39, e310, f30, f31, f32, f33, f34, f35, f36⟩ := row3 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 H
  have hP : ∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.1, ∀ x : p.1.shape.Idx, p.2 x = G9 P (p.1.emb x) := by
    refine pieces4 (s := S1x1024x896) (e := .fp8e4m3) (G := G9 P) 7 7 14 21 28 rfl rfl rfl rfl ?_ ?_ ?_ ?_ ?_
    · exact ofL e39 ⟨piece9 (inb := inb_S1x1024x896_S1x256x128_0_768_768) (by rfl) f36, piece9 (inb := inb_S1x1024x896_S1x256x128_0_768_640) (by rfl) f35, piece9 (inb := inb_S1x1024x896_S1x256x128_0_768_512) (by rfl) f34, piece9 (inb := inb_S1x1024x896_S1x256x128_0_768_384) (by rfl) f33, piece9 (inb := inb_S1x1024x896_S1x256x128_0_768_256) (by rfl) f32, piece9 (inb := inb_S1x1024x896_S1x256x128_0_768_128) (by rfl) f31, piece9 (inb := inb_S1x1024x896_S1x256x128_0_768_0) (by rfl) f30, trivial⟩
    · exact ofL e29 ⟨piece9 (inb := inb_S1x1024x896_S1x256x128_0_512_768) (by rfl) f26, piece9 (inb := inb_S1x1024x896_S1x256x128_0_512_640) (by rfl) f25, piece9 (inb := inb_S1x1024x896_S1x256x128_0_512_512) (by rfl) f24, piece9 (inb := inb_S1x1024x896_S1x256x128_0_512_384) (by rfl) f23, piece9 (inb := inb_S1x1024x896_S1x256x128_0_512_256) (by rfl) f22, piece9 (inb := inb_S1x1024x896_S1x256x128_0_512_128) (by rfl) f21, piece9 (inb := inb_S1x1024x896_S1x256x128_0_512_0) (by rfl) f20, trivial⟩
    · exact ofL e19 ⟨piece9 (inb := inb_S1x1024x896_S1x256x128_0_256_768) (by rfl) f16, piece9 (inb := inb_S1x1024x896_S1x256x128_0_256_640) (by rfl) f15, piece9 (inb := inb_S1x1024x896_S1x256x128_0_256_512) (by rfl) f14, piece9 (inb := inb_S1x1024x896_S1x256x128_0_256_384) (by rfl) f13, piece9 (inb := inb_S1x1024x896_S1x256x128_0_256_256) (by rfl) f12, piece9 (inb := inb_S1x1024x896_S1x256x128_0_256_128) (by rfl) f11, piece9 (inb := inb_S1x1024x896_S1x256x128_0_256_0) (by rfl) f10, trivial⟩
    · exact ofL e09 ⟨piece9 (inb := inb_S1x1024x896_S1x256x128_0_0_768) (by rfl) f06, piece9 (inb := inb_S1x1024x896_S1x256x128_0_0_640) (by rfl) f05, piece9 (inb := inb_S1x1024x896_S1x256x128_0_0_512) (by rfl) f04, piece9 (inb := inb_S1x1024x896_S1x256x128_0_0_384) (by rfl) f03, piece9 (inb := inb_S1x1024x896_S1x256x128_0_0_256) (by rfl) f02, piece9 (inb := inb_S1x1024x896_S1x256x128_0_0_128) (by rfl) f01, piece9 (inb := inb_S1x1024x896_S1x256x128_0_0_0) (by rfl) f00, trivial⟩
    · rfl
  refine (congrFun (View.read_writes_junk_eq_canon _ _) y).trans ?_
  exact View.canon_apply_of_pieces (G9 P) _ hP y (cover0_A_9 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y)

theorem out10 {P : Pt} {CQ : ℕ → ℕ → ℕ → BitVec 8} {CK : ℕ → ℕ → BitVec 8} (c : Dev nD) (i : grid0.Coords) (arg2 : Memref sig .tc .smem S28x2x32 .f32) (harg2 : arg2.IsWhole) (arg3 : Memref sig .tc .smem S2x4x32 .f32) (harg3 : arg3.IsWhole) (arg4 : Memref sig .tc .vmem S1x7x64x1024 .i8) (harg4 : arg4.IsWhole) (arg5 : Memref sig .tc .vmem S1x7x8x128 .bf16) (harg5 : arg5.IsWhole) (arg6 : Memref sig .tc .vmem S1x1x64x1024 .i8) (harg6 : arg6.IsWhole) (arg7 : Memref sig .tc .vmem S1x1x128x1024 .fp8e4m3) (harg7 : arg7.IsWhole) (arg8 : Memref sig .tc .vmem S1x4x128 .f32) (harg8 : arg8.IsWhole) (arg9 : Memref sig .tc .vmem S1x1024x896 .bf16) (harg9 : arg9.IsWhole) (arg10 : Memref sig .tc .vmem S1x1024x896 .bf16) (harg10 : arg10.IsWhole) (arg11 : Memref sig .tc .vmem S1x1024x896 .fp8e4m3) (harg11 : arg11.IsWhole) (arg12 : Memref sig .tc .vmem S1x1x8x1024 .f32) (harg12 : arg12.IsWhole) (arg13 : Memref sig .tc .vmem S1024x128 .bf16) (harg13 : arg13.IsWhole) (arg14 : Memref sig .tc .vmem S4x1024x128 .bf16) (harg14 : arg14.IsWhole) (arg15 : Memref sig .tc .vmem S1024x256 .f32) (harg15 : arg15.IsWhole)
 (x0 : Vec Ideal S28x2x32 .f32) (x1 : Vec Ideal S2x4x32 .f32) (x2 : Vec Ideal S1x7x64x1024 .i8) (x3 : Vec Ideal S1x7x8x128 .bf16) (x4 : Vec Ideal S1x1x64x1024 .i8) (x5 : Vec Ideal S1x1x128x1024 .fp8e4m3) (x6 : Vec Ideal S1x4x128 .f32) (x7 : Vec Ideal S1x1024x896 .bf16)
    (H : Leaves P (i 0).val (i 1).val CQ CK x0 x1 x2 x3 x4 x5 x6 x7) (y) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y = G10 P y := by
  obtain ⟨a00, a01, a02, a03, a04, a05, a06, e08, e09, e010, f00, f01, f02, f03, f04, f05, f06⟩ := row0 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 H
  obtain ⟨a10, a11, a12, a13, a14, a15, a16, e18, e19, e110, f10, f11, f12, f13, f14, f15, f16⟩ := row1 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 H
  obtain ⟨a20, a21, a22, a23, a24, a25, a26, e28, e29, e210, f20, f21, f22, f23, f24, f25, f26⟩ := row2 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 H
  obtain ⟨a30, a31, a32, a33, a34, a35, a36, e38, e39, e310, f30, f31, f32, f33, f34, f35, f36⟩ := row3 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 H
  have hP : ∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.1, ∀ x : p.1.shape.Idx, p.2 x = G10 P (p.1.emb x) := by
    refine pieces4 (s := S1x1x8x1024) (e := .f32) (G := G10 P) 1 1 2 3 4 rfl rfl rfl rfl ?_ ?_ ?_ ?_ ?_
    · exact ofL e310 ⟨piece10 (inb := inb_S1x1x8x1024_S1x1x8x256_0_0_0_768) f30 f31 f32 f33 f34 f35 f36, trivial⟩
    · exact ofL e210 ⟨piece10 (inb := inb_S1x1x8x1024_S1x1x8x256_0_0_0_512) f20 f21 f22 f23 f24 f25 f26, trivial⟩
    · exact ofL e110 ⟨piece10 (inb := inb_S1x1x8x1024_S1x1x8x256_0_0_0_256) f10 f11 f12 f13 f14 f15 f16, trivial⟩
    · exact ofL e010 ⟨piece10 (inb := inb_S1x1x8x1024_S1x1x8x256_0_0_0_0) f00 f01 f02 f03 f04 f05 f06, trivial⟩
    · rfl
  refine (congrFun (View.read_writes_junk_eq_canon _ _) y).trans ?_
  exact View.canon_apply_of_pieces (G10 P) _ hP y (cover0_A_10 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y)

end

end Cert.Unit

end
-- ==== Proof.Final.lean ====
module

public import proofs.«01_k».proof.Proof.Args

@[expose] public section

/-! The three results, as mathematics. -/

noncomputable section

namespace Cert.Alg

open Idealize.ShloMosaic

/-- The gated output, as the first result holds it. -/
def R8 (A : Args) (y : (⟨3, ![2, 1024, 3584]⟩ : Shape).Idx) : EReal :=
  (A.pt (y 0).val ((y 2).val / 896)).Y ((y 2).val % 896 / 128) (y 1).val ((y 2).val % 896 % 128)

/-- The codes, as the second result holds them. -/
def R9 (A : Args) (y : (⟨3, ![2, 1024, 3584]⟩ : Shape).Idx) : EReal :=
  (A.pt (y 0).val ((y 2).val / 896)).code ((y 2).val % 896 / 128) (y 1).val ((y 2).val % 896 % 128)

/-- The row scales, as the third result holds them: one head a row, the last row zero. -/
def R10 (A : Args) (y : (⟨4, ![2, 4, 8, 1024]⟩ : Shape).Idx) : EReal :=
  if (y 2).val < 7 then (A.pt (y 0).val (y 1).val).scale (y 2).val (y 3).val else 0

end Cert.Alg

end
-- ==== Proof.KFin.lean ====
module

public import proofs.«01_k».proof.Proof.Args
public import proofs.«01_k».proof.Proof.KWin
public import proofs.«01_k».proof.Proof.Out
public import proofs.«01_k».proof.Proof.Final
public import proofs.«01_k».proof.Proof.Gen.KernelIdeal.Value
public import proofs.«01_k».proof.Proof.Gen.KernelIdeal.Frame
import Idealize.ShloMosaic.Lib.Pipeline.ValueKit
import Idealize.ShloMosaic.Lib.Pointwise

@[expose] public section

/-! The kernel's three results. -/

noncomputable section

namespace Cert.Unit

open Idealize.ShloMosaic Idealize.ShloMosaic.TcCoe Cert.KernelIdeal Cert.KernelIdeal.Gen Cert.Alg Idealize.SL.Sem

variable (m : (ℓ : Loc nD τ sig) → Buf (Elt Ideal) ℓ) (c : Dev nD)

theorem kidx8 : ∀ t : Fin cfg0.N, win0_8.index t = ![(grid0.coords t 0).val, 0, (grid0.coords t 1).val] :=
  (by decide +kernel : ∀ t : Fin grid0.N, _)

theorem kidx9 : ∀ t : Fin cfg0.N, win0_9.index t = ![(grid0.coords t 0).val, 0, (grid0.coords t 1).val] :=
  (by decide +kernel : ∀ t : Fin grid0.N, _)

theorem kidx10 : ∀ t : Fin cfg0.N, win0_10.index t = ![(grid0.coords t 0).val, (grid0.coords t 1).val, 0, 0] :=
  (by decide +kernel : ∀ t : Fin grid0.N, _)

theorem k8_0 (t : Fin cfg0.N) (y : S1x1024x896.Idx) : ((win0_8.blk t).view.emb y 0).val = (grid0.coords t 0).val := by
  blk_simp [kidx8 t] <;> omega

theorem k8_1 (t : Fin cfg0.N) (y : S1x1024x896.Idx) : ((win0_8.blk t).view.emb y 1).val = (y 1).val := by
  blk_simp [kidx8 t] <;> omega

theorem k8_2 (t : Fin cfg0.N) (y : S1x1024x896.Idx) : ((win0_8.blk t).view.emb y 2).val = 896 * (grid0.coords t 1).val + (y 2).val := by
  blk_simp [kidx8 t] <;> omega

theorem G8_R8 (A : Args) (t : Fin cfg0.N) (y : S1x1024x896.Idx) :
    G8 (A.pt (grid0.coords t 0).val (grid0.coords t 1).val) y = R8 A ((win0_8.blk t).view.emb y) := by
  have l2 : (y 2).val < 896 := (y 2).isLt
  have d2 : (896 * (grid0.coords t 1).val + (y 2).val) / 896 = (grid0.coords t 1).val := by omega
  have m2 : (896 * (grid0.coords t 1).val + (y 2).val) % 896 = (y 2).val := by omega
  unfold R8 G8
  rw [k8_0, k8_1, k8_2, d2, m2]

theorem res8 (ok : (kargs m c).Ok) : (dats m 0 c).arrAt 8 cfg0.N = R8 (kargs m c) := by
  refine (dats m 0 c).arrAt_eq_of_covers 8 _ (by decide +kernel) fun t hf y => ?_
  rw [after0_8]
  have h : ∀ y, (outsAt0 m c t).1 y = G8 ((kargs m c).pt (grid0.coords t 0).val (grid0.coords t 1).val) y := fun y => by
    simp only [outsAt0]
    exact out8 _ _ _ _ _ _ _ _ _ _ _ _ _ _ _ _ _ _ _ _ _ _ _ _ _ _ _ _ _ _ _ _ _ _ _ _ _ _ (leaves m c ok t) y
  generalize (outsAt0 m c t).1 = f at h
  exact (h y).trans (G8_R8 (kargs m c) t y)

theorem k9_0 (t : Fin cfg0.N) (y : S1x1024x896.Idx) : ((win0_9.blk t).view.emb y 0).val = (grid0.coords t 0).val := by
  blk_simp [kidx9 t] <;> omega

theorem k9_1 (t : Fin cfg0.N) (y : S1x1024x896.Idx) : ((win0_9.blk t).view.emb y 1).val = (y 1).val := by
  blk_simp [kidx9 t] <;> omega

theorem k9_2 (t : Fin cfg0.N) (y : S1x1024x896.Idx) : ((win0_9.blk t).view.emb y 2).val = 896 * (grid0.coords t 1).val + (y 2).val := by
  blk_simp [kidx9 t] <;> omega

theorem G9_R9 (A : Args) (t : Fin cfg0.N) (y : S1x1024x896.Idx) :
    G9 (A.pt (grid0.coords t 0).val (grid0.coords t 1).val) y = R9 A ((win0_9.blk t).view.emb y) := by
  have l2 : (y 2).val < 896 := (y 2).isLt
  have d2 : (896 * (grid0.coords t 1).val + (y 2).val) / 896 = (grid0.coords t 1).val := by omega
  have m2 : (896 * (grid0.coords t 1).val + (y 2).val) % 896 = (y 2).val := by omega
  unfold R9 G9
  rw [k9_0, k9_1, k9_2, d2, m2]

theorem res9 (ok : (kargs m c).Ok) : (dats m 0 c).arrAt 9 cfg0.N = R9 (kargs m c) := by
  refine (dats m 0 c).arrAt_eq_of_covers 9 _ (by decide +kernel) fun t hf y => ?_
  rw [after0_9]
  have h : ∀ y, (outsAt0 m c t).2.1 y = G9 ((kargs m c).pt (grid0.coords t 0).val (grid0.coords t 1).val) y := fun y => by
    simp only [outsAt0]
    exact out9 _ _ _ _ _ _ _ _ _ _ _ _ _ _ _ _ _ _ _ _ _ _ _ _ _ _ _ _ _ _ _ _ _ _ _ _ _ _ (leaves m c ok t) y
  generalize (outsAt0 m c t).2.1 = f at h
  exact (h y).trans (G9_R9 (kargs m c) t y)

theorem k10_0 (t : Fin cfg0.N) (y : S1x1x8x1024.Idx) : ((win0_10.blk t).view.emb y 0).val = (grid0.coords t 0).val := by
  blk_simp [kidx10 t] <;> omega

theorem k10_1 (t : Fin cfg0.N) (y : S1x1x8x1024.Idx) : ((win0_10.blk t).view.emb y 1).val = (grid0.coords t 1).val := by
  blk_simp [kidx10 t] <;> omega

theorem k10_2 (t : Fin cfg0.N) (y : S1x1x8x1024.Idx) : ((win0_10.blk t).view.emb y 2).val = (y 2).val := by
  blk_simp [kidx10 t] <;> omega

theorem k10_3 (t : Fin cfg0.N) (y : S1x1x8x1024.Idx) : ((win0_10.blk t).view.emb y 3).val = (y 3).val := by
  blk_simp [kidx10 t] <;> omega

theorem G10_R10 (A : Args) (t : Fin cfg0.N) (y : S1x1x8x1024.Idx) :
    G10 (A.pt (grid0.coords t 0).val (grid0.coords t 1).val) y = R10 A ((win0_10.blk t).view.emb y) := by
  unfold R10 G10
  rw [k10_0, k10_1, k10_2, k10_3]

theorem res10 (ok : (kargs m c).Ok) : (dats m 0 c).arrAt 10 cfg0.N = R10 (kargs m c) := by
  refine (dats m 0 c).arrAt_eq_of_covers 10 _ (by decide +kernel) fun t hf y => ?_
  rw [after0_10]
  have h : ∀ y, (outsAt0 m c t).2.2 y = G10 ((kargs m c).pt (grid0.coords t 0).val (grid0.coords t 1).val) y := fun y => by
    simp only [outsAt0]
    exact out10 _ _ _ _ _ _ _ _ _ _ _ _ _ _ _ _ _ _ _ _ _ _ _ _ _ _ _ _ _ _ _ _ _ _ _ _ _ _ (leaves m c ok t) y
  generalize (outsAt0 m c t).2.2 = f at h
  exact (h y).trans (G10_R10 (kargs m c) t y)

end Cert.Unit

end
-- ==== Proof.PreOk.lean ====
module

public import proofs.«01_k».proof.Proof.KWin
public import proofs.«01_k».proof.Proof.Consts
public import proofs.«01_k».proof.Proof.Gen.Pre_scales_and_means_finite
import Idealize.ShloMosaic.Lib.Pointwise

@[expose] public section

/-! What the precondition says of the scales and the means. -/

noncomputable section

namespace Cert.Unit

open Idealize.ShloMosaic Idealize.ShloMosaic.TcCoe Cert.KernelIdeal Cert.KernelIdeal.Gen Cert.Alg Idealize.SL.Sem

theorem ctop : Ideal.ofBits .f32 0x7F800000#32 = ⊤ := by
  simp [Ideal.ofBits, Ideal.ieee]

theorem and_ones (p q : Bool) : IntOp.andi (BitVec.ofBool p) (BitVec.ofBool q) = 1#1 → p = true ∧ q = true := by
  revert p q
  decide

open Cert.Pre_scales_and_means_finite in
theorem pre_qs (a0 a1 a2 a3 a4 a5 a6 a7) (h : (Cert.Pre_scales_and_means_finite.fn (F := Ideal) a0 a1 a2 a3 a4 a5 a6 a7).1 = fun _ => 1#1) (x) :
    ((fl : ℝ) : EReal) ≤ a1 x ∧ a1 x < ⊤ := by
  have e := congrFun h x
  pointwise [Cert.Pre_scales_and_means_finite.fn] at e
  rw [cfl, ctop] at e
  exact ⟨of_decide_eq_true (and_ones _ _ e).1, of_decide_eq_true (and_ones _ _ e).2⟩

theorem pre_qm (a0 a1 a2 a3 a4 a5 a6 a7) (h : (Cert.Pre_scales_and_means_finite.fn (F := Ideal) a0 a1 a2 a3 a4 a5 a6 a7).2 = fun _ => 1#1) (x) :
    max (a2 x) (-(a2 x)) < ⊤ := by
  have e := congrFun h x
  have e' : (FloatOps.cmpf (F := Ideal) (φ := .f32) .olt (max (a2 x) (-(a2 x)) : EReal) (Ideal.ofBits .f32 0x7F800000#32)) = 1#1 := e
  rw [ctop] at e'
  have e2 : BitVec.ofBool (decide (max (a2 x) (-(a2 x)) < (⊤ : EReal))) = 1#1 := e'
  by_contra h2
  rw [decide_eq_false h2] at e2
  exact absurd e2 (by decide)

theorem kok (m : (ℓ : Loc nD τ sig) → Buf (Elt Ideal) ℓ) (c : Dev nD)
    (h1 : (Cert.Pre_scales_and_means_finite.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))).1 = fun _ => 1#1)
    (h2 : (Cert.Pre_scales_and_means_finite.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))).2 = fun _ => 1#1) :
    (kargs m c).Ok where
  qs x := pre_qs _ _ _ _ _ _ _ _ h1 x
  qm x := pre_qm _ _ _ _ _ _ _ _ h2 x

end Cert.Unit

end
-- ==== Proof.RDef.lean ====
module

public import proofs.«01_k».proof.Proof.Args
public import proofs.«01_k».proof.Proof.Gen.ReferenceIdeal.Frame
import Idealize.ShloMosaic.Lib.Pipeline.ValueKit
import Idealize.ShloMosaic.Lib.Pointwise
import Idealize.ShloMosaic.Lib.StableHlo.ReadAt

@[expose] public section

/-! The reference's intermediate arrays, by name. -/

noncomputable section

namespace Cert.Ref

open Idealize.ShloMosaic Idealize.ShloMosaic.TcCoe Cert.ReferenceIdeal Cert.ReferenceIdeal.Gen Cert.Alg Cert.Unit Idealize.SL.Sem

variable (m : (ℓ : Loc nD τ sig) → Buf (Elt Ideal) ℓ) (c : Dev nD)

/-- The reference's arguments. -/
def rargs : Args where
  qc := m ((c : Thread nD τ).loc main_arg0)
  qs := m ((c : Thread nD τ).loc main_arg1)
  qm := m ((c : Thread nD τ).loc main_arg2)
  kc := m ((c : Thread nD τ).loc main_arg3)
  ks := m ((c : Thread nD τ).loc main_arg4)
  v := m ((c : Thread nD τ).loc main_arg5)
  vs := m ((c : Thread nD τ).loc main_arg6)
  g := m ((c : Thread nD τ).loc main_arg7)

/-- The contents after the scores' operations, -/
abbrev RV0 := StableHlo.after hostOps0 (fun b => m (c, b))
/-- after the mask, -/
abbrev RV1 := StableHlo.after hostOps0_1 (RV0 m c)
/-- and after the softmax. -/
abbrev RV2 := StableHlo.after hostOps0_2 (RV1 m c)

theorem V0_eq : V0 m c = RV2 m c := by
  simp only [V0, RV2, RV1, RV0, List.flatten_cons, List.flatten_nil, List.append_nil, StableHlo.after_append]

/-- The arrays the reference's host operations compute, each by its name in the text. -/
def a26 : S2x1024x4x128.Idx → EReal := RV0 m c (Proc.devRef .tc main_v26)
def a13 : S2x1024x4x7x128.Idx → EReal := RV0 m c (Proc.devRef .tc main_v13)
def a30 : S2x8x4x7x128.Idx → EReal := RV0 m c (Proc.devRef .tc main_v30)
def a12 : S2x1024x28x128.Idx → EReal := RV0 m c (Proc.devRef .tc main_v12)
def a29 : S2x8x28x128.Idx → EReal := RV0 m c (Proc.devRef .tc main_v29)
def a31 : S2x4x1024x1024x7.Idx → EReal := RV0 m c (Proc.devRef .tc main_v31)
def a33 : S2x4x1024x8x7.Idx → EReal := RV0 m c (Proc.devRef .tc main_v33)
def a38 : S2x4x7x1024.Idx → EReal := RV0 m c (Proc.devRef .tc main_v38)
def a41 : S2x4x1024.Idx → EReal := RV0 m c (Proc.devRef .tc main_v41)
def a52 : S2x4x7x1024x1024.Idx → EReal := RV0 m c (Proc.devRef .tc main_v52)
def a58 : S1024x1024.Idx → BitVec 1 := RV0 m c (Proc.devRef .tc main_v58)
def a5c : S_.Idx → EReal := RV0 m c (Proc.devRef .tc main_cst_5)
def a59 : S2x4x7x1024x1024.Idx → EReal := RV1 m c (Proc.devRef .tc main_v59)
def a60 : S2x4x7x1024.Idx → EReal := RV2 m c (Proc.devRef .tc main_v60)
def a62 : S2x4x7x1024.Idx → EReal := RV2 m c (Proc.devRef .tc main_v62)
def a66 : S2x4x7x1024x1024.Idx → EReal := RV2 m c (Proc.devRef .tc main_v66)
def a67 : S2x4x7x1024.Idx → EReal := RV2 m c (Proc.devRef .tc main_v67)
def a70 : S2x4x7x1024x1024.Idx → EReal := RV2 m c (Proc.devRef .tc main_v70)
def a71 : S8x7168x1024.Idx → EReal := RV2 m c (Proc.devRef .tc main_v71)
def a73 : S8x1024x128.Idx → EReal := RV2 m c (Proc.devRef .tc main_v73)
def a74 : S8x1x128.Idx → EReal := RV2 m c (Proc.devRef .tc main_v74)
def a77 : S8x7168x128.Idx → EReal := RV2 m c (Proc.devRef .tc main_v77)

/-- Where the unpacking puts a column: the even ones first. -/
def col (e : ℕ) : ℕ := if e < 64 then 2 * e else 2 * (e - 64) + 1

end Cert.Ref

end
-- ==== Proof.RBody.lean ====
module

public import proofs.«01_k».proof.Proof.RDef
public import proofs.«01_k».proof.Proof.Consts
public import proofs.«01_k».proof.Proof.Gen.ReferenceIdeal.Frame
import Idealize.ShloMosaic.Lib.Pipeline.ValueKit
import Idealize.ShloMosaic.Lib.Pointwise
import Idealize.ShloMosaic.Lib.StableHlo.ReadAt

@[expose] public section

/-! What the reference's kernel is handed. -/

noncomputable section

namespace Cert.Ref

open Idealize.ShloMosaic Idealize.ShloMosaic.TcCoe Cert.ReferenceIdeal Cert.ReferenceIdeal.Gen Cert.Alg Cert.Unit Idealize.SL.Sem

variable (m : (ℓ : Loc nD τ sig) → Buf (Elt Ideal) ℓ) (c : Dev nD)

variable (P : ℕ → Pt)

/-- What the reference's kernel is handed: softmax weights, value codes, value scales and gates. -/
structure Ins (x0 : Vec Ideal S8x7168x1024 .f32) (x1 : Vec Ideal S8x1024x128 .fp8e4m3) (x2 : Vec Ideal S8x1x128 .f32) (x3 : Vec Ideal S8x7168x128 .bf16) : Prop where
  p : ∀ (n : Fin 8) (r : Fin 7168) (k : Fin 1024), x0 (Idealize.ShloMosaic.ix3 n r k) = Ideal.div (E ((P n.val).XR (r.val / 1024) (r.val % 1024)) k) (l ((P n.val).XR (r.val / 1024) (r.val % 1024)))
  v : ∀ (n : Fin 8) (k : Fin 1024) (d : Fin 128), x1 (Idealize.ShloMosaic.ix3 n k d) = (P n.val).v d.val k.val
  vs : ∀ (n : Fin 8) (k : Fin 1) (d : Fin 128), x2 (Idealize.ShloMosaic.ix3 n k d) = (P n.val).vs d.val
  g : ∀ (n : Fin 8) (r : Fin 7168) (d : Fin 128), x3 (Idealize.ShloMosaic.ix3 n r d) = (P n.val).g (r.val / 1024) (r.val % 1024) d.val

variable {P} {x0 : Vec Ideal S8x7168x1024 .f32} {x1 : Vec Ideal S8x1024x128 .fp8e4m3} {x2 : Vec Ideal S8x1x128 .f32} {x3 : Vec Ideal S8x7168x128 .bf16}

end Cert.Ref

end
-- ==== Proof.RA.lean ====
module

public import proofs.«01_k».proof.Proof.RDef
public import proofs.«01_k».proof.Proof.Gen.ReferenceIdeal.Frame
import Idealize.ShloMosaic.Lib.Pipeline.ValueKit
import Idealize.ShloMosaic.Lib.Pointwise
import Idealize.ShloMosaic.Lib.StableHlo.ReadAt

@[expose] public section

/-! The reference's unpacked codes of the keys, and of the queries. -/

noncomputable section

namespace Cert.Ref

open Idealize.ShloMosaic Idealize.ShloMosaic.TcCoe Cert.ReferenceIdeal Cert.ReferenceIdeal.Gen Cert.Alg Cert.Unit Idealize.SL.Sem

variable (m : (ℓ : Loc nD τ sig) → Buf (Elt Ideal) ℓ) (c : Dev nD)

theorem lo_aux : ∀ x : BitVec 8, ((x.signExtend 32 <<< 28).sshiftRight 28).toInt = ((x.setWidth 32 <<< 28).sshiftRight 28).toInt := by decide +kernel
theorem hi_aux : ∀ x : BitVec 8, ((x.signExtend 32).sshiftRight 4).toInt = ((x.setWidth 32 <<< 24).sshiftRight 28).toInt := by decide +kernel

theorem lo (x : BitVec 8) (d : ℕ) (hd : d % 2 = 0) : FloatOps.sitofp (F := Ideal) FTy.f32 (IntOp.shrsi ArithUnit.host (IntOp.shli ArithUnit.host (BitVec.signExtend 32 x) 28#32) 28#32) = ((nib x d : ℝ) : EReal) := by
  unfold nib
  rw [if_pos hd, ← lo_aux]
  rfl
theorem hi (x : BitVec 8) (d : ℕ) (hd : d % 2 = 1) : FloatOps.sitofp (F := Ideal) FTy.f32 (IntOp.shrsi ArithUnit.host (BitVec.signExtend 32 x) 4#32) = ((nib x d : ℝ) : EReal) := by
  unfold nib
  rw [if_neg (by omega), ← hi_aux]
  rfl

theorem r26 (b : Fin 2) (k : Fin 1024) (g : Fin 4) (e : Fin 128) :
    a26 m c (Idealize.ShloMosaic.ix4 b k g e) = ((((rargs m c).pt b.val g.val).K k.val (col e.val) : ℝ) : EReal) := by
  unfold a26
  after_reads_at
  have h2 := e.isLt
  show _ = ((nib (at4 (rargs m c).kc b.val k.val g.val (col e.val / 2)) (col e.val) : ℝ) : EReal)
  unfold col
  split
  · rename_i h
    refine (lo _ (2 * e.val) (by omega)).trans ?_
    exact congrArg (fun x => ((nib x (2 * e.val) : ℝ) : EReal)) (at4_of (rargs m c).kc (Idealize.ShloMosaic.ix4 b k g (⟨e.val, h⟩ : Fin 64)) rfl rfl rfl (by show e.val = _; omega))
  · rename_i h
    refine (hi _ (2 * (e.val - 64) + 1) (by omega)).trans ?_
    exact congrArg (fun x => ((nib x (2 * (e.val - 64) + 1) : ℝ) : EReal)) (at4_of (rargs m c).kc (Idealize.ShloMosaic.ix4 b k g (⟨e.val - 64, by omega⟩ : Fin 64)) rfl rfl rfl (by show e.val - 64 = _; omega))

theorem r12 (b : Fin 2) (q : Fin 1024) (n : Fin 28) (e : Fin 128) :
    a12 m c (Idealize.ShloMosaic.ix4 b q n e) = ((nib (at4 (rargs m c).qc b.val q.val n.val (col e.val / 2)) (col e.val) : ℝ) : EReal) := by
  unfold a12
  after_reads_at
  have h2 := e.isLt
  unfold col
  split
  · rename_i h
    refine (lo _ (2 * e.val) (by omega)).trans ?_
    exact congrArg (fun x => ((nib x (2 * e.val) : ℝ) : EReal)) (at4_of (rargs m c).qc (Idealize.ShloMosaic.ix4 b q n (⟨e.val, h⟩ : Fin 64)) rfl rfl rfl (by show e.val = _; omega))
  · rename_i h
    refine (hi _ (2 * (e.val - 64) + 1) (by omega)).trans ?_
    exact congrArg (fun x => ((nib x (2 * (e.val - 64) + 1) : ℝ) : EReal)) (at4_of (rargs m c).qc (Idealize.ShloMosaic.ix4 b q n (⟨e.val - 64, by omega⟩ : Fin 64)) rfl rfl rfl (by show e.val - 64 = _; omega))

theorem r29 (b : Fin 2) (q : Fin 8) (n : Fin 28) (e : Fin 128) :
    a29 m c (Idealize.ShloMosaic.ix4 b q n e) = at4 (rargs m c).qm b.val q.val n.val (col e.val) := by
  unfold a29
  after_reads_at
  have h2 := e.isLt
  unfold col
  split
  · rename_i h
    exact at4_of (rargs m c).qm (Idealize.ShloMosaic.ix4 b q n (⟨2 * e.val, by omega⟩ : Fin 128)) rfl rfl rfl rfl
  · rename_i h
    exact at4_of (rargs m c).qm (Idealize.ShloMosaic.ix4 b q n (⟨1 + 2 * (e.val - 64), by omega⟩ : Fin 128)) rfl rfl rfl (by show 1 + 2 * (e.val - 64) = _; omega)

end Cert.Ref

end
-- ==== Proof.RB.lean ====
module

public import proofs.«01_k».proof.Proof.RA
public import proofs.«01_k».proof.Proof.Gen.ReferenceIdeal.Frame
import Idealize.ShloMosaic.Lib.Pipeline.ValueKit
import Idealize.ShloMosaic.Lib.Pointwise
import Idealize.ShloMosaic.Lib.StableHlo.ReadAt

@[expose] public section

/-! The reference's two products: key codes with query codes, and key codes with block means. -/

noncomputable section

namespace Cert.Ref

open Idealize.ShloMosaic Idealize.ShloMosaic.TcCoe Cert.ReferenceIdeal Cert.ReferenceIdeal.Gen Cert.Alg Cert.Unit Idealize.SL.Sem

variable (m : (ℓ : Loc nD τ sig) → Buf (Elt Ideal) ℓ) (c : Dev nD)

theorem e13 : a13 m c = shapeCast S2x1024x4x7x128 (a12 m c) shapeCasts_S2x1024x28x128_S2x1024x4x7x128 := by
  unfold a13 a12
  after_reads_simp
  rfl
theorem e30 : a30 m c = shapeCast S2x8x4x7x128 (a29 m c) shapeCasts_S2x8x28x128_S2x8x4x7x128 := by
  unfold a30 a29
  after_reads_simp
  rfl

theorem r13 (b : Fin 2) (q : Fin 1024) (g : Fin 4) (h : Fin 7) (e : Fin 128) :
    a13 m c (Idealize.ShloMosaic.ix5 b q g h e) = ((((rargs m c).pt b.val g.val).Q h.val (col e.val) q.val : ℝ) : EReal) := by
  rw [e13]
  pointwise
  rw [r12]
  exact congrArg (fun n => ((nib (at4 (rargs m c).qc b.val q.val n (col e.val / 2)) (col e.val) : ℝ) : EReal)) (by show g.val * 7 + h.val = 7 * g.val + h.val; ring)

theorem r30 (ok : (rargs m c).Ok) (b : Fin 2) (n : Fin 8) (g : Fin 4) (h : Fin 7) (e : Fin 128) :
    a30 m c (Idealize.ShloMosaic.ix5 b n g h e) = ((((rargs m c).pt b.val g.val).M h.val n.val (col e.val) : ℝ) : EReal) := by
  rw [e30, ← ok.mean]
  pointwise
  rw [r29]
  exact congrArg (fun i => at4 (rargs m c).qm b.val n.val i (col e.val)) (by show g.val * 7 + h.val = 7 * g.val + h.val; ring)

theorem e31 : a31 m c = (Host.dotGeneral (F := Ideal) (φ₁ := .bf16) (φ₂ := .bf16) dot_S2x1024x4x128_S2x1024x4x7x128_S2x4x1024x1024x7_3_4_1_13_02_02 none (a26 m c : FVec Ideal S2x1024x4x128 .bf16) (a13 m c : FVec Ideal S2x1024x4x7x128 .bf16) : FVec Ideal S2x4x1024x1024x7 .f32) := by
  unfold a31 a26 a13
  after_reads_simp

theorem e33 : a33 m c = (Host.dotGeneral (F := Ideal) (φ₁ := .bf16) (φ₂ := .bf16) dot_S2x1024x4x128_S2x8x4x7x128_S2x4x1024x8x7_3_4_1_13_02_02 none (a26 m c : FVec Ideal S2x1024x4x128 .bf16) (a30 m c : FVec Ideal S2x8x4x7x128 .bf16) : FVec Ideal S2x4x1024x8x7 .f32) := by
  unfold a33 a26 a30
  after_reads_simp

/-- The unpacking's order of columns, as a permutation. -/
def colE : Fin 128 ≃ Fin 128 where
  toFun e := ⟨col e.val, by have := e.isLt; unfold col; split <;> omega⟩
  invFun d := ⟨if d.val % 2 = 0 then d.val / 2 else 64 + d.val / 2, by have := d.isLt; split <;> omega⟩
  left_inv e := by
    have := e.isLt
    refine Fin.ext ?_
    simp only [col]
    split <;> split <;> omega
  right_inv d := by
    have := d.isLt
    refine Fin.ext ?_
    simp only [col]
    split <;> split <;> omega

theorem sum_col (f : ℕ → ℝ) : ∑ e : Fin 128, f (col e.val) = ∑ d : Fin 128, f d.val :=
  Equiv.sum_comp colE fun d : Fin 128 => f d.val

theorem r31 (b : Fin 2) (g : Fin 4) (k q : Fin 1024) (h : Fin 7) :
    a31 m c (Idealize.ShloMosaic.ix5 b g k q h) = ((((rargs m c).pt b.val g.val).dot h.val q.val k.val : ℝ) : EReal) := by
  rw [e31]
  pointwise
  refine (Finset.sum_congr rfl fun e _ => congrArg₂ (· * ·) (r26 m c b k g e) (r13 m c b q g h e)).trans ?_
  rw [coe_dot]
  exact congrArg _ (sum_col fun d => ((rargs m c).pt b.val g.val).K k.val d * ((rargs m c).pt b.val g.val).Q h.val d q.val)

theorem r33 (ok : (rargs m c).Ok) (b : Fin 2) (g : Fin 4) (k : Fin 1024) (n : Fin 8) (h : Fin 7) :
    a33 m c (Idealize.ShloMosaic.ix5 b g k n h) = ((((rargs m c).pt b.val g.val).B h.val n.val k.val : ℝ) : EReal) := by
  rw [e33]
  pointwise
  refine (Finset.sum_congr rfl fun e _ => congrArg₂ (· * ·) (r26 m c b k g e) (r30 m c ok b n g h e)).trans ?_
  rw [coe_dot]
  exact congrArg _ (sum_col fun d => ((rargs m c).pt b.val g.val).K k.val d * ((rargs m c).pt b.val g.val).M h.val n.val d)

end Cert.Ref

end
-- ==== Proof.RC.lean ====
module

public import proofs.«01_k».proof.Proof.RDef
public import proofs.«01_k».proof.Proof.Consts
public import proofs.«01_k».proof.Proof.Gen.ReferenceIdeal.Frame
import Idealize.ShloMosaic.Lib.Pipeline.ValueKit
import Idealize.ShloMosaic.Lib.Pointwise
import Idealize.ShloMosaic.Lib.StableHlo.ReadAt

@[expose] public section

/-! The reference's scales, spread over their tokens, and the causal mask. -/

noncomputable section

namespace Cert.Ref

open Idealize.ShloMosaic Idealize.ShloMosaic.TcCoe Cert.ReferenceIdeal Cert.ReferenceIdeal.Gen Cert.Alg Cert.Unit Idealize.SL.Sem

variable (m : (ℓ : Loc nD τ sig) → Buf (Elt Ideal) ℓ) (c : Dev nD)

theorem r38 (ok : (rargs m c).Ok) (b : Fin 2) (g : Fin 4) (h : Fin 7) (q : Fin 1024) :
    a38 m c (Idealize.ShloMosaic.ix4 b g h q) = ((((rargs m c).pt b.val g.val).s h.val (q.val / 32) : ℝ) : EReal) := by
  rw [← ok.scale]
  unfold a38
  after_reads_at
  exact at3_of (rargs m c).qs _ rfl rfl (by show g.val * 7 + h.val = _; ring)

theorem r41 (b : Fin 2) (g : Fin 4) (k : Fin 1024) :
    a41 m c (Idealize.ShloMosaic.ix3 b g k) = ((rargs m c).pt b.val g.val).ks (k.val / 32) := by
  unfold a41
  after_reads_at
  exact at3_of (rargs m c).ks _ rfl rfl rfl

theorem r58 (q k : Fin 1024) : a58 m c (Idealize.ShloMosaic.ix2 q k) = if k.val ≤ q.val then 0#1 else 1#1 := by
  unfold a58
  after_reads_at
  have h1 := q.isLt
  have h2 := k.isLt
  have hk : (BitVec.ofNat 32 k.val).toInt = (k.val : ℤ) := by
    rw [BitVec.toInt_eq_toNat_of_lt (by rw [BitVec.toNat_ofNat]; omega), BitVec.toNat_ofNat, Nat.mod_eq_of_lt (by omega)]
  have hq : (BitVec.ofNat 32 q.val).toInt = (q.val : ℤ) := by
    rw [BitVec.toInt_eq_toNat_of_lt (by rw [BitVec.toNat_ofNat]; omega), BitVec.toNat_ofNat, Nat.mod_eq_of_lt (by omega)]
  unfold IntOp.cmpi
  simp only [BitVec.slt, hk, hq]
  split
  · rename_i h
    rw [decide_eq_false (by omega)]
    rfl
  · rename_i h
    rw [decide_eq_true (by omega)]
    rfl

theorem r5c (j) : a5c m c j = ⊥ := by
  unfold a5c
  after_reads_at
  exact cbot

theorem e59 (b : Fin 2) (g : Fin 4) (h : Fin 7) (q k : Fin 1024) : a59 m c (Idealize.ShloMosaic.ix5 b g h q k) = if k.val ≤ q.val then a52 m c (Idealize.ShloMosaic.ix5 b g h q k) else ⊥ := by
  have h58 := r58 m c q k
  have h5c := r5c m c Idealize.ShloMosaic.ix0
  unfold a58 at h58
  unfold a5c at h5c
  unfold a59 a52 RV1
  generalize hV : RV0 m c = V at *
  after_reads_at
  rw [h58, show id (V (Proc.devRef .tc main_cst_5)) Idealize.ShloMosaic.ix0 = (⊥ : EReal) from h5c]
  split
  · rfl
  · rfl

end Cert.Ref

end
-- ==== Proof.RD.lean ====
module

public import proofs.«01_k».proof.Proof.RDef
public import proofs.«01_k».proof.Proof.Consts
public import proofs.«01_k».proof.Proof.Gen.ReferenceIdeal.Frame
import Idealize.ShloMosaic.Lib.Pipeline.ValueKit
import Idealize.ShloMosaic.Lib.Pointwise
import Idealize.ShloMosaic.Lib.StableHlo.ReadAt

@[expose] public section

/-! The maximum of a row of scores, as a reduction. -/

noncomputable section

namespace Cert.Ref

open Idealize.ShloMosaic Idealize.ShloMosaic.TcCoe Cert.ReferenceIdeal Cert.ReferenceIdeal.Gen Cert.Alg Cert.Unit Idealize.SL.Sem

variable (m : (ℓ : Loc nD τ sig) → Buf (Elt Ideal) ℓ) (c : Dev nD)

theorem e60 : a60 m c = Host.reduce (α := Ideal .f32) FloatOps.maximumf (a59 m c) (constant (F := Ideal) S_ .f32 0xFF800000#32) reducesTo_S2x4x7x1024x1024_S2x4x7x1024_d4 h_S_ := by
  unfold a60 a59 RV2
  generalize hV : RV1 m c = V
  after_reads_simp

theorem r60 (b : Fin 2) (g : Fin 4) (h : Fin 7) (q : Fin 1024) : a60 m c (Idealize.ShloMosaic.ix4 b g h q) = Finset.univ.sup fun k : Fin 1024 => a59 m c (Idealize.ShloMosaic.ix5 b g h q k) := by
  rw [e60]
  pointwise
  rw [cbot]
  rfl

end Cert.Ref

end
-- ==== Proof.RE.lean ====
module

public import proofs.«01_k».proof.Proof.RDef
public import proofs.«01_k».proof.Proof.Gen.ReferenceIdeal.Frame
import Idealize.ShloMosaic.Lib.Pipeline.ValueKit
import Idealize.ShloMosaic.Lib.Pointwise
import Idealize.ShloMosaic.Lib.StableHlo.ReadAt

@[expose] public section

/-! Values, value scales and gates, laid out as the reference's kernel takes them. -/

noncomputable section

namespace Cert.Ref

open Idealize.ShloMosaic Idealize.ShloMosaic.TcCoe Cert.ReferenceIdeal Cert.ReferenceIdeal.Gen Cert.Alg Cert.Unit Idealize.SL.Sem

variable (m : (ℓ : Loc nD τ sig) → Buf (Elt Ideal) ℓ) (c : Dev nD)

theorem r73 (n : Fin 8) (k : Fin 1024) (d : Fin 128) : a73 m c (Idealize.ShloMosaic.ix3 n k d) = ((rargs m c).pt (n.val / 4) (n.val % 4)).v d.val k.val := by
  unfold a73
  after_reads_at
  exact at4_of (rargs m c).v _ rfl rfl rfl rfl
theorem r74 (n : Fin 8) (k : Fin 1) (d : Fin 128) : a74 m c (Idealize.ShloMosaic.ix3 n k d) = ((rargs m c).pt (n.val / 4) (n.val % 4)).vs d.val := by
  unfold a74
  after_reads_at
  exact at3_of (rargs m c).vs _ rfl rfl rfl
theorem r77 (n : Fin 8) (k : Fin 7168) (d : Fin 128) : a77 m c (Idealize.ShloMosaic.ix3 n k d) = ((rargs m c).pt (n.val / 4) (n.val % 4)).g (k.val / 1024) (k.val % 1024) d.val := by
  unfold a77
  after_reads_at
  exact at3_of (rargs m c).g _ rfl rfl (by show n.val % 4 * 896 + k.val / 1024 * 128 + d.val = 128 * (7 * (n.val % 4) + k.val / 1024) + d.val; ring)

end Cert.Ref

end
-- ==== Proof.RF.lean ====
module

public import proofs.«01_k».proof.Proof.RD
public import proofs.«01_k».proof.Proof.Consts
public import proofs.«01_k».proof.Proof.Gen.ReferenceIdeal.Frame
import Idealize.ShloMosaic.Lib.Pipeline.ValueKit
import Idealize.ShloMosaic.Lib.Pointwise
import Idealize.ShloMosaic.Lib.StableHlo.ReadAt

@[expose] public section

/-! The maximum of a row of scores. -/

noncomputable section

namespace Cert.Ref

open Idealize.ShloMosaic Idealize.ShloMosaic.TcCoe Cert.ReferenceIdeal Cert.ReferenceIdeal.Gen Cert.Alg Cert.Unit Idealize.SL.Sem

variable (m : (ℓ : Loc nD τ sig) → Buf (Elt Ideal) ℓ) (c : Dev nD)

theorem e62 : a62 m c = (maximumf (F := Ideal) (φ := .f32) (broadcastInDim S2x4x7x1024 ![] bcast_S_S2x4x7x1024 (constant S_ .f32 0xFF800000#32)) (Host.reduce (α := Ideal .f32) FloatOps.maximumf (a59 m c) (constant (F := Ideal) S_ .f32 0xFF800000#32) reducesTo_S2x4x7x1024x1024_S2x4x7x1024_d4 h_S_) : FVec Ideal S2x4x7x1024 .f32) := by
  unfold a59 a62 RV2
  generalize hV : RV1 m c = V
  after_reads_simp

theorem maxAt (f g : FVec Ideal S2x4x7x1024 .f32) (j : S2x4x7x1024.Idx) : maximumf f g j = max (f j) (g j) := rfl

theorem r62 (b : Fin 2) (g : Fin 4) (h : Fin 7) (q : Fin 1024) : a62 m c (Idealize.ShloMosaic.ix4 b g h q) = Finset.univ.sup fun k : Fin 1024 => a59 m c (Idealize.ShloMosaic.ix5 b g h q k) := by
  have hb : (broadcastInDim S2x4x7x1024 ![] bcast_S_S2x4x7x1024 (constant (F := Ideal) S_ .f32 0xFF800000#32) : FVec Ideal S2x4x7x1024 .f32) (Idealize.ShloMosaic.ix4 b g h q) = (⊥ : EReal) := cbot
  have e := congrFun (e62 m c) (Idealize.ShloMosaic.ix4 b g h q)
  refine e.trans ((maxAt _ _ _).trans ?_)
  refine (congrArg₂ max hb (congrFun (e60 m c).symm (Idealize.ShloMosaic.ix4 b g h q))).trans ?_
  exact (max_eq_right bot_le).trans (r60 m c b g h q)

end Cert.Ref

end
-- ==== Proof.RG.lean ====
module

public import proofs.«01_k».proof.Proof.RDef
public import proofs.«01_k».proof.Proof.Gen.ReferenceIdeal.Frame
import Idealize.ShloMosaic.Lib.Pipeline.ValueKit
import Idealize.ShloMosaic.Lib.Pointwise
import Idealize.ShloMosaic.Lib.StableHlo.ReadAt

@[expose] public section

/-! The exponentials of a row of scores. -/

noncomputable section

namespace Cert.Ref

open Idealize.ShloMosaic Idealize.ShloMosaic.TcCoe Cert.ReferenceIdeal Cert.ReferenceIdeal.Gen Cert.Alg Cert.Unit Idealize.SL.Sem

variable (m : (ℓ : Loc nD τ sig) → Buf (Elt Ideal) ℓ) (c : Dev nD)

theorem e66 (b : Fin 2) (g : Fin 4) (h : Fin 7) (q k : Fin 1024) : a66 m c (Idealize.ShloMosaic.ix5 b g h q k) = Ideal.exp (a59 m c (Idealize.ShloMosaic.ix5 b g h q k) - a62 m c (Idealize.ShloMosaic.ix4 b g h q)) := by
  have e : a66 m c = Host.exp (F := Ideal) (φ := .f32) (subf (a59 m c) (broadcastInDim S2x4x7x1024x1024 ![0, 1, 2, 3, 4] bcast_S2x4x7x1024x1_S2x4x7x1024x1024_0_1_2_3_4 (broadcastInDim S2x4x7x1024x1 ![0, 1, 2, 3] bcast_S2x4x7x1024_S2x4x7x1024x1_0_1_2_3 (a62 m c)))) := by
    unfold a66 a62 a59 RV2
    generalize hV : RV1 m c = V
    after_reads_simp
  rw [e]
  pointwise

end Cert.Ref

end
-- ==== Proof.RH.lean ====
module

public import proofs.«01_k».proof.Proof.RDef
public import proofs.«01_k».proof.Proof.Consts
public import proofs.«01_k».proof.Proof.Gen.ReferenceIdeal.Frame
import Idealize.ShloMosaic.Lib.Pipeline.ValueKit
import Idealize.ShloMosaic.Lib.Pointwise
import Idealize.ShloMosaic.Lib.StableHlo.ReadAt

@[expose] public section

/-! The sum of a row of exponentials. -/

noncomputable section

namespace Cert.Ref

open Idealize.ShloMosaic Idealize.ShloMosaic.TcCoe Cert.ReferenceIdeal Cert.ReferenceIdeal.Gen Cert.Alg Cert.Unit Idealize.SL.Sem

variable (m : (ℓ : Loc nD τ sig) → Buf (Elt Ideal) ℓ) (c : Dev nD)

theorem e67 : a67 m c = Host.reduceAdd (F := Ideal) (φ := .f32) (a66 m c) (constant S_ .f32 0x00000000#32) reducesTo_S2x4x7x1024x1024_S2x4x7x1024_d4 h_S_ := by
  unfold a66 a67 RV2
  generalize hV : RV1 m c = V
  after_reads_simp

theorem r67 (b : Fin 2) (g : Fin 4) (h : Fin 7) (q : Fin 1024) : a67 m c (Idealize.ShloMosaic.ix4 b g h q) = ∑ k : Fin 1024, a66 m c (Idealize.ShloMosaic.ix5 b g h q k) := by
  rw [e67]
  pointwise

end Cert.Ref

end
-- ==== Proof.RI.lean ====
module

public import proofs.«01_k».proof.Proof.RDef
public import proofs.«01_k».proof.Proof.Gen.ReferenceIdeal.Frame
import Idealize.ShloMosaic.Lib.Pipeline.ValueKit
import Idealize.ShloMosaic.Lib.Pointwise
import Idealize.ShloMosaic.Lib.StableHlo.ReadAt

@[expose] public section

/-! The softmax weights. -/

noncomputable section

namespace Cert.Ref

open Idealize.ShloMosaic Idealize.ShloMosaic.TcCoe Cert.ReferenceIdeal Cert.ReferenceIdeal.Gen Cert.Alg Cert.Unit Idealize.SL.Sem

variable (m : (ℓ : Loc nD τ sig) → Buf (Elt Ideal) ℓ) (c : Dev nD)

theorem e70 (b : Fin 2) (g : Fin 4) (h : Fin 7) (q k : Fin 1024) : a70 m c (Idealize.ShloMosaic.ix5 b g h q k) = Ideal.div (a66 m c (Idealize.ShloMosaic.ix5 b g h q k)) (a67 m c (Idealize.ShloMosaic.ix4 b g h q)) := by
  have e : a70 m c = Host.divf (F := Ideal) (φ := .f32) (a66 m c) (broadcastInDim S2x4x7x1024x1024 ![0, 1, 2, 3, 4] bcast_S2x4x7x1024x1_S2x4x7x1024x1024_0_1_2_3_4 (broadcastInDim S2x4x7x1024x1 ![0, 1, 2, 3] bcast_S2x4x7x1024_S2x4x7x1024x1_0_1_2_3 (a67 m c))) := by
    unfold a70 a66 a67 RV2
    generalize hV : RV1 m c = V
    after_reads_simp
  rw [e]
  pointwise

end Cert.Ref

end
-- ==== Proof.RJ.lean ====
module

public import proofs.«01_k».proof.Proof.RDef
public import proofs.«01_k».proof.Proof.Gen.ReferenceIdeal.Frame
import Idealize.ShloMosaic.Lib.Pipeline.ValueKit
import Idealize.ShloMosaic.Lib.Pointwise
import Idealize.ShloMosaic.Lib.StableHlo.ReadAt

@[expose] public section

/-! The softmax weights, laid out as the reference's kernel takes them. -/

noncomputable section

namespace Cert.Ref

open Idealize.ShloMosaic Idealize.ShloMosaic.TcCoe Cert.ReferenceIdeal Cert.ReferenceIdeal.Gen Cert.Alg Cert.Unit Idealize.SL.Sem

variable (m : (ℓ : Loc nD τ sig) → Buf (Elt Ideal) ℓ) (c : Dev nD)

theorem e71 (n : Fin 8) (r : Fin 7168) (k : Fin 1024) : a71 m c (Idealize.ShloMosaic.ix3 n r k) = a70 m c (Idealize.ShloMosaic.ix5 (⟨n.val / 4, by have := n.isLt; omega⟩ : Fin 2) (⟨n.val % 4, by omega⟩ : Fin 4) (⟨r.val / 1024, by have := r.isLt; omega⟩ : Fin 7) (⟨r.val % 1024, by omega⟩ : Fin 1024) k) := by
  have e : a71 m c = shapeCast S8x7168x1024 (a70 m c) shapeCasts_S2x4x7x1024x1024_S8x7168x1024 := by
    unfold a70 a71 RV2
    generalize hV : RV1 m c = V
    after_reads_simp
    rfl
  rw [e]
  pointwise

end Cert.Ref

end
-- ==== Proof.RK.lean ====
module

public import proofs.«01_k».proof.Proof.RDef
public import proofs.«01_k».proof.Proof.Consts
public import proofs.«01_k».proof.Proof.Gen.ReferenceIdeal.Frame
import Idealize.ShloMosaic.Lib.Pipeline.ValueKit
import Idealize.ShloMosaic.Lib.Pointwise
import Idealize.ShloMosaic.Lib.StableHlo.ReadAt

@[expose] public section

/-! The scores before the mask. -/

noncomputable section

namespace Cert.Ref

open Idealize.ShloMosaic Idealize.ShloMosaic.TcCoe Cert.ReferenceIdeal Cert.ReferenceIdeal.Gen Cert.Alg Cert.Unit Idealize.SL.Sem

variable (m : (ℓ : Loc nD τ sig) → Buf (Elt Ideal) ℓ) (c : Dev nD)

/-- The means' products, a query block's spread over its queries. -/
def a43 : S2x4x7x1024x1024.Idx → EReal := shapeCast S2x4x7x1024x1024 (broadcastInDim S2x4x7x8x128x1024 ![0, 1, 2, 3, 5] bcast_S2x4x7x8x1024_S2x4x7x8x128x1024_0_1_2_3_5 (transpose S2x4x7x8x1024 [0, 1, 4, 3, 2] (a33 m c) transposes_S2x4x1024x8x7_S2x4x7x8x1024_0_1_4_3_2)) shapeCasts_S2x4x7x8x128x1024_S2x4x7x1024x1024

theorem e52 : a52 m c = (mulf (broadcastInDim S2x4x7x1024x1024 ![0, 1, 2, 3, 4] bcast_S2x4x1x1x1024_S2x4x7x1024x1024_0_1_2_3_4 (mulf (broadcastInDim S2x4x1x1x1024 ![] bcast_S_S2x4x1x1x1024 (constant S_ .f32 0x3DB504F3#32)) (broadcastInDim S2x4x1x1x1024 ![0, 1, 4] bcast_S2x4x1024_S2x4x1x1x1024_0_1_4 (a41 m c))))
    (addf (mulf (broadcastInDim S2x4x7x1024x1024 ![0, 1, 2, 3, 4] bcast_S2x4x7x1024x1_S2x4x7x1024x1024_0_1_2_3_4 (broadcastInDim S2x4x7x1024x1 ![0, 1, 2, 3] bcast_S2x4x7x1024_S2x4x7x1024x1_0_1_2_3 (a38 m c))) (transpose S2x4x7x1024x1024 [0, 1, 4, 3, 2] (a31 m c) transposes_S2x4x1024x1024x7_S2x4x7x1024x1024_0_1_4_3_2)) (a43 m c)) : FVec Ideal S2x4x7x1024x1024 .f32) := by
  unfold a43 a52 a41 a38 a31 a33
  after_reads_simp
  rfl

theorem r43 (b : Fin 2) (g : Fin 4) (h : Fin 7) (q k : Fin 1024) : a43 m c (Idealize.ShloMosaic.ix5 b g h q k) = a33 m c (Idealize.ShloMosaic.ix5 b g k (⟨q.val / 128, by have := q.isLt; omega⟩ : Fin 8) h) := by
  unfold a43
  pointwise

theorem r52 (b : Fin 2) (g : Fin 4) (h : Fin 7) (q k : Fin 1024) : a52 m c (Idealize.ShloMosaic.ix5 b g h q k) = (sc : EReal) * a41 m c (Idealize.ShloMosaic.ix3 b g k) * (a38 m c (Idealize.ShloMosaic.ix4 b g h q) * a31 m c (Idealize.ShloMosaic.ix5 b g k q h) + a43 m c (Idealize.ShloMosaic.ix5 b g h q k)) := by
  rw [e52]
  pointwise
  rw [csc]

end Cert.Ref

end
-- ==== Proof.RIns.lean ====
module

public import proofs.«01_k».proof.Proof.RBody
public import proofs.«01_k».proof.Proof.Consts
public import proofs.«01_k».proof.Proof.RA
public import proofs.«01_k».proof.Proof.RB
public import proofs.«01_k».proof.Proof.RC
public import proofs.«01_k».proof.Proof.RD
public import proofs.«01_k».proof.Proof.RE
public import proofs.«01_k».proof.Proof.RF
public import proofs.«01_k».proof.Proof.RG
public import proofs.«01_k».proof.Proof.RH
public import proofs.«01_k».proof.Proof.RI
public import proofs.«01_k».proof.Proof.RJ
public import proofs.«01_k».proof.Proof.RK
public import proofs.«01_k».proof.Proof.Gen.ReferenceIdeal.Frame
import Idealize.ShloMosaic.Lib.Pipeline.ValueKit
import Idealize.ShloMosaic.Lib.Pointwise
import Idealize.ShloMosaic.Lib.StableHlo.ReadAt

@[expose] public section

/-! The reference hands its kernel the softmax weights and the three other inputs. -/

noncomputable section

namespace Cert.Ref

open Idealize.ShloMosaic Idealize.ShloMosaic.TcCoe Cert.ReferenceIdeal Cert.ReferenceIdeal.Gen Cert.Alg Cert.Unit Idealize.SL.Sem

variable (m : (ℓ : Loc nD τ sig) → Buf (Elt Ideal) ℓ) (c : Dev nD)

variable {P : ℕ → Pt} {x0 : Vec Ideal S8x7168x1024 .f32} {x1 : Vec Ideal S8x1024x128 .fp8e4m3} {x2 : Vec Ideal S8x1x128 .f32} {x3 : Vec Ideal S8x7168x128 .bf16}

theorem x59 (ok : (rargs m c).Ok) (b : Fin 2) (g : Fin 4) (h : Fin 7) (q k : Fin 1024) :
    a59 m c (Idealize.ShloMosaic.ix5 b g h q k) = ((rargs m c).pt b.val g.val).XR h.val q.val k := by
  rw [e59, r52, r41, r38 m c ok, r31, r43, r33 m c ok]
  rfl

theorem x66 (ok : (rargs m c).Ok) (b : Fin 2) (g : Fin 4) (h : Fin 7) (q k : Fin 1024) :
    a66 m c (Idealize.ShloMosaic.ix5 b g h q k) = E (((rargs m c).pt b.val g.val).XR h.val q.val) k := by
  rw [e66, r62]
  simp only [x59 m c ok]
  rfl

theorem x67 (ok : (rargs m c).Ok) (b : Fin 2) (g : Fin 4) (h : Fin 7) (q : Fin 1024) :
    a67 m c (Idealize.ShloMosaic.ix4 b g h q) = l (((rargs m c).pt b.val g.val).XR h.val q.val) := by
  rw [r67]
  simp only [x66 m c ok]
  rfl

theorem ins (ok : (rargs m c).Ok) : Ins (fun n => (rargs m c).pt (n / 4) (n % 4)) (a71 m c) (a73 m c) (a74 m c) (a77 m c) where
  p n r k := by
    rw [e71, e70, x66 m c ok, x67 m c ok]
  v n k d := r73 m c n k d
  vs n k d := r74 m c n k d
  g n r d := r77 m c n r d

end Cert.Ref

end
-- ==== Proof.RBody2.lean ====
module

public import proofs.«01_k».proof.Proof.RBody
public import proofs.«01_k».proof.Proof.Consts
public import proofs.«01_k».proof.Proof.Gen.ReferenceIdeal.Frame
import Idealize.ShloMosaic.Lib.Pipeline.ValueKit
import Idealize.ShloMosaic.Lib.Pointwise
import Idealize.ShloMosaic.Lib.StableHlo.ReadAt

@[expose] public section

/-! What the reference's kernel computes from what it is handed, step by step. -/

noncomputable section

namespace Cert.Ref

open Idealize.ShloMosaic Idealize.ShloMosaic.TcCoe Cert.ReferenceIdeal Cert.ReferenceIdeal.Gen Cert.Alg Cert.Unit Idealize.SL.Sem

variable (m : (ℓ : Loc nD τ sig) → Buf (Elt Ideal) ℓ) (c : Dev nD)

variable {P : ℕ → Pt} {x0 : Vec Ideal S8x7168x1024 .f32} {x1 : Vec Ideal S8x1024x128 .fp8e4m3} {x2 : Vec Ideal S8x1x128 .f32} {x3 : Vec Ideal S8x7168x128 .bf16}

theorem p5 (H : Ins P x0 x1 x2 x3) (n : Fin 8) (r : Fin 7168) (d : Fin 128) :
    k0_pay5 x0 x1 x2 x3 (Idealize.ShloMosaic.ix3 n r d) = (P n.val).Y (r.val / 1024) (r.val % 1024) d.val := by
  pointwise [k0_pay5]
  rw [c448, c256, H.vs, H.g]
  unfold Pt.Y Pt.O
  congr 1
  rw [mul_assoc, mul_comm (Ideal.ofBits _ _)]
  congr 1
  refine Finset.sum_congr rfl fun k _ => ?_
  rw [H.p, H.v, max_comm, min_comm, W_ref, mul_comm, Pt.w_eq]

theorem q6 (y : FVec Ideal S8x7168x128 .f32) (n : Fin 8) (r : Fin 7168) :
    multiReduction .maximumf [2] S8x7168 (absf y) 0xFF800000#32 reduces_S8x7168x128_S8x7168 (.inl rfl) rfl (Idealize.ShloMosaic.ix2 n r) = (Finset.univ.fold max ⊥ fun d : Fin 128 => max (y (Idealize.ShloMosaic.ix3 n r d)) (-(y (Idealize.ShloMosaic.ix3 n r d)))) := by
  pointwise
  rw [cbot]
  rfl

theorem s6 (f : FVec Ideal S8x7168 .f32) (n : Fin 8) (r : Fin 7168) (d : Fin 1) :
    shapeCast S8x7168x1 f shapeCasts_S8x7168_S8x7168x1 (Idealize.ShloMosaic.ix3 n r d) = f (Idealize.ShloMosaic.ix2 n r) := by
  pointwise

theorem g6 (y : FVec Ideal S8x7168x1 .f32) (j : S8x7168x1.Idx) :
    mulf y (broadcast S8x7168x1 (Scalar.ofBits (F := Ideal) .f32 0x3B124925#32)) j = y j * Ideal.ofBits .f32 0x3B124925#32 := rfl
theorem d6 (n : Fin 8) (r : Fin 7168) (d : Fin 1) :
    k0_pay6 x0 x1 x2 x3 (Idealize.ShloMosaic.ix3 n r d) = shapeCast S8x7168x1 (multiReduction .maximumf [2] S8x7168 (absf (k0_pay5 x0 x1 x2 x3)) 0xFF800000#32 reduces_S8x7168x128_S8x7168 (.inl rfl) rfl) shapeCasts_S8x7168_S8x7168x1 (Idealize.ShloMosaic.ix3 n r d) * Ideal.ofBits .f32 0x3B124925#32 := by
  unfold k0_pay6
  generalize shapeCast S8x7168x1 (multiReduction .maximumf [2] S8x7168 (absf (k0_pay5 x0 x1 x2 x3)) 0xFF800000#32 reduces_S8x7168x128_S8x7168 (.inl rfl) rfl) shapeCasts_S8x7168_S8x7168x1 = y
  exact g6 y _

theorem g1 (z : FVec Ideal S8x7168x1 .f32) (j : S8x7168x1.Idx) :
   select (cmpf .oeq z (broadcast S8x7168x1 (Scalar.ofBits (F := Ideal) .f32 0x00000000#32))) (broadcast S8x7168x1 (Scalar.ofBits (F := Ideal) .f32 0x00000000#32)) (addf (floor (mulf (log z) (broadcast S8x7168x1 (Named.named (F := Ideal) κ "log2e" (φ := .f32) 0x3FB8AA3B#32)))) (broadcast S8x7168x1 (Scalar.ofBits (F := Ideal) .f32 0x3F800000#32))) j = erow (z j) := by
  have hn : (Named.named (F := Ideal) κ "log2e" (φ := .f32) 0x3FB8AA3B#32) = ((L : ℝ) : EReal) :=
    IdealRules.named_const.ideal_named_scalar _ _ _ _ rfl
  rw [hn]
  pointwise
  rfl
theorem d1 (j : S8x7168x1.Idx) :
   k0_pay1 (F := Ideal) (k0_pay7 x0 x1 x2 x3) (k0_pay8 x0 x1 x2 x3) k0_pay9 j = erow (k0_pay6 x0 x1 x2 x3 j) := by
  unfold k0_pay1 k0_pay7 k0_pay8 k0_pay9
  exact g1 (k0_pay6 x0 x1 x2 x3) j

theorem p2 (y : FVec Ideal S8x7168x128 .f32) (a : IVec S8x7168x1 1) (b e : FVec Ideal S8x7168x1 .f32) (n : Fin 8) (r : Fin 7168) (d : Fin 128) :
    k0_pay2 y a b e (Idealize.ShloMosaic.ix3 n r d) = min (max (y (Idealize.ShloMosaic.ix3 n r d) * Ideal.exp2 (0 - k0_pay1 a b e (Idealize.ShloMosaic.ix3 n r 0))) ((-448 : ℝ) : EReal)) ((448 : ℝ) : EReal) := by
  pointwise [k0_pay2]
  rw [c448, cn448, min_comm, max_comm]
  rfl

theorem p6 (H : Ins P x0 x1 x2 x3) (n : Fin 8) (r : Fin 7168) (d : Fin 1) :
    k0_pay6 x0 x1 x2 x3 (Idealize.ShloMosaic.ix3 n r d) = (P n.val).xr (r.val / 1024) (r.val % 1024) := by
  refine (d6 n r d).trans (congrArg (· * Ideal.ofBits .f32 0x3B124925#32) ((s6 _ n r d).trans ((q6 _ n r).trans ?_)))
  refine Eq.trans ?_ (fold_max (n := 128) fun d => max ((P n.val).Y (r.val / 1024) (r.val % 1024) d) (-((P n.val).Y (r.val / 1024) (r.val % 1024) d)))
  exact Finset.fold_congr fun d _ => congrArg (fun z : EReal => max z (-z)) (p5 H n r d)

theorem g4 (y : FVec Ideal S8x7168x128 .f32) (j : S8x7168x128.Idx) : k0_pay4 y j = y j := rfl

theorem g3 (a : IVec S8x7168x1 1) (b e : FVec Ideal S8x7168x1 .f32) (j : S8x7168x1.Idx) :
    k0_pay3 a b e j = Ideal.exp2 (k0_pay1 a b e j) := rfl

end Cert.Ref

end
-- ==== Proof.RWin.lean ====
module

public import proofs.«01_k».proof.Proof.RBody
public import proofs.«01_k».proof.Proof.Consts
public import proofs.«01_k».proof.Proof.Gen.ReferenceIdeal.Frame
import Idealize.ShloMosaic.Lib.Pipeline.ValueKit
import Idealize.ShloMosaic.Lib.Pointwise
import Idealize.ShloMosaic.Lib.StableHlo.ReadAt

@[expose] public section

/-! The arrays that the reference's kernel reads and writes, each one whole block. -/

noncomputable section

namespace Cert.Ref

open Idealize.ShloMosaic Idealize.ShloMosaic.TcCoe Cert.ReferenceIdeal Cert.ReferenceIdeal.Gen Cert.Alg Cert.Unit Idealize.SL.Sem

variable (m : (ℓ : Loc nD τ sig) → Buf (Elt Ideal) ℓ) (c : Dev nD)

variable {P : ℕ → Pt} {x0 : Vec Ideal S8x7168x1024 .f32} {x1 : Vec Ideal S8x1024x128 .fp8e4m3} {x2 : Vec Ideal S8x1x128 .f32} {x3 : Vec Ideal S8x7168x128 .bf16}

theorem out4 (x0 : Vec Ideal S8x7168x1024 .f32) (x1 : Vec Ideal S8x1024x128 .fp8e4m3) (x2 : Vec Ideal S8x1x128 .f32) (x3 : Vec Ideal S8x7168x128 .bf16) :
    out0_4 x0 x1 x2 x3 = k0_pay4 (k0_pay5 x0 x1 x2 x3) := by
  unfold_out out0_4
  frame_out

theorem out5 (x0 : Vec Ideal S8x7168x1024 .f32) (x1 : Vec Ideal S8x1024x128 .fp8e4m3) (x2 : Vec Ideal S8x1x128 .f32) (x3 : Vec Ideal S8x7168x128 .bf16) :
    out0_5 x0 x1 x2 x3 = k0_pay2 (k0_pay5 x0 x1 x2 x3) (k0_pay7 x0 x1 x2 x3) (k0_pay8 x0 x1 x2 x3) k0_pay9 := by
  unfold_out out0_5
  frame_out

theorem out6 (x0 : Vec Ideal S8x7168x1024 .f32) (x1 : Vec Ideal S8x1024x128 .fp8e4m3) (x2 : Vec Ideal S8x1x128 .f32) (x3 : Vec Ideal S8x7168x128 .bf16) :
    out0_6 x0 x1 x2 x3 = k0_pay3 (k0_pay7 x0 x1 x2 x3) (k0_pay8 x0 x1 x2 x3) k0_pay9 := by
  unfold_out out0_6
  frame_out

theorem idx : ∀ t : Fin cfg0.N, win0_0.index t = ![0, 0, 0] ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] :=
  (by decide +kernel : ∀ t : Fin grid0.N, _)

theorem emb0 (j : S8x7168x1024.Idx) : (win0_0.blk t0_0).view.emb j = j := by
  funext d
  apply Fin.ext
  fin_cases d <;> blk_simp [idx t0_0]

theorem hh0 : V m c main_v71 = a71 m c := congrFun (V0_eq m c) (Proc.devRef .tc main_v71)

theorem rd0 (f) (j : S8x7168x1024.Idx) : (win0_0.blk t0_0).view.read (Elt Ideal) f j = f j := by
  rw [View.read_apply, emb0]
  rfl

theorem i0 (j : S8x7168x1024.Idx) : iblk m c 0 t0_0 j = a71 m c j :=
  (rd0 (V m c main_v71) j).trans (congrFun (hh0 m c) j)

theorem emb1 (j : S8x1024x128.Idx) : (win0_1.blk t0_0).view.emb j = j := by
  funext d
  apply Fin.ext
  fin_cases d <;> blk_simp [idx t0_0]

theorem hh1 : V m c main_v73 = a73 m c := congrFun (V0_eq m c) (Proc.devRef .tc main_v73)

theorem rd1 (f) (j : S8x1024x128.Idx) : (win0_1.blk t0_0).view.read (Elt Ideal) f j = f j := by
  rw [View.read_apply, emb1]
  rfl

theorem i1 (j : S8x1024x128.Idx) : iblk m c 1 t0_0 j = a73 m c j :=
  (rd1 (V m c main_v73) j).trans (congrFun (hh1 m c) j)

theorem emb2 (j : S8x1x128.Idx) : (win0_2.blk t0_0).view.emb j = j := by
  funext d
  apply Fin.ext
  fin_cases d <;> blk_simp [idx t0_0]

theorem hh2 : V m c main_v74 = a74 m c := congrFun (V0_eq m c) (Proc.devRef .tc main_v74)

theorem rd2 (f) (j : S8x1x128.Idx) : (win0_2.blk t0_0).view.read (Elt Ideal) f j = f j := by
  rw [View.read_apply, emb2]
  rfl

theorem i2 (j : S8x1x128.Idx) : iblk m c 2 t0_0 j = a74 m c j :=
  (rd2 (V m c main_v74) j).trans (congrFun (hh2 m c) j)

theorem emb3 (j : S8x7168x128.Idx) : (win0_3.blk t0_0).view.emb j = j := by
  funext d
  apply Fin.ext
  fin_cases d <;> blk_simp [idx t0_0]

theorem hh3 : V m c main_v77 = a77 m c := congrFun (V0_eq m c) (Proc.devRef .tc main_v77)

theorem rd3 (f) (j : S8x7168x128.Idx) : (win0_3.blk t0_0).view.read (Elt Ideal) f j = f j := by
  rw [View.read_apply, emb3]
  rfl

theorem i3 (j : S8x7168x128.Idx) : iblk m c 3 t0_0 j = a77 m c j :=
  (rd3 (V m c main_v77) j).trans (congrFun (hh3 m c) j)

theorem fin4 : (dats m 0 c).arrAt 4 cfg0.N = out0_4 (iblk m c 0 t0_0) (iblk m c 1 t0_0) (iblk m c 2 t0_0) (iblk m c 3 t0_0) := by
  refine (dats m 0 c).arrAt_eq_of_after_last 4 t0_0 (by decide +kernel) _ fun j => ?_
  rw [after0_4]
  generalize out0_4 (iblk m c 0 t0_0) (iblk m c 1 t0_0) (iblk m c 2 t0_0) (iblk m c 3 t0_0) = f
  rfl

theorem fin5 : (dats m 0 c).arrAt 5 cfg0.N = out0_5 (iblk m c 0 t0_0) (iblk m c 1 t0_0) (iblk m c 2 t0_0) (iblk m c 3 t0_0) := by
  refine (dats m 0 c).arrAt_eq_of_after_last 5 t0_0 (by decide +kernel) _ fun j => ?_
  rw [after0_5]
  generalize out0_5 (iblk m c 0 t0_0) (iblk m c 1 t0_0) (iblk m c 2 t0_0) (iblk m c 3 t0_0) = f
  rfl

theorem fin6 : (dats m 0 c).arrAt 6 cfg0.N = out0_6 (iblk m c 0 t0_0) (iblk m c 1 t0_0) (iblk m c 2 t0_0) (iblk m c 3 t0_0) := by
  refine (dats m 0 c).arrAt_eq_of_after_last 6 t0_0 (by decide +kernel) _ fun j => ?_
  rw [after0_6]
  generalize out0_6 (iblk m c 0 t0_0) (iblk m c 1 t0_0) (iblk m c 2 t0_0) (iblk m c 3 t0_0) = f
  rfl

end Cert.Ref

end
-- ==== Proof.ROut.lean ====
module

public import proofs.«01_k».proof.Proof.RBody
public import proofs.«01_k».proof.Proof.Consts
public import proofs.«01_k».proof.Proof.RBody2
public import proofs.«01_k».proof.Proof.RWin
public import proofs.«01_k».proof.Proof.Gen.ReferenceIdeal.Frame
import Idealize.ShloMosaic.Lib.Pipeline.ValueKit
import Idealize.ShloMosaic.Lib.Pointwise
import Idealize.ShloMosaic.Lib.StableHlo.ReadAt

@[expose] public section

/-! The three arrays that the reference's kernel writes. -/

noncomputable section

namespace Cert.Ref

open Idealize.ShloMosaic Idealize.ShloMosaic.TcCoe Cert.ReferenceIdeal Cert.ReferenceIdeal.Gen Cert.Alg Cert.Unit Idealize.SL.Sem

variable (m : (ℓ : Loc nD τ sig) → Buf (Elt Ideal) ℓ) (c : Dev nD)

variable {P : ℕ → Pt} {x0 : Vec Ideal S8x7168x1024 .f32} {x1 : Vec Ideal S8x1024x128 .fp8e4m3} {x2 : Vec Ideal S8x1x128 .f32} {x3 : Vec Ideal S8x7168x128 .bf16}

theorem o4 (H : Ins P x0 x1 x2 x3) (n : Fin 8) (r : Fin 7168) (d : Fin 128) :
    out0_4 x0 x1 x2 x3 (Idealize.ShloMosaic.ix3 n r d) = (P n.val).Y (r.val / 1024) (r.val % 1024) d.val :=
  (congrFun (out4 x0 x1 x2 x3) _).trans ((g4 _ _).trans (p5 H n r d))

theorem o5 (H : Ins P x0 x1 x2 x3) (n : Fin 8) (r : Fin 7168) (d : Fin 128) :
    out0_5 x0 x1 x2 x3 (Idealize.ShloMosaic.ix3 n r d) = (P n.val).code (r.val / 1024) (r.val % 1024) d.val := by
  refine (congrFun (out5 x0 x1 x2 x3) _).trans ((p2 _ _ _ _ n r d).trans ?_)
  rw [p5 H, d1, p6 H]
  rfl

theorem o6 (H : Ins P x0 x1 x2 x3) (n : Fin 8) (r : Fin 7168) (d : Fin 1) :
    out0_6 x0 x1 x2 x3 (Idealize.ShloMosaic.ix3 n r d) = (P n.val).scale (r.val / 1024) (r.val % 1024) := by
  refine (congrFun (out6 x0 x1 x2 x3) _).trans ((g3 _ _ _ _).trans ?_)
  rw [d1, p6 H]
  rfl

end Cert.Ref

end
-- ==== Proof.RRes.lean ====
module

public import proofs.«01_k».proof.Proof.RBody
public import proofs.«01_k».proof.Proof.Consts
public import proofs.«01_k».proof.Proof.Final
public import proofs.«01_k».proof.Proof.RIns
public import proofs.«01_k».proof.Proof.ROut
public import proofs.«01_k».proof.Proof.Gen.ReferenceIdeal.Run
public import proofs.«01_k».proof.Proof.Gen.ReferenceIdeal.Frame
import Idealize.ShloMosaic.Lib.Pipeline.ValueKit
import Idealize.ShloMosaic.Lib.Pointwise
import Idealize.ShloMosaic.Lib.StableHlo.ReadAt

@[expose] public section

/-! The reference's three results. -/

noncomputable section

namespace Cert.Ref

open Cert.ReferenceIdeal.Value
open Idealize.ShloMosaic Idealize.ShloMosaic.TcCoe Cert.ReferenceIdeal Cert.ReferenceIdeal.Gen Cert.Alg Cert.Unit Idealize.SL.Sem

variable (m : (ℓ : Loc nD τ sig) → Buf (Elt Ideal) ℓ) (c : Dev nD)

variable {P : ℕ → Pt} {x0 : Vec Ideal S8x7168x1024 .f32} {x1 : Vec Ideal S8x1024x128 .fp8e4m3} {x2 : Vec Ideal S8x1x128 .f32} {x3 : Vec Ideal S8x7168x128 .bf16}

theorem sh8 {φ : FTy} (f : FVec Ideal S8x7168x128 φ) (b : Fin 2) (q : Fin 1024) (d : Fin 3584) :
    shapeCast S2x1024x3584 (transpose S2x1024x4x7x128 [0, 3, 1, 2, 4] (shapeCast S2x4x7x1024x128 f shapeCasts_S8x7168x128_S2x4x7x1024x128) transposes_S2x4x7x1024x128_S2x1024x4x7x128_0_3_1_2_4) shapeCasts_S2x1024x4x7x128_S2x1024x3584 (Idealize.ShloMosaic.ix3 b q d)
      = f (Idealize.ShloMosaic.ix3 (⟨b.val * 4 + d.val / 896, by omega⟩ : Fin 8) (⟨d.val / 128 % 7 * 1024 + q.val, by omega⟩ : Fin 7168) (⟨d.val % 128, by omega⟩ : Fin 128)) := by
  pointwise

theorem sh10 (f : FVec Ideal S8x7168x1 .f32) (b : Fin 2) (g : Fin 4) (h : Fin 8) (q : Fin 1024) (hh : h.val < 7) :
    concatenate S2x4x8x1024 2 [⟨S2x4x7x1024, (shapeCast S2x4x7x1024 f shapeCasts_S8x7168x1_S2x4x7x1024)⟩, ⟨S2x4x1x1024, (broadcastInDim S2x4x1x1024 ![] bcast_S_S2x4x1x1024 (constant (F := Ideal) S_ .f32 0x00000000#32))⟩] concatenates_S2x4x7x1024_S2x4x1x1024_S2x4x8x1024_d2 (Idealize.ShloMosaic.ix4 b g h q)
      = f (Idealize.ShloMosaic.ix3 (⟨b.val * 4 + g.val, by omega⟩ : Fin 8) (⟨h.val * 1024 + q.val, by omega⟩ : Fin 7168) (0 : Fin 1)) := by
  pointwise [hh]

theorem sh10z (f : FVec Ideal S8x7168x1 .f32) (b : Fin 2) (g : Fin 4) (h : Fin 8) (q : Fin 1024) (hh : ¬ h.val < 7) :
    concatenate S2x4x8x1024 2 [⟨S2x4x7x1024, (shapeCast S2x4x7x1024 f shapeCasts_S8x7168x1_S2x4x7x1024)⟩, ⟨S2x4x1x1024, (broadcastInDim S2x4x1x1024 ![] bcast_S_S2x4x1x1024 (constant (F := Ideal) S_ .f32 0x00000000#32))⟩] concatenates_S2x4x7x1024_S2x4x1x1024_S2x4x8x1024_d2 (Idealize.ShloMosaic.ix4 b g h q)
      = (0 : EReal) := by
  pointwise [hh]

theorem insB (ok : (rargs m c).Ok) : Ins (fun n => (rargs m c).pt (n / 4) (n % 4)) (iblk m c 0 t0_0) (iblk m c 1 t0_0) (iblk m c 2 t0_0) (iblk m c 3 t0_0) where
  p n r k := (i0 m c _).trans ((ins m c ok).p n r k)
  v n k d := (i1 m c _).trans ((ins m c ok).v n k d)
  vs n k d := (i2 m c _).trans ((ins m c ok).vs n k d)
  g n r d := (i3 m c _).trans ((ins m c ok).g n r d)

theorem reg0 (ok : (rargs m c).Ok) (n : Fin 8) (r : Fin 7168) (d : Fin 128) :
    reg_main_v78_0 m c (Idealize.ShloMosaic.ix3 n r d) = ((rargs m c).pt (n.val / 4) (n.val % 4)).Y (r.val / 1024) (r.val % 1024) d.val :=
  (congrFun (fin4 m c) _).trans (o4 (insB m c ok) n r d)

theorem reg1 (ok : (rargs m c).Ok) (n : Fin 8) (r : Fin 7168) (d : Fin 128) :
    reg_main_v78_1 m c (Idealize.ShloMosaic.ix3 n r d) = ((rargs m c).pt (n.val / 4) (n.val % 4)).code (r.val / 1024) (r.val % 1024) d.val :=
  (congrFun (fin5 m c) _).trans (o5 (insB m c ok) n r d)

theorem reg2 (ok : (rargs m c).Ok) (n : Fin 8) (r : Fin 7168) (d : Fin 1) :
    reg_main_v78_2 m c (Idealize.ShloMosaic.ix3 n r d) = ((rargs m c).pt (n.val / 4) (n.val % 4)).scale (r.val / 1024) (r.val % 1024) :=
  (congrFun (fin6 m c) _).trans (o6 (insB m c ok) n r d)

theorem eta3 {a b d : ℕ} (y : (⟨3, ![a, b, d]⟩ : Shape).Idx) : Idealize.ShloMosaic.ix3 (n0 := a) (n1 := b) (n2 := d) (y 0) (y 1) (y 2) = y := by
  funext i
  fin_cases i <;> rfl

theorem eta4 {a b d e : ℕ} (y : (⟨4, ![a, b, d, e]⟩ : Shape).Idx) : Idealize.ShloMosaic.ix4 (n0 := a) (n1 := b) (n2 := d) (n3 := e) (y 0) (y 1) (y 2) (y 3) = y := by
  funext i
  fin_cases i <;> rfl

theorem ext3 {α : Type} {a b d : ℕ} (f g : (⟨3, ![a, b, d]⟩ : Shape).Idx → α)
    (h : ∀ i j k, f (Idealize.ShloMosaic.ix3 (n0 := a) (n1 := b) (n2 := d) i j k) = g (Idealize.ShloMosaic.ix3 i j k)) : f = g :=
  funext fun y => (eta3 y) ▸ h (y 0) (y 1) (y 2)

theorem ext4 {α : Type} {a b d e : ℕ} (f g : (⟨4, ![a, b, d, e]⟩ : Shape).Idx → α)
    (h : ∀ i j k l, f (Idealize.ShloMosaic.ix4 (n0 := a) (n1 := b) (n2 := d) (n3 := e) i j k l) = g (Idealize.ShloMosaic.ix4 i j k l)) : f = g :=
  funext fun y => (eta4 y) ▸ h (y 0) (y 1) (y 2) (y 3)

theorem div_mod (b d q : ℕ) (hd : d < 3584) (hq : q < 1024) :
    (b * 4 + d / 896) / 4 = b ∧ (b * 4 + d / 896) % 4 = d / 896 ∧ (d / 128 % 7 * 1024 + q) / 1024 = d % 896 / 128
      ∧ (d / 128 % 7 * 1024 + q) % 1024 = q ∧ d % 128 = d % 896 % 128 := by
  refine ⟨?_, ?_, ?_, ?_, ?_⟩ <;> omega

theorem fin_v84 (ok : (rargs m c).Ok) :
    (shapeCast S2x1024x3584 (transpose S2x1024x4x7x128 [0, 3, 1, 2, 4] (shapeCast S2x4x7x1024x128 (reg_main_v78_0 m c) shapeCasts_S8x7168x128_S2x4x7x1024x128) transposes_S2x4x7x1024x128_S2x1024x4x7x128_0_3_1_2_4) shapeCasts_S2x1024x4x7x128_S2x1024x3584) = R8 (rargs m c) := by
  have key : ∀ (b : Fin 2) (q : Fin 1024) (d : Fin 3584), (shapeCast S2x1024x3584 (transpose S2x1024x4x7x128 [0, 3, 1, 2, 4] (shapeCast S2x4x7x1024x128 (reg_main_v78_0 m c) shapeCasts_S8x7168x128_S2x4x7x1024x128) transposes_S2x4x7x1024x128_S2x1024x4x7x128_0_3_1_2_4) shapeCasts_S2x1024x4x7x128_S2x1024x3584) (Idealize.ShloMosaic.ix3 b q d) = R8 (rargs m c) (Idealize.ShloMosaic.ix3 b q d) := fun b q d => by
    refine (sh8 (φ := .bf16) _ b q d).trans ((reg0 m c ok _ _ _).trans ?_)
    obtain ⟨h1, h2, h3, h4, h5⟩ := div_mod b.val d.val q.val d.isLt q.isLt
    dsimp only
    rw [h1, h2, h3, h4, h5]
    rfl
  exact ext3 _ _ key

theorem fin_v87 (ok : (rargs m c).Ok) :
    (shapeCast S2x1024x3584 (transpose S2x1024x4x7x128 [0, 3, 1, 2, 4] (shapeCast S2x4x7x1024x128 (reg_main_v78_1 m c) shapeCasts_S8x7168x128_S2x4x7x1024x128) transposes_S2x4x7x1024x128_S2x1024x4x7x128_0_3_1_2_4) shapeCasts_S2x1024x4x7x128_S2x1024x3584) = R9 (rargs m c) := by
  have key : ∀ (b : Fin 2) (q : Fin 1024) (d : Fin 3584), (shapeCast S2x1024x3584 (transpose S2x1024x4x7x128 [0, 3, 1, 2, 4] (shapeCast S2x4x7x1024x128 (reg_main_v78_1 m c) shapeCasts_S8x7168x128_S2x4x7x1024x128) transposes_S2x4x7x1024x128_S2x1024x4x7x128_0_3_1_2_4) shapeCasts_S2x1024x4x7x128_S2x1024x3584) (Idealize.ShloMosaic.ix3 b q d) = R9 (rargs m c) (Idealize.ShloMosaic.ix3 b q d) := fun b q d => by
    refine (sh8 (φ := .fp8e4m3) _ b q d).trans ((reg1 m c ok _ _ _).trans ?_)
    obtain ⟨h1, h2, h3, h4, h5⟩ := div_mod b.val d.val q.val d.isLt q.isLt
    dsimp only
    rw [h1, h2, h3, h4, h5]
    rfl
  exact ext3 _ _ key

theorem fin_v81 (ok : (rargs m c).Ok) :
    concatenate S2x4x8x1024 2 [⟨S2x4x7x1024, (shapeCast S2x4x7x1024 (reg_main_v78_2 m c) shapeCasts_S8x7168x1_S2x4x7x1024)⟩, ⟨S2x4x1x1024, (broadcastInDim S2x4x1x1024 ![] bcast_S_S2x4x1x1024 (constant (F := Ideal) S_ .f32 0x00000000#32))⟩] concatenates_S2x4x7x1024_S2x4x1x1024_S2x4x8x1024_d2 = R10 (rargs m c) := by
  have key : ∀ (b : Fin 2) (g : Fin 4) (h : Fin 8) (q : Fin 1024), concatenate S2x4x8x1024 2 [⟨S2x4x7x1024, (shapeCast S2x4x7x1024 (reg_main_v78_2 m c) shapeCasts_S8x7168x1_S2x4x7x1024)⟩, ⟨S2x4x1x1024, (broadcastInDim S2x4x1x1024 ![] bcast_S_S2x4x1x1024 (constant (F := Ideal) S_ .f32 0x00000000#32))⟩] concatenates_S2x4x7x1024_S2x4x1x1024_S2x4x8x1024_d2 (Idealize.ShloMosaic.ix4 b g h q) = R10 (rargs m c) (Idealize.ShloMosaic.ix4 b g h q) := fun b g h q => by
    by_cases hh : h.val < 7
    · refine (sh10 _ b g h q hh).trans ((reg2 m c ok _ _ _).trans ?_)
      have h1 : (b.val * 4 + g.val) / 4 = b.val := by omega
      have h2 : (b.val * 4 + g.val) % 4 = g.val := by omega
      have h3 : (h.val * 1024 + q.val) / 1024 = h.val := by omega
      have h4 : (h.val * 1024 + q.val) % 1024 = q.val := by omega
      dsimp only
      rw [h1, h2, h3, h4]
      exact (if_pos hh).symm
    · exact (sh10z _ b g h q hh).trans (if_neg hh).symm
  exact ext4 _ _ key

end Cert.Ref

end
-- ==== Proof.Claims.lean ====
module

public import proofs.«01_k».proof.Defs
public import proofs.«01_k».proof.Proof.KFin
public import proofs.«01_k».proof.Proof.PreOk
public import proofs.«01_k».proof.Proof.RRes
public import proofs.«01_k».proof.Proof.Gen.KernelIdeal.Value
public import proofs.«01_k».proof.Proof.Gen.ReferenceIdeal.Run
public import Idealize.ShloMosaic.Adequacy
public import Idealize.ShloMosaic.Init

@[expose] public section

/-! The kernel's results are the reference's. -/

noncomputable section

namespace Cert.Proof

open Idealize.ShloMosaic Idealize.SL.Sem Cert.Alg

/-- Equal arguments, equal records of them. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : (Cert.Ref.rargs m' c).qc = (Cert.Unit.kargs m c).qc) (h1 : (Cert.Ref.rargs m' c).qs = (Cert.Unit.kargs m c).qs)
    (h2 : (Cert.Ref.rargs m' c).qm = (Cert.Unit.kargs m c).qm) (h3 : (Cert.Ref.rargs m' c).kc = (Cert.Unit.kargs m c).kc)
    (h4 : (Cert.Ref.rargs m' c).ks = (Cert.Unit.kargs m c).ks) (h5 : (Cert.Ref.rargs m' c).v = (Cert.Unit.kargs m c).v)
    (h6 : (Cert.Ref.rargs m' c).vs = (Cert.Unit.kargs m c).vs) (h7 : (Cert.Ref.rargs m' c).g = (Cert.Unit.kargs m c).g) :
    Cert.Ref.rargs m' c = Cert.Unit.kargs m c := by
  revert h0 h1 h2 h3 h4 h5 h6 h7
  generalize Cert.Ref.rargs m' c = A
  generalize Cert.Unit.kargs m c = B
  intro h0 h1 h2 h3 h4 h5 h6 h7
  cases A
  cases B
  cases h0
  cases h1
  cases h2
  cases h3
  cases h4
  cases h5
  cases h6
  cases h7
  rfl

/-- The kernel and the reference leave the same three results. -/
theorem algebraic : Cert.algebraic_KernelIdeal_ReferenceIdeal_pre_scales_and_means_finite := by
  intro m g m' g' hp ha
  have hk : ∀ c, (Cert.Unit.kargs m c).Ok := fun c => Cert.Unit.kok m c (hp c).1 (hp c).2
  have hA : ∀ c, Cert.Ref.rargs m' c = Cert.Unit.kargs m c := fun c => by
    obtain ⟨h0, h1, h2, h3, h4, h5, h6, h7⟩ := ha c
    exact args_eq m m' c h0 h1 h2 h3 h4 h5 h6 h7
  have hr : ∀ c, (Cert.Ref.rargs m' c).Ok := fun c => (hA c).symm ▸ hk c
  refine ⟨fun c => R8 (Cert.Unit.kargs m c), fun c => R9 (Cert.Unit.kargs m c), fun c => R10 (Cert.Unit.kargs m c), ?_, ?_⟩
  · refine (θ_run _ _ _).mono (fun r h c => ?_) (Cert.KernelIdeal.Value.run_blocks m g)
    obtain ⟨h8, h9, h10, hargs⟩ := h c
    exact ⟨h8.trans (Cert.Unit.res8 m c (hk c)), h9.trans (Cert.Unit.res9 m c (hk c)), h10.trans (Cert.Unit.res10 m c (hk c)), hargs⟩
  · refine (θ_run _ _ _).mono (fun r h c => ?_) (Cert.ReferenceIdeal.Value.run m' g')
    obtain ⟨h8, h9, h10, hargs⟩ := h c
    exact ⟨h8.trans ((Cert.Ref.fin_v84 m' c (hr c)).trans (congrArg R8 (hA c))),
      h9.trans ((Cert.Ref.fin_v87 m' c (hr c)).trans (congrArg R9 (hA c))),
      h10.trans ((Cert.Ref.fin_v81 m' c (hr c)).trans (congrArg R10 (hA c))), hargs⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_scales_and_means_finite
public import proofs.«01_k».proof.Proof.Gen.ReferenceIdeal.Run
public import proofs.«01_k».proof.Proof.Gen.ReferenceIdeal.Read
public import proofs.«01_k».proof.Proof.Gen.KernelIdeal.Value
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Each program ends without a fault and leaves its arguments as they were; each named constant of the ideal kernel
    has the value that the table gives it; and, where the query scales are at least the floor and finite and the query
    means finite, the kernel's three results are the reference's. -/
theorem claim : Cert.Claim :=
  ⟨Cert.Kernel.Gen.facts, Cert.KernelIdeal.Gen.facts, Cert.ReferenceIdeal.Gen.facts,
    Cert.Pre_scales_and_means_finite.Gen.facts,
    fun m ρ _ => Cert.Kernel.Gen.frame m ρ, fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    ⟨IdealRules.named_const.statement Cert.KernelIdeal.κ "score_log2e" .f32 0x3E0293EE#32
      (((11863283 / 134217728) * (Real.log 2)⁻¹ : ℝ) : EReal) rfl,
    IdealRules.named_const.statement Cert.KernelIdeal.κ "neg_log2e" .f32 0xBFB8AA3B#32
      ((-((Real.log 2)⁻¹) : ℝ) : EReal) rfl,
    IdealRules.named_const.statement Cert.KernelIdeal.κ "log2e" .f32 0x3FB8AA3B#32
      (((Real.log 2)⁻¹ : ℝ) : EReal) rfl⟩,
    algebraic⟩

end Cert.Proof

end
